-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 256]⟩ ⟨2, ![4096, 8192]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.block ⟨2, ![4096, 256]⟩ ⟨2, ![4096, 8192]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x4096 : Shape := ⟨2, ![128, 4096]⟩
abbrev S4096x256 : Shape := ⟨2, ![4096, 256]⟩
abbrev S1 : Shape := ⟨1, ![1]⟩
abbrev S32 : Shape := ⟨1, ![32]⟩
abbrev S1x1 : Shape := ⟨2, ![1, 1]⟩
abbrev S16x128x4096 : Shape := ⟨3, ![16, 128, 4096]⟩
abbrev S15x128x4096 : Shape := ⟨3, ![15, 128, 4096]⟩
abbrev S4x128x256 : Shape := ⟨3, ![4, 128, 256]⟩
abbrev S2 : Shape := ⟨1, ![2]⟩
abbrev S4 : Shape := ⟨1, ![4]⟩
abbrev S16x2 : Shape := ⟨2, ![16, 2]⟩
abbrev S15x2 : Shape := ⟨2, ![15, 2]⟩
abbrev S_ : Shape := ⟨0, ![]⟩
abbrev S1x128x4096 : Shape := ⟨3, ![1, 128, 4096]⟩
abbrev S64x4096 : Shape := ⟨2, ![64, 4096]⟩
abbrev S1x64x4096 : Shape := ⟨3, ![1, 64, 4096]⟩
abbrev S128x256 : Shape := ⟨2, ![128, 256]⟩
abbrev S1x128x256 : Shape := ⟨3, ![1, 128, 256]⟩

abbrev nBuf : Space → Nat
  | .hbm => 9
  | .vmem => 7
  | .smem => 4
  | _ => 0

abbrev bufTy : (tb : Table) → Fin (tcTables nBuf tb) → BufTy
  | .hbm, ⟨0, _⟩ => ⟨S128x4096, .f32⟩
  | .hbm, ⟨1, _⟩ => ⟨S4096x256, .f32⟩
  | .hbm, ⟨2, _⟩ => ⟨S1, .f32⟩
  | .hbm, ⟨3, _⟩ => ⟨S1, .f32⟩
  | .hbm, ⟨4, _⟩ => ⟨S32, .i32⟩
  | .hbm, ⟨5, _⟩ => ⟨S32, .i32⟩
  | .hbm, ⟨6, _⟩ => ⟨S1x1, .f32⟩
  | .hbm, ⟨7, _⟩ => ⟨S1x1, .f32⟩
  | .hbm, ⟨8, _⟩ => ⟨S4096x256, .f32⟩
  | .local _ .vmem, ⟨0, _⟩ => ⟨S128x4096, .f32⟩
  | .local _ .vmem, ⟨1, _⟩ => ⟨S4096x256, .f32⟩
  | .local _ .vmem, ⟨2, _⟩ => ⟨S128x4096, .fp8e5m2⟩
  | .local _ .vmem, ⟨3, _⟩ => ⟨S4096x256, .fp8e5m2⟩
  | .local _ .vmem, ⟨4, _⟩ => ⟨S16x128x4096, .fp8e5m2⟩
  | .local _ .vmem, ⟨5, _⟩ => ⟨S15x128x4096, .fp8e5m2⟩
  | .local _ .vmem, ⟨6, _⟩ => ⟨S4x128x256, .f32⟩
  | .local _ .smem, ⟨0, _⟩ => ⟨S1x1, .f32⟩
  | .local _ .smem, ⟨1, _⟩ => ⟨S1x1, .f32⟩
  | .local _ .smem, ⟨2, _⟩ => ⟨S32, .i32⟩
  | .local _ .smem, ⟨3, _⟩ => ⟨S32, .i32⟩
  | _, _ => ⟨S128x4096, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | .smem, ⟨2, _⟩ => true
  | .smem, ⟨3, _⟩ => true
  | _, _ => false

abbrev semScoped : Fin 1 → Bool
  | ⟨0, _⟩ => false
  | _ => false

abbrev dmaSemScoped : Fin 134 → Bool
  | ⟨i, _⟩ => dmaSemScopedAt i

abbrev sig : RefSig :=
  (ofTc nBuf bufTy 1 134 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3 : Index := Scalar.indexCast v2
  ![v3.toNat]
def k0_off2 (v4 : BitVec 32) (c1_i32_0 : BitVec 32) : Fin 1 → Nat :=
  let v5 : BitVec 32 := Scalar.addi v4 c1_i32_0
  let c32_i32_1 : BitVec 32 := 32#32
  let v6 : BitVec 32 := Scalar.remsi v5 c32_i32_1
  let v7 : Index := Scalar.indexCast v6
  ![v7.toNat]

def k0_dev1 (v12 : BitVec 32) : Nat :=
  let c0_i32_6 : BitVec 32 := 0#32
  let c1_i32_5 : BitVec 32 := 1#32
  let v18 : BitVec 32 := Scalar.muli v12 c1_i32_5
  let v19 : BitVec 32 := Scalar.addi c0_i32_6 v18
  v19.toNat

def k0_dev2 (v8 : BitVec 32) : Nat :=
  let c0_i32_9 : BitVec 32 := 0#32
  let c1_i32_8 : BitVec 32 := 1#32
  let v20 : BitVec 32 := Scalar.muli v8 c1_i32_8
  let v21 : BitVec 32 := Scalar.addi c0_i32_9 v20
  v21.toNat

def k0_dev3 (v8 : BitVec 32) : Nat :=
  let c0_i32_20 : BitVec 32 := 0#32
  let c1_i32_19 : BitVec 32 := 1#32
  let v29 : BitVec 32 := Scalar.muli v8 c1_i32_19
  let v30 : BitVec 32 := Scalar.addi c0_i32_20 v29
  v30.toNat
def k0_dev4 (v12 : BitVec 32) : Nat :=
  let c0_i32_33 : BitVec 32 := 0#32
  let c1_i32_32 : BitVec 32 := 1#32
  let v39 : BitVec 32 := Scalar.muli v12 c1_i32_32
  let v40 : BitVec 32 := Scalar.addi c0_i32_33 v39
  v40.toNat
def k0_dev5 (v8 : BitVec 32) : Nat :=
  let c0_i32_46 : BitVec 32 := 0#32
  let c1_i32_45 : BitVec 32 := 1#32
  let v49 : BitVec 32 := Scalar.muli v8 c1_i32_45
  let v50 : BitVec 32 := Scalar.addi c0_i32_46 v49
  v50.toNat
def k0_dev6 (v12 : BitVec 32) : Nat :=
  let c0_i32_58 : BitVec 32 := 0#32
  let c1_i32_57 : BitVec 32 := 1#32
  let v59 : BitVec 32 := Scalar.muli v12 c1_i32_57
  let v60 : BitVec 32 := Scalar.addi c0_i32_58 v59
  v60.toNat
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v89 : BitVec 32 := Scalar.muli v2 c128_i32
  let c0_i32_84 : BitVec 32 := 0#32
  ![v89.toNat, 0]
def k0_dev7 (v8 : BitVec 32) : Nat :=
  let c0_i32_110 : BitVec 32 := 0#32
  let c1_i32_109 : BitVec 32 := 1#32
  let v105 : BitVec 32 := Scalar.muli v8 c1_i32_109
  let v106 : BitVec 32 := Scalar.addi c0_i32_110 v105
  v106.toNat
def k0_dev8 (v8 : BitVec 32) : Nat :=
  let c0_i32_142 : BitVec 32 := 0#32
  let c1_i32_141 : BitVec 32 := 1#32
  let v127 : BitVec 32 := Scalar.muli v8 c1_i32_141
  let v128 : BitVec 32 := Scalar.addi c0_i32_142 v127
  v128.toNat
def k0_dev9 (v12 : BitVec 32) : Nat :=
  let c0_i32_174 : BitVec 32 := 0#32
  let c1_i32_173 : BitVec 32 := 1#32
  let v149 : BitVec 32 := Scalar.muli v12 c1_i32_173
  let v150 : BitVec 32 := Scalar.addi c0_i32_174 v149
  v150.toNat
def k0_dev10 (v12 : BitVec 32) : Nat :=
  let c0_i32_206 : BitVec 32 := 0#32
  let c1_i32_205 : BitVec 32 := 1#32
  let v171 : BitVec 32 := Scalar.muli v12 c1_i32_205
  let v172 : BitVec 32 := Scalar.addi c0_i32_206 v171
  v172.toNat
def k0_off4 (v4 : BitVec 32) : Fin 1 → Nat :=
  let c31_i32_215 : BitVec 32 := 31#32
  let v183 : BitVec 32 := Scalar.addi v4 c31_i32_215
  let c32_i32_216 : BitVec 32 := 32#32
  let v184 : BitVec 32 := Scalar.remsi v183 c32_i32_216
  let v185 : Index := Scalar.indexCast v184
  ![v185.toNat]
def k0_off5 (v186 : BitVec 32) : Fin 2 → Nat :=
  let c128_i32_226 : BitVec 32 := 128#32
  let v198 : BitVec 32 := Scalar.muli v186 c128_i32_226
  let c0_i32_229 : BitVec 32 := 0#32
  ![v198.toNat, 0]

def k0_off6 (v4 : BitVec 32) : Fin 1 → Nat :=
  let c1_i32_232 : BitVec 32 := 1#32
  let v204 : BitVec 32 := Scalar.addi v4 c1_i32_232
  let c32_i32_233 : BitVec 32 := 32#32
  let v205 : BitVec 32 := Scalar.remsi v204 c32_i32_233
  let v206 : Index := Scalar.indexCast v205
  ![v206.toNat]
def k0_off7 (v207 : BitVec 32) : Fin 2 → Nat :=
  let c128_i32_243 : BitVec 32 := 128#32
  let v219 : BitVec 32 := Scalar.muli v207 c128_i32_243
  let c0_i32_246 : BitVec 32 := 0#32
  ![v219.toNat, 0]

def k0_dev11 (v8 : BitVec 32) : Nat :=
  let c0_i32_272 : BitVec 32 := 0#32
  let c1_i32_271 : BitVec 32 := 1#32
  let v235 : BitVec 32 := Scalar.muli v8 c1_i32_271
  let v236 : BitVec 32 := Scalar.addi c0_i32_272 v235
  v236.toNat
def k0_dev12 (v8 : BitVec 32) : Nat :=
  let c0_i32_304 : BitVec 32 := 0#32
  let c1_i32_303 : BitVec 32 := 1#32
  let v257 : BitVec 32 := Scalar.muli v8 c1_i32_303
  let v258 : BitVec 32 := Scalar.addi c0_i32_304 v257
  v258.toNat
def k0_dev13 (v12 : BitVec 32) : Nat :=
  let c0_i32_336 : BitVec 32 := 0#32
  let c1_i32_335 : BitVec 32 := 1#32
  let v279 : BitVec 32 := Scalar.muli v12 c1_i32_335
  let v280 : BitVec 32 := Scalar.addi c0_i32_336 v279
  v280.toNat
def k0_dev14 (v12 : BitVec 32) : Nat :=
  let c0_i32_368 : BitVec 32 := 0#32
  let c1_i32_367 : BitVec 32 := 1#32
  let v301 : BitVec 32 := Scalar.muli v12 c1_i32_367
  let v302 : BitVec 32 := Scalar.addi c0_i32_368 v301
  v302.toNat
def k0_off8 (v4 : BitVec 32) : Fin 1 → Nat :=
  let c30_i32 : BitVec 32 := 30#32
  let v313 : BitVec 32 := Scalar.addi v4 c30_i32
  let c32_i32_377 : BitVec 32 := 32#32
  let v314 : BitVec 32 := Scalar.remsi v313 c32_i32_377
  let v315 : Index := Scalar.indexCast v314
  ![v315.toNat]
def k0_off9 (v316 : BitVec 32) : Fin 2 → Nat :=
  let c128_i32_387 : BitVec 32 := 128#32
  let v328 : BitVec 32 := Scalar.muli v316 c128_i32_387
  let c0_i32_389 : BitVec 32 := 0#32
  ![v328.toNat, 0]

def k0_off10 (v4 : BitVec 32) : Fin 1 → Nat :=
  let c2_i32_392 : BitVec 32 := 2#32
  let v334 : BitVec 32 := Scalar.addi v4 c2_i32_392
  let c32_i32_393 : BitVec 32 := 32#32
  let v335 : BitVec 32 := Scalar.remsi v334 c32_i32_393
  let v336 : Index := Scalar.indexCast v335
  ![v336.toNat]
def k0_off11 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v89 : BitVec 32 := Scalar.muli v2 c128_i32
  let c0_i32_396 : BitVec 32 := 0#32
  ![v89.toNat, 0]
def k0_off12 (v337 : BitVec 32) : Fin 2 → Nat :=
  let c128_i32_409 : BitVec 32 := 128#32
  let v354 : BitVec 32 := Scalar.muli v337 c128_i32_409
  let c0_i32_412 : BitVec 32 := 0#32
  ![v354.toNat, 0]

def k0_dev15 (v8 : BitVec 32) : Nat :=
  let c0_i32_438 : BitVec 32 := 0#32
  let c1_i32_437 : BitVec 32 := 1#32
  let v370 : BitVec 32 := Scalar.muli v8 c1_i32_437
  let v371 : BitVec 32 := Scalar.addi c0_i32_438 v370
  v371.toNat
def k0_dev16 (v8 : BitVec 32) : Nat :=
  let c0_i32_470 : BitVec 32 := 0#32
  let c1_i32_469 : BitVec 32 := 1#32
  let v392 : BitVec 32 := Scalar.muli v8 c1_i32_469
  let v393 : BitVec 32 := Scalar.addi c0_i32_470 v392
  v393.toNat
def k0_dev17 (v12 : BitVec 32) : Nat :=
  let c0_i32_502 : BitVec 32 := 0#32
  let c1_i32_501 : BitVec 32 := 1#32
  let v414 : BitVec 32 := Scalar.muli v12 c1_i32_501
  let v415 : BitVec 32 := Scalar.addi c0_i32_502 v414
  v415.toNat
def k0_dev18 (v12 : BitVec 32) : Nat :=
  let c0_i32_534 : BitVec 32 := 0#32
  let c1_i32_533 : BitVec 32 := 1#32
  let v436 : BitVec 32 := Scalar.muli v12 c1_i32_533
  let v437 : BitVec 32 := Scalar.addi c0_i32_534 v436
  v437.toNat
def k0_off13 (v4 : BitVec 32) : Fin 1 → Nat :=
  let c29_i32 : BitVec 32 := 29#32
  let v448 : BitVec 32 := Scalar.addi v4 c29_i32
  let c32_i32_543 : BitVec 32 := 32#32
  let v449 : BitVec 32 := Scalar.remsi v448 c32_i32_543
  let v450 : Index := Scalar.indexCast v449
  ![v450.toNat]
def k0_off14 (v186 : BitVec 32) : Fin 2 → Nat :=
  let c128_i32_226 : BitVec 32 := 128#32
  let v198 : BitVec 32 := Scalar.muli v186 c128_i32_226
  let c0_i32_546 : BitVec 32 := 0#32
  ![v198.toNat, 0]

def k0_chk4 (v186 : BitVec 32) : Prop :=
  (∀ a, (k0_off5 v186) a + S128x256.size a ≤ S4096x256.size a) ∧
  (∀ a, (k0_off14 v186) a + S128x256.size a ≤ S4096x256.size a)
theorem k0_off5_inb : ∀ (v186 : BitVec 32) (k0_hw4 : k0_chk4 v186), ∀ a, (k0_off5 v186) a + S128x256.size a ≤ S4096x256.size a := fun v186 k0_hw4 => k0_hw4.1
theorem k0_off14_inb : ∀ (v186 : BitVec 32) (k0_hw4 : k0_chk4 v186), ∀ a, (k0_off14 v186) a + S128x256.size a ≤ S4096x256.size a := fun v186 k0_hw4 => k0_hw4.2

def k0_off15 (v451 : BitVec 32) : Fin 2 → Nat :=
  let c128_i32_559 : BitVec 32 := 128#32
  let v468 : BitVec 32 := Scalar.muli v451 c128_i32_559
  let c0_i32_562 : BitVec 32 := 0#32
  ![v468.toNat, 0]

def k0_off16 (v4 : BitVec 32) : Fin 1 → Nat :=
  let c3_i32_565 : BitVec 32 := 3#32
  let v474 : BitVec 32 := Scalar.addi v4 c3_i32_565
  let c32_i32_566 : BitVec 32 := 32#32
  let v475 : BitVec 32 := Scalar.remsi v474 c32_i32_566
  let v476 : Index := Scalar.indexCast v475
  ![v476.toNat]
def k0_off17 (v207 : BitVec 32) : Fin 2 → Nat :=
  let c128_i32_243 : BitVec 32 := 128#32
  let v219 : BitVec 32 := Scalar.muli v207 c128_i32_243
  let c0_i32_569 : BitVec 32 := 0#32
  ![v219.toNat, 0]

def k0_chk5 (v207 : BitVec 32) : Prop :=
  (∀ a, (k0_off7 v207) a + S128x256.size a ≤ S4096x256.size a) ∧
  (∀ a, (k0_off17 v207) a + S128x256.size a ≤ S4096x256.size a)
theorem k0_off7_inb : ∀ (v207 : BitVec 32) (k0_hw5 : k0_chk5 v207), ∀ a, (k0_off7 v207) a + S128x256.size a ≤ S4096x256.size a := fun v207 k0_hw5 => k0_hw5.1
theorem k0_off17_inb : ∀ (v207 : BitVec 32) (k0_hw5 : k0_chk5 v207), ∀ a, (k0_off17 v207) a + S128x256.size a ≤ S4096x256.size a := fun v207 k0_hw5 => k0_hw5.2

def k0_off18 (v477 : BitVec 32) : Fin 2 → Nat :=
  let c128_i32_582 : BitVec 32 := 128#32
  let v494 : BitVec 32 := Scalar.muli v477 c128_i32_582
  let c0_i32_585 : BitVec 32 := 0#32
  ![v494.toNat, 0]

def k0_dev19 (v8 : BitVec 32) : Nat :=
  let c0_i32_610 : BitVec 32 := 0#32
  let c1_i32_609 : BitVec 32 := 1#32
  let v510 : BitVec 32 := Scalar.muli v8 c1_i32_609
  let v511 : BitVec 32 := Scalar.addi c0_i32_610 v510
  v511.toNat
def k0_dev20 (v8 : BitVec 32) : Nat :=
  let c0_i32_642 : BitVec 32 := 0#32
  let c1_i32_641 : BitVec 32 := 1#32
  let v532 : BitVec 32 := Scalar.muli v8 c1_i32_641
  let v533 : BitVec 32 := Scalar.addi c0_i32_642 v532
  v533.toNat
def k0_dev21 (v12 : BitVec 32) : Nat :=
  let c0_i32_674 : BitVec 32 := 0#32
  let c1_i32_673 : BitVec 32 := 1#32
  let v554 : BitVec 32 := Scalar.muli v12 c1_i32_673
  let v555 : BitVec 32 := Scalar.addi c0_i32_674 v554
  v555.toNat
def k0_dev22 (v12 : BitVec 32) : Nat :=
  let c0_i32_706 : BitVec 32 := 0#32
  let c1_i32_705 : BitVec 32 := 1#32
  let v576 : BitVec 32 := Scalar.muli v12 c1_i32_705
  let v577 : BitVec 32 := Scalar.addi c0_i32_706 v576
  v577.toNat
def k0_off19 (v4 : BitVec 32) : Fin 1 → Nat :=
  let c28_i32 : BitVec 32 := 28#32
  let v588 : BitVec 32 := Scalar.addi v4 c28_i32
  let c32_i32_715 : BitVec 32 := 32#32
  let v589 : BitVec 32 := Scalar.remsi v588 c32_i32_715
  let v590 : Index := Scalar.indexCast v589
  ![v590.toNat]
def k0_off20 (v316 : BitVec 32) : Fin 2 → Nat :=
  let c128_i32_387 : BitVec 32 := 128#32
  let v328 : BitVec 32 := Scalar.muli v316 c128_i32_387
  let c0_i32_718 : BitVec 32 := 0#32
  ![v328.toNat, 0]

def k0_chk6 (v316 : BitVec 32) : Prop :=
  (∀ a, (k0_off9 v316) a + S128x256.size a ≤ S4096x256.size a) ∧
  (∀ a, (k0_off20 v316) a + S128x256.size a ≤ S4096x256.size a)
theorem k0_off9_inb : ∀ (v316 : BitVec 32) (k0_hw6 : k0_chk6 v316), ∀ a, (k0_off9 v316) a + S128x256.size a ≤ S4096x256.size a := fun v316 k0_hw6 => k0_hw6.1
theorem k0_off20_inb : ∀ (v316 : BitVec 32) (k0_hw6 : k0_chk6 v316), ∀ a, (k0_off20 v316) a + S128x256.size a ≤ S4096x256.size a := fun v316 k0_hw6 => k0_hw6.2

def k0_off21 (v591 : BitVec 32) : Fin 2 → Nat :=
  let c128_i32_731 : BitVec 32 := 128#32
  let v608 : BitVec 32 := Scalar.muli v591 c128_i32_731
  let c0_i32_734 : BitVec 32 := 0#32
  ![v608.toNat, 0]

def k0_off22 (v4 : BitVec 32) : Fin 1 → Nat :=
  let c4_i32_737 : BitVec 32 := 4#32
  let v614 : BitVec 32 := Scalar.addi v4 c4_i32_737
  let c32_i32_738 : BitVec 32 := 32#32
  let v615 : BitVec 32 := Scalar.remsi v614 c32_i32_738
  let v616 : Index := Scalar.indexCast v615
  ![v616.toNat]
def k0_off23 (v337 : BitVec 32) : Fin 2 → Nat :=
  let c128_i32_409 : BitVec 32 := 128#32
  let v354 : BitVec 32 := Scalar.muli v337 c128_i32_409
  let c0_i32_741 : BitVec 32 := 0#32
  ![v354.toNat, 0]

def k0_chk7 (v337 : BitVec 32) : Prop :=
  (∀ a, (k0_off12 v337) a + S128x256.size a ≤ S4096x256.size a) ∧
  (∀ a, (k0_off23 v337) a + S128x256.size a ≤ S4096x256.size a)
theorem k0_off12_inb : ∀ (v337 : BitVec 32) (k0_hw7 : k0_chk7 v337), ∀ a, (k0_off12 v337) a + S128x256.size a ≤ S4096x256.size a := fun v337 k0_hw7 => k0_hw7.1
theorem k0_off23_inb : ∀ (v337 : BitVec 32) (k0_hw7 : k0_chk7 v337), ∀ a, (k0_off23 v337) a + S128x256.size a ≤ S4096x256.size a := fun v337 k0_hw7 => k0_hw7.2

def k0_off24 (v617 : BitVec 32) : Fin 2 → Nat :=
  let c128_i32_754 : BitVec 32 := 128#32
  let v634 : BitVec 32 := Scalar.muli v617 c128_i32_754
  let c0_i32_757 : BitVec 32 := 0#32
  ![v634.toNat, 0]

def k0_dev23 (v8 : BitVec 32) : Nat :=
  let c0_i32_782 : BitVec 32 := 0#32
  let c1_i32_781 : BitVec 32 := 1#32
  let v650 : BitVec 32 := Scalar.muli v8 c1_i32_781
  let v651 : BitVec 32 := Scalar.addi c0_i32_782 v650
  v651.toNat
def k0_dev24 (v8 : BitVec 32) : Nat :=
  let c0_i32_814 : BitVec 32 := 0#32
  let c1_i32_813 : BitVec 32 := 1#32
  let v672 : BitVec 32 := Scalar.muli v8 c1_i32_813
  let v673 : BitVec 32 := Scalar.addi c0_i32_814 v672
  v673.toNat
def k0_dev25 (v12 : BitVec 32) : Nat :=
  let c0_i32_846 : BitVec 32 := 0#32
  let c1_i32_845 : BitVec 32 := 1#32
  let v694 : BitVec 32 := Scalar.muli v12 c1_i32_845
  let v695 : BitVec 32 := Scalar.addi c0_i32_846 v694
  v695.toNat
def k0_dev26 (v12 : BitVec 32) : Nat :=
  let c0_i32_878 : BitVec 32 := 0#32
  let c1_i32_877 : BitVec 32 := 1#32
  let v716 : BitVec 32 := Scalar.muli v12 c1_i32_877
  let v717 : BitVec 32 := Scalar.addi c0_i32_878 v716
  v717.toNat
def k0_off25 (v4 : BitVec 32) : Fin 1 → Nat :=
  let c27_i32 : BitVec 32 := 27#32
  let v728 : BitVec 32 := Scalar.addi v4 c27_i32
  let c32_i32_887 : BitVec 32 := 32#32
  let v729 : BitVec 32 := Scalar.remsi v728 c32_i32_887
  let v730 : Index := Scalar.indexCast v729
  ![v730.toNat]
def k0_off26 (v451 : BitVec 32) : Fin 2 → Nat :=
  let c128_i32_559 : BitVec 32 := 128#32
  let v468 : BitVec 32 := Scalar.muli v451 c128_i32_559
  let c0_i32_890 : BitVec 32 := 0#32
  ![v468.toNat, 0]

def k0_chk8 (v451 : BitVec 32) : Prop :=
  (∀ a, (k0_off15 v451) a + S128x256.size a ≤ S4096x256.size a) ∧
  (∀ a, (k0_off26 v451) a + S128x256.size a ≤ S4096x256.size a)
theorem k0_off15_inb : ∀ (v451 : BitVec 32) (k0_hw8 : k0_chk8 v451), ∀ a, (k0_off15 v451) a + S128x256.size a ≤ S4096x256.size a := fun v451 k0_hw8 => k0_hw8.1
theorem k0_off26_inb : ∀ (v451 : BitVec 32) (k0_hw8 : k0_chk8 v451), ∀ a, (k0_off26 v451) a + S128x256.size a ≤ S4096x256.size a := fun v451 k0_hw8 => k0_hw8.2

def k0_off27 (v731 : BitVec 32) : Fin 2 → Nat :=
  let c128_i32_902 : BitVec 32 := 128#32
  let v748 : BitVec 32 := Scalar.muli v731 c128_i32_902
  let c0_i32_905 : BitVec 32 := 0#32
  ![v748.toNat, 0]

def k0_off28 (v4 : BitVec 32) : Fin 1 → Nat :=
  let c5_i32_908 : BitVec 32 := 5#32
  let v754 : BitVec 32 := Scalar.addi v4 c5_i32_908
  let c32_i32_909 : BitVec 32 := 32#32
  let v755 : BitVec 32 := Scalar.remsi v754 c32_i32_909
  let v756 : Index := Scalar.indexCast v755
  ![v756.toNat]
def k0_off29 (v477 : BitVec 32) : Fin 2 → Nat :=
  let c128_i32_582 : BitVec 32 := 128#32
  let v494 : BitVec 32 := Scalar.muli v477 c128_i32_582
  let c0_i32_912 : BitVec 32 := 0#32
  ![v494.toNat, 0]

def k0_chk9 (v477 : BitVec 32) : Prop :=
  (∀ a, (k0_off18 v477) a + S128x256.size a ≤ S4096x256.size a) ∧
  (∀ a, (k0_off29 v477) a + S128x256.size a ≤ S4096x256.size a)
theorem k0_off18_inb : ∀ (v477 : BitVec 32) (k0_hw9 : k0_chk9 v477), ∀ a, (k0_off18 v477) a + S128x256.size a ≤ S4096x256.size a := fun v477 k0_hw9 => k0_hw9.1
theorem k0_off29_inb : ∀ (v477 : BitVec 32) (k0_hw9 : k0_chk9 v477), ∀ a, (k0_off29 v477) a + S128x256.size a ≤ S4096x256.size a := fun v477 k0_hw9 => k0_hw9.2

def k0_off30 (v757 : BitVec 32) : Fin 2 → Nat :=
  let c128_i32_925 : BitVec 32 := 128#32
  let v774 : BitVec 32 := Scalar.muli v757 c128_i32_925
  let c0_i32_928 : BitVec 32 := 0#32
  ![v774.toNat, 0]

def k0_dev27 (v8 : BitVec 32) : Nat :=
  let c0_i32_953 : BitVec 32 := 0#32
  let c1_i32_952 : BitVec 32 := 1#32
  let v790 : BitVec 32 := Scalar.muli v8 c1_i32_952
  let v791 : BitVec 32 := Scalar.addi c0_i32_953 v790
  v791.toNat
def k0_dev28 (v8 : BitVec 32) : Nat :=
  let c0_i32_985 : BitVec 32 := 0#32
  let c1_i32_984 : BitVec 32 := 1#32
  let v812 : BitVec 32 := Scalar.muli v8 c1_i32_984
  let v813 : BitVec 32 := Scalar.addi c0_i32_985 v812
  v813.toNat
def k0_dev29 (v12 : BitVec 32) : Nat :=
  let c0_i32_1017 : BitVec 32 := 0#32
  let c1_i32_1016 : BitVec 32 := 1#32
  let v834 : BitVec 32 := Scalar.muli v12 c1_i32_1016
  let v835 : BitVec 32 := Scalar.addi c0_i32_1017 v834
  v835.toNat
def k0_dev30 (v12 : BitVec 32) : Nat :=
  let c0_i32_1049 : BitVec 32 := 0#32
  let c1_i32_1048 : BitVec 32 := 1#32
  let v856 : BitVec 32 := Scalar.muli v12 c1_i32_1048
  let v857 : BitVec 32 := Scalar.addi c0_i32_1049 v856
  v857.toNat
def k0_off31 (v4 : BitVec 32) : Fin 1 → Nat :=
  let c26_i32 : BitVec 32 := 26#32
  let v868 : BitVec 32 := Scalar.addi v4 c26_i32
  let c32_i32_1058 : BitVec 32 := 32#32
  let v869 : BitVec 32 := Scalar.remsi v868 c32_i32_1058
  let v870 : Index := Scalar.indexCast v869
  ![v870.toNat]
def k0_off32 (v591 : BitVec 32) : Fin 2 → Nat :=
  let c128_i32_731 : BitVec 32 := 128#32
  let v608 : BitVec 32 := Scalar.muli v591 c128_i32_731
  let c0_i32_1061 : BitVec 32 := 0#32
  ![v608.toNat, 0]

def k0_chk10 (v591 : BitVec 32) : Prop :=
  (∀ a, (k0_off21 v591) a + S128x256.size a ≤ S4096x256.size a) ∧
  (∀ a, (k0_off32 v591) a + S128x256.size a ≤ S4096x256.size a)
theorem k0_off21_inb : ∀ (v591 : BitVec 32) (k0_hw10 : k0_chk10 v591), ∀ a, (k0_off21 v591) a + S128x256.size a ≤ S4096x256.size a := fun v591 k0_hw10 => k0_hw10.1
theorem k0_off32_inb : ∀ (v591 : BitVec 32) (k0_hw10 : k0_chk10 v591), ∀ a, (k0_off32 v591) a + S128x256.size a ≤ S4096x256.size a := fun v591 k0_hw10 => k0_hw10.2

def k0_off33 (v871 : BitVec 32) : Fin 2 → Nat :=
  let c128_i32_1073 : BitVec 32 := 128#32
  let v888 : BitVec 32 := Scalar.muli v871 c128_i32_1073
  let c0_i32_1076 : BitVec 32 := 0#32
  ![v888.toNat, 0]

def k0_off34 (v4 : BitVec 32) : Fin 1 → Nat :=
  let c6_i32_1079 : BitVec 32 := 6#32
  let v894 : BitVec 32 := Scalar.addi v4 c6_i32_1079
  let c32_i32_1080 : BitVec 32 := 32#32
  let v895 : BitVec 32 := Scalar.remsi v894 c32_i32_1080
  let v896 : Index := Scalar.indexCast v895
  ![v896.toNat]
def k0_off35 (v617 : BitVec 32) : Fin 2 → Nat :=
  let c128_i32_754 : BitVec 32 := 128#32
  let v634 : BitVec 32 := Scalar.muli v617 c128_i32_754
  let c0_i32_1083 : BitVec 32 := 0#32
  ![v634.toNat, 0]

def k0_chk11 (v617 : BitVec 32) : Prop :=
  (∀ a, (k0_off24 v617) a + S128x256.size a ≤ S4096x256.size a) ∧
  (∀ a, (k0_off35 v617) a + S128x256.size a ≤ S4096x256.size a)
theorem k0_off24_inb : ∀ (v617 : BitVec 32) (k0_hw11 : k0_chk11 v617), ∀ a, (k0_off24 v617) a + S128x256.size a ≤ S4096x256.size a := fun v617 k0_hw11 => k0_hw11.1
theorem k0_off35_inb : ∀ (v617 : BitVec 32) (k0_hw11 : k0_chk11 v617), ∀ a, (k0_off35 v617) a + S128x256.size a ≤ S4096x256.size a := fun v617 k0_hw11 => k0_hw11.2

def k0_off36 (v897 : BitVec 32) : Fin 2 → Nat :=
  let c128_i32_1096 : BitVec 32 := 128#32
  let v914 : BitVec 32 := Scalar.muli v897 c128_i32_1096
  let c0_i32_1099 : BitVec 32 := 0#32
  ![v914.toNat, 0]

def k0_dev31 (v8 : BitVec 32) : Nat :=
  let c0_i32_1124 : BitVec 32 := 0#32
  let c1_i32_1123 : BitVec 32 := 1#32
  let v930 : BitVec 32 := Scalar.muli v8 c1_i32_1123
  let v931 : BitVec 32 := Scalar.addi c0_i32_1124 v930
  v931.toNat
def k0_dev32 (v8 : BitVec 32) : Nat :=
  let c0_i32_1156 : BitVec 32 := 0#32
  let c1_i32_1155 : BitVec 32 := 1#32
  let v952 : BitVec 32 := Scalar.muli v8 c1_i32_1155
  let v953 : BitVec 32 := Scalar.addi c0_i32_1156 v952
  v953.toNat
def k0_dev33 (v12 : BitVec 32) : Nat :=
  let c0_i32_1188 : BitVec 32 := 0#32
  let c1_i32_1187 : BitVec 32 := 1#32
  let v974 : BitVec 32 := Scalar.muli v12 c1_i32_1187
  let v975 : BitVec 32 := Scalar.addi c0_i32_1188 v974
  v975.toNat
def k0_dev34 (v12 : BitVec 32) : Nat :=
  let c0_i32_1220 : BitVec 32 := 0#32
  let c1_i32_1219 : BitVec 32 := 1#32
  let v996 : BitVec 32 := Scalar.muli v12 c1_i32_1219
  let v997 : BitVec 32 := Scalar.addi c0_i32_1220 v996
  v997.toNat
def k0_off37 (v4 : BitVec 32) : Fin 1 → Nat :=
  let c25_i32 : BitVec 32 := 25#32
  let v1008 : BitVec 32 := Scalar.addi v4 c25_i32
  let c32_i32_1229 : BitVec 32 := 32#32
  let v1009 : BitVec 32 := Scalar.remsi v1008 c32_i32_1229
  let v1010 : Index := Scalar.indexCast v1009
  ![v1010.toNat]
def k0_off38 (v731 : BitVec 32) : Fin 2 → Nat :=
  let c128_i32_902 : BitVec 32 := 128#32
  let v748 : BitVec 32 := Scalar.muli v731 c128_i32_902
  let c0_i32_1232 : BitVec 32 := 0#32
  ![v748.toNat, 0]

def k0_chk12 (v731 : BitVec 32) : Prop :=
  (∀ a, (k0_off27 v731) a + S128x256.size a ≤ S4096x256.size a) ∧
  (∀ a, (k0_off38 v731) a + S128x256.size a ≤ S4096x256.size a)
theorem k0_off27_inb : ∀ (v731 : BitVec 32) (k0_hw12 : k0_chk12 v731), ∀ a, (k0_off27 v731) a + S128x256.size a ≤ S4096x256.size a := fun v731 k0_hw12 => k0_hw12.1
theorem k0_off38_inb : ∀ (v731 : BitVec 32) (k0_hw12 : k0_chk12 v731), ∀ a, (k0_off38 v731) a + S128x256.size a ≤ S4096x256.size a := fun v731 k0_hw12 => k0_hw12.2

def k0_off39 (v1011 : BitVec 32) : Fin 2 → Nat :=
  let c128_i32_1244 : BitVec 32 := 128#32
  let v1028 : BitVec 32 := Scalar.muli v1011 c128_i32_1244
  let c0_i32_1247 : BitVec 32 := 0#32
  ![v1028.toNat, 0]

def k0_off40 (v4 : BitVec 32) : Fin 1 → Nat :=
  let c7_i32_1250 : BitVec 32 := 7#32
  let v1034 : BitVec 32 := Scalar.addi v4 c7_i32_1250
  let c32_i32_1251 : BitVec 32 := 32#32
  let v1035 : BitVec 32 := Scalar.remsi v1034 c32_i32_1251
  let v1036 : Index := Scalar.indexCast v1035
  ![v1036.toNat]
def k0_off41 (v757 : BitVec 32) : Fin 2 → Nat :=
  let c128_i32_925 : BitVec 32 := 128#32
  let v774 : BitVec 32 := Scalar.muli v757 c128_i32_925
  let c0_i32_1254 : BitVec 32 := 0#32
  ![v774.toNat, 0]

def k0_chk13 (v757 : BitVec 32) : Prop :=
  (∀ a, (k0_off30 v757) a + S128x256.size a ≤ S4096x256.size a) ∧
  (∀ a, (k0_off41 v757) a + S128x256.size a ≤ S4096x256.size a)
theorem k0_off30_inb : ∀ (v757 : BitVec 32) (k0_hw13 : k0_chk13 v757), ∀ a, (k0_off30 v757) a + S128x256.size a ≤ S4096x256.size a := fun v757 k0_hw13 => k0_hw13.1
theorem k0_off41_inb : ∀ (v757 : BitVec 32) (k0_hw13 : k0_chk13 v757), ∀ a, (k0_off41 v757) a + S128x256.size a ≤ S4096x256.size a := fun v757 k0_hw13 => k0_hw13.2

def k0_off42 (v1037 : BitVec 32) : Fin 2 → Nat :=
  let c128_i32_1267 : BitVec 32 := 128#32
  let v1054 : BitVec 32 := Scalar.muli v1037 c128_i32_1267
  let c0_i32_1270 : BitVec 32 := 0#32
  ![v1054.toNat, 0]

def k0_dev35 (v8 : BitVec 32) : Nat :=
  let c0_i32_1295 : BitVec 32 := 0#32
  let c1_i32_1294 : BitVec 32 := 1#32
  let v1070 : BitVec 32 := Scalar.muli v8 c1_i32_1294
  let v1071 : BitVec 32 := Scalar.addi c0_i32_1295 v1070
  v1071.toNat
def k0_dev36 (v8 : BitVec 32) : Nat :=
  let c0_i32_1327 : BitVec 32 := 0#32
  let c1_i32_1326 : BitVec 32 := 1#32
  let v1092 : BitVec 32 := Scalar.muli v8 c1_i32_1326
  let v1093 : BitVec 32 := Scalar.addi c0_i32_1327 v1092
  v1093.toNat
def k0_dev37 (v12 : BitVec 32) : Nat :=
  let c0_i32_1359 : BitVec 32 := 0#32
  let c1_i32_1358 : BitVec 32 := 1#32
  let v1114 : BitVec 32 := Scalar.muli v12 c1_i32_1358
  let v1115 : BitVec 32 := Scalar.addi c0_i32_1359 v1114
  v1115.toNat
def k0_dev38 (v12 : BitVec 32) : Nat :=
  let c0_i32_1391 : BitVec 32 := 0#32
  let c1_i32_1390 : BitVec 32 := 1#32
  let v1136 : BitVec 32 := Scalar.muli v12 c1_i32_1390
  let v1137 : BitVec 32 := Scalar.addi c0_i32_1391 v1136
  v1137.toNat
def k0_off43 (v4 : BitVec 32) : Fin 1 → Nat :=
  let c24_i32 : BitVec 32 := 24#32
  let v1148 : BitVec 32 := Scalar.addi v4 c24_i32
  let c32_i32_1400 : BitVec 32 := 32#32
  let v1149 : BitVec 32 := Scalar.remsi v1148 c32_i32_1400
  let v1150 : Index := Scalar.indexCast v1149
  ![v1150.toNat]
def k0_off44 (v871 : BitVec 32) : Fin 2 → Nat :=
  let c128_i32_1073 : BitVec 32 := 128#32
  let v888 : BitVec 32 := Scalar.muli v871 c128_i32_1073
  let c0_i32_1403 : BitVec 32 := 0#32
  ![v888.toNat, 0]

def k0_chk14 (v871 : BitVec 32) : Prop :=
  (∀ a, (k0_off33 v871) a + S128x256.size a ≤ S4096x256.size a) ∧
  (∀ a, (k0_off44 v871) a + S128x256.size a ≤ S4096x256.size a)
theorem k0_off33_inb : ∀ (v871 : BitVec 32) (k0_hw14 : k0_chk14 v871), ∀ a, (k0_off33 v871) a + S128x256.size a ≤ S4096x256.size a := fun v871 k0_hw14 => k0_hw14.1
theorem k0_off44_inb : ∀ (v871 : BitVec 32) (k0_hw14 : k0_chk14 v871), ∀ a, (k0_off44 v871) a + S128x256.size a ≤ S4096x256.size a := fun v871 k0_hw14 => k0_hw14.2

def k0_off45 (v1151 : BitVec 32) : Fin 2 → Nat :=
  let c128_i32_1415 : BitVec 32 := 128#32
  let v1168 : BitVec 32 := Scalar.muli v1151 c128_i32_1415
  let c0_i32_1418 : BitVec 32 := 0#32
  ![v1168.toNat, 0]

def k0_off46 (v4 : BitVec 32) : Fin 1 → Nat :=
  let c8_i32_1421 : BitVec 32 := 8#32
  let v1174 : BitVec 32 := Scalar.addi v4 c8_i32_1421
  let c32_i32_1422 : BitVec 32 := 32#32
  let v1175 : BitVec 32 := Scalar.remsi v1174 c32_i32_1422
  let v1176 : Index := Scalar.indexCast v1175
  ![v1176.toNat]
def k0_off47 (v897 : BitVec 32) : Fin 2 → Nat :=
  let c128_i32_1096 : BitVec 32 := 128#32
  let v914 : BitVec 32 := Scalar.muli v897 c128_i32_1096
  let c0_i32_1425 : BitVec 32 := 0#32
  ![v914.toNat, 0]

def k0_chk15 (v897 : BitVec 32) : Prop :=
  (∀ a, (k0_off36 v897) a + S128x256.size a ≤ S4096x256.size a) ∧
  (∀ a, (k0_off47 v897) a + S128x256.size a ≤ S4096x256.size a)
theorem k0_off36_inb : ∀ (v897 : BitVec 32) (k0_hw15 : k0_chk15 v897), ∀ a, (k0_off36 v897) a + S128x256.size a ≤ S4096x256.size a := fun v897 k0_hw15 => k0_hw15.1
theorem k0_off47_inb : ∀ (v897 : BitVec 32) (k0_hw15 : k0_chk15 v897), ∀ a, (k0_off47 v897) a + S128x256.size a ≤ S4096x256.size a := fun v897 k0_hw15 => k0_hw15.2

def k0_off48 (v1177 : BitVec 32) : Fin 2 → Nat :=
  let c128_i32_1438 : BitVec 32 := 128#32
  let v1194 : BitVec 32 := Scalar.muli v1177 c128_i32_1438
  let c0_i32_1441 : BitVec 32 := 0#32
  ![v1194.toNat, 0]

def k0_dev39 (v8 : BitVec 32) : Nat :=
  let c0_i32_1466 : BitVec 32 := 0#32
  let c1_i32_1465 : BitVec 32 := 1#32
  let v1210 : BitVec 32 := Scalar.muli v8 c1_i32_1465
  let v1211 : BitVec 32 := Scalar.addi c0_i32_1466 v1210
  v1211.toNat
def k0_dev40 (v8 : BitVec 32) : Nat :=
  let c0_i32_1498 : BitVec 32 := 0#32
  let c1_i32_1497 : BitVec 32 := 1#32
  let v1232 : BitVec 32 := Scalar.muli v8 c1_i32_1497
  let v1233 : BitVec 32 := Scalar.addi c0_i32_1498 v1232
  v1233.toNat
def k0_dev41 (v12 : BitVec 32) : Nat :=
  let c0_i32_1530 : BitVec 32 := 0#32
  let c1_i32_1529 : BitVec 32 := 1#32
  let v1254 : BitVec 32 := Scalar.muli v12 c1_i32_1529
  let v1255 : BitVec 32 := Scalar.addi c0_i32_1530 v1254
  v1255.toNat
def k0_dev42 (v12 : BitVec 32) : Nat :=
  let c0_i32_1562 : BitVec 32 := 0#32
  let c1_i32_1561 : BitVec 32 := 1#32
  let v1276 : BitVec 32 := Scalar.muli v12 c1_i32_1561
  let v1277 : BitVec 32 := Scalar.addi c0_i32_1562 v1276
  v1277.toNat
def k0_off49 (v4 : BitVec 32) : Fin 1 → Nat :=
  let c23_i32 : BitVec 32 := 23#32
  let v1288 : BitVec 32 := Scalar.addi v4 c23_i32
  let c32_i32_1571 : BitVec 32 := 32#32
  let v1289 : BitVec 32 := Scalar.remsi v1288 c32_i32_1571
  let v1290 : Index := Scalar.indexCast v1289
  ![v1290.toNat]
def k0_off50 (v1011 : BitVec 32) : Fin 2 → Nat :=
  let c128_i32_1244 : BitVec 32 := 128#32
  let v1028 : BitVec 32 := Scalar.muli v1011 c128_i32_1244
  let c0_i32_1574 : BitVec 32 := 0#32
  ![v1028.toNat, 0]

def k0_chk16 (v1011 : BitVec 32) : Prop :=
  (∀ a, (k0_off39 v1011) a + S128x256.size a ≤ S4096x256.size a) ∧
  (∀ a, (k0_off50 v1011) a + S128x256.size a ≤ S4096x256.size a)
theorem k0_off39_inb : ∀ (v1011 : BitVec 32) (k0_hw16 : k0_chk16 v1011), ∀ a, (k0_off39 v1011) a + S128x256.size a ≤ S4096x256.size a := fun v1011 k0_hw16 => k0_hw16.1
theorem k0_off50_inb : ∀ (v1011 : BitVec 32) (k0_hw16 : k0_chk16 v1011), ∀ a, (k0_off50 v1011) a + S128x256.size a ≤ S4096x256.size a := fun v1011 k0_hw16 => k0_hw16.2

def k0_off51 (v1291 : BitVec 32) : Fin 2 → Nat :=
  let c128_i32_1586 : BitVec 32 := 128#32
  let v1308 : BitVec 32 := Scalar.muli v1291 c128_i32_1586
  let c0_i32_1589 : BitVec 32 := 0#32
  ![v1308.toNat, 0]

def k0_off52 (v4 : BitVec 32) : Fin 1 → Nat :=
  let c9_i32_1592 : BitVec 32 := 9#32
  let v1314 : BitVec 32 := Scalar.addi v4 c9_i32_1592
  let c32_i32_1593 : BitVec 32 := 32#32
  let v1315 : BitVec 32 := Scalar.remsi v1314 c32_i32_1593
  let v1316 : Index := Scalar.indexCast v1315
  ![v1316.toNat]
def k0_off53 (v1037 : BitVec 32) : Fin 2 → Nat :=
  let c128_i32_1267 : BitVec 32 := 128#32
  let v1054 : BitVec 32 := Scalar.muli v1037 c128_i32_1267
  let c0_i32_1596 : BitVec 32 := 0#32
  ![v1054.toNat, 0]

def k0_chk17 (v1037 : BitVec 32) : Prop :=
  (∀ a, (k0_off42 v1037) a + S128x256.size a ≤ S4096x256.size a) ∧
  (∀ a, (k0_off53 v1037) a + S128x256.size a ≤ S4096x256.size a)
theorem k0_off42_inb : ∀ (v1037 : BitVec 32) (k0_hw17 : k0_chk17 v1037), ∀ a, (k0_off42 v1037) a + S128x256.size a ≤ S4096x256.size a := fun v1037 k0_hw17 => k0_hw17.1
theorem k0_off53_inb : ∀ (v1037 : BitVec 32) (k0_hw17 : k0_chk17 v1037), ∀ a, (k0_off53 v1037) a + S128x256.size a ≤ S4096x256.size a := fun v1037 k0_hw17 => k0_hw17.2

def k0_off54 (v1317 : BitVec 32) : Fin 2 → Nat :=
  let c128_i32_1609 : BitVec 32 := 128#32
  let v1334 : BitVec 32 := Scalar.muli v1317 c128_i32_1609
  let c0_i32_1612 : BitVec 32 := 0#32
  ![v1334.toNat, 0]

def k0_dev43 (v8 : BitVec 32) : Nat :=
  let c0_i32_1637 : BitVec 32 := 0#32
  let c1_i32_1636 : BitVec 32 := 1#32
  let v1350 : BitVec 32 := Scalar.muli v8 c1_i32_1636
  let v1351 : BitVec 32 := Scalar.addi c0_i32_1637 v1350
  v1351.toNat
def k0_dev44 (v8 : BitVec 32) : Nat :=
  let c0_i32_1669 : BitVec 32 := 0#32
  let c1_i32_1668 : BitVec 32 := 1#32
  let v1372 : BitVec 32 := Scalar.muli v8 c1_i32_1668
  let v1373 : BitVec 32 := Scalar.addi c0_i32_1669 v1372
  v1373.toNat
def k0_dev45 (v12 : BitVec 32) : Nat :=
  let c0_i32_1701 : BitVec 32 := 0#32
  let c1_i32_1700 : BitVec 32 := 1#32
  let v1394 : BitVec 32 := Scalar.muli v12 c1_i32_1700
  let v1395 : BitVec 32 := Scalar.addi c0_i32_1701 v1394
  v1395.toNat
def k0_dev46 (v12 : BitVec 32) : Nat :=
  let c0_i32_1733 : BitVec 32 := 0#32
  let c1_i32_1732 : BitVec 32 := 1#32
  let v1416 : BitVec 32 := Scalar.muli v12 c1_i32_1732
  let v1417 : BitVec 32 := Scalar.addi c0_i32_1733 v1416
  v1417.toNat
def k0_off55 (v4 : BitVec 32) : Fin 1 → Nat :=
  let c22_i32 : BitVec 32 := 22#32
  let v1428 : BitVec 32 := Scalar.addi v4 c22_i32
  let c32_i32_1742 : BitVec 32 := 32#32
  let v1429 : BitVec 32 := Scalar.remsi v1428 c32_i32_1742
  let v1430 : Index := Scalar.indexCast v1429
  ![v1430.toNat]
def k0_off56 (v1151 : BitVec 32) : Fin 2 → Nat :=
  let c128_i32_1415 : BitVec 32 := 128#32
  let v1168 : BitVec 32 := Scalar.muli v1151 c128_i32_1415
  let c0_i32_1745 : BitVec 32 := 0#32
  ![v1168.toNat, 0]

def k0_chk18 (v1151 : BitVec 32) : Prop :=
  (∀ a, (k0_off45 v1151) a + S128x256.size a ≤ S4096x256.size a) ∧
  (∀ a, (k0_off56 v1151) a + S128x256.size a ≤ S4096x256.size a)
theorem k0_off45_inb : ∀ (v1151 : BitVec 32) (k0_hw18 : k0_chk18 v1151), ∀ a, (k0_off45 v1151) a + S128x256.size a ≤ S4096x256.size a := fun v1151 k0_hw18 => k0_hw18.1
theorem k0_off56_inb : ∀ (v1151 : BitVec 32) (k0_hw18 : k0_chk18 v1151), ∀ a, (k0_off56 v1151) a + S128x256.size a ≤ S4096x256.size a := fun v1151 k0_hw18 => k0_hw18.2

def k0_off57 (v1431 : BitVec 32) : Fin 2 → Nat :=
  let c128_i32_1757 : BitVec 32 := 128#32
  let v1448 : BitVec 32 := Scalar.muli v1431 c128_i32_1757
  let c0_i32_1760 : BitVec 32 := 0#32
  ![v1448.toNat, 0]

def k0_off58 (v4 : BitVec 32) : Fin 1 → Nat :=
  let c10_i32_1763 : BitVec 32 := 10#32
  let v1454 : BitVec 32 := Scalar.addi v4 c10_i32_1763
  let c32_i32_1764 : BitVec 32 := 32#32
  let v1455 : BitVec 32 := Scalar.remsi v1454 c32_i32_1764
  let v1456 : Index := Scalar.indexCast v1455
  ![v1456.toNat]
def k0_off59 (v1177 : BitVec 32) : Fin 2 → Nat :=
  let c128_i32_1438 : BitVec 32 := 128#32
  let v1194 : BitVec 32 := Scalar.muli v1177 c128_i32_1438
  let c0_i32_1767 : BitVec 32 := 0#32
  ![v1194.toNat, 0]

def k0_chk19 (v1177 : BitVec 32) : Prop :=
  (∀ a, (k0_off48 v1177) a + S128x256.size a ≤ S4096x256.size a) ∧
  (∀ a, (k0_off59 v1177) a + S128x256.size a ≤ S4096x256.size a)
theorem k0_off48_inb : ∀ (v1177 : BitVec 32) (k0_hw19 : k0_chk19 v1177), ∀ a, (k0_off48 v1177) a + S128x256.size a ≤ S4096x256.size a := fun v1177 k0_hw19 => k0_hw19.1
theorem k0_off59_inb : ∀ (v1177 : BitVec 32) (k0_hw19 : k0_chk19 v1177), ∀ a, (k0_off59 v1177) a + S128x256.size a ≤ S4096x256.size a := fun v1177 k0_hw19 => k0_hw19.2

def k0_off60 (v1457 : BitVec 32) : Fin 2 → Nat :=
  let c128_i32_1780 : BitVec 32 := 128#32
  let v1474 : BitVec 32 := Scalar.muli v1457 c128_i32_1780
  let c0_i32_1783 : BitVec 32 := 0#32
  ![v1474.toNat, 0]

def k0_dev47 (v8 : BitVec 32) : Nat :=
  let c0_i32_1808 : BitVec 32 := 0#32
  let c1_i32_1807 : BitVec 32 := 1#32
  let v1490 : BitVec 32 := Scalar.muli v8 c1_i32_1807
  let v1491 : BitVec 32 := Scalar.addi c0_i32_1808 v1490
  v1491.toNat
def k0_dev48 (v8 : BitVec 32) : Nat :=
  let c0_i32_1840 : BitVec 32 := 0#32
  let c1_i32_1839 : BitVec 32 := 1#32
  let v1512 : BitVec 32 := Scalar.muli v8 c1_i32_1839
  let v1513 : BitVec 32 := Scalar.addi c0_i32_1840 v1512
  v1513.toNat
def k0_dev49 (v12 : BitVec 32) : Nat :=
  let c0_i32_1872 : BitVec 32 := 0#32
  let c1_i32_1871 : BitVec 32 := 1#32
  let v1534 : BitVec 32 := Scalar.muli v12 c1_i32_1871
  let v1535 : BitVec 32 := Scalar.addi c0_i32_1872 v1534
  v1535.toNat
def k0_dev50 (v12 : BitVec 32) : Nat :=
  let c0_i32_1904 : BitVec 32 := 0#32
  let c1_i32_1903 : BitVec 32 := 1#32
  let v1556 : BitVec 32 := Scalar.muli v12 c1_i32_1903
  let v1557 : BitVec 32 := Scalar.addi c0_i32_1904 v1556
  v1557.toNat
def k0_off61 (v4 : BitVec 32) : Fin 1 → Nat :=
  let c21_i32 : BitVec 32 := 21#32
  let v1568 : BitVec 32 := Scalar.addi v4 c21_i32
  let c32_i32_1913 : BitVec 32 := 32#32
  let v1569 : BitVec 32 := Scalar.remsi v1568 c32_i32_1913
  let v1570 : Index := Scalar.indexCast v1569
  ![v1570.toNat]
def k0_off62 (v1291 : BitVec 32) : Fin 2 → Nat :=
  let c128_i32_1586 : BitVec 32 := 128#32
  let v1308 : BitVec 32 := Scalar.muli v1291 c128_i32_1586
  let c0_i32_1916 : BitVec 32 := 0#32
  ![v1308.toNat, 0]

def k0_chk20 (v1291 : BitVec 32) : Prop :=
  (∀ a, (k0_off51 v1291) a + S128x256.size a ≤ S4096x256.size a) ∧
  (∀ a, (k0_off62 v1291) a + S128x256.size a ≤ S4096x256.size a)
theorem k0_off51_inb : ∀ (v1291 : BitVec 32) (k0_hw20 : k0_chk20 v1291), ∀ a, (k0_off51 v1291) a + S128x256.size a ≤ S4096x256.size a := fun v1291 k0_hw20 => k0_hw20.1
theorem k0_off62_inb : ∀ (v1291 : BitVec 32) (k0_hw20 : k0_chk20 v1291), ∀ a, (k0_off62 v1291) a + S128x256.size a ≤ S4096x256.size a := fun v1291 k0_hw20 => k0_hw20.2

def k0_off63 (v1571 : BitVec 32) : Fin 2 → Nat :=
  let c128_i32_1928 : BitVec 32 := 128#32
  let v1588 : BitVec 32 := Scalar.muli v1571 c128_i32_1928
  let c0_i32_1931 : BitVec 32 := 0#32
  ![v1588.toNat, 0]

def k0_off64 (v4 : BitVec 32) : Fin 1 → Nat :=
  let c11_i32_1934 : BitVec 32 := 11#32
  let v1594 : BitVec 32 := Scalar.addi v4 c11_i32_1934
  let c32_i32_1935 : BitVec 32 := 32#32
  let v1595 : BitVec 32 := Scalar.remsi v1594 c32_i32_1935
  let v1596 : Index := Scalar.indexCast v1595
  ![v1596.toNat]
def k0_off65 (v1317 : BitVec 32) : Fin 2 → Nat :=
  let c128_i32_1609 : BitVec 32 := 128#32
  let v1334 : BitVec 32 := Scalar.muli v1317 c128_i32_1609
  let c0_i32_1938 : BitVec 32 := 0#32
  ![v1334.toNat, 0]

def k0_chk21 (v1317 : BitVec 32) : Prop :=
  (∀ a, (k0_off54 v1317) a + S128x256.size a ≤ S4096x256.size a) ∧
  (∀ a, (k0_off65 v1317) a + S128x256.size a ≤ S4096x256.size a)
theorem k0_off54_inb : ∀ (v1317 : BitVec 32) (k0_hw21 : k0_chk21 v1317), ∀ a, (k0_off54 v1317) a + S128x256.size a ≤ S4096x256.size a := fun v1317 k0_hw21 => k0_hw21.1
theorem k0_off65_inb : ∀ (v1317 : BitVec 32) (k0_hw21 : k0_chk21 v1317), ∀ a, (k0_off65 v1317) a + S128x256.size a ≤ S4096x256.size a := fun v1317 k0_hw21 => k0_hw21.2

def k0_off66 (v1597 : BitVec 32) : Fin 2 → Nat :=
  let c128_i32_1951 : BitVec 32 := 128#32
  let v1614 : BitVec 32 := Scalar.muli v1597 c128_i32_1951
  let c0_i32_1954 : BitVec 32 := 0#32
  ![v1614.toNat, 0]

def k0_dev51 (v8 : BitVec 32) : Nat :=
  let c0_i32_1979 : BitVec 32 := 0#32
  let c1_i32_1978 : BitVec 32 := 1#32
  let v1630 : BitVec 32 := Scalar.muli v8 c1_i32_1978
  let v1631 : BitVec 32 := Scalar.addi c0_i32_1979 v1630
  v1631.toNat
def k0_dev52 (v8 : BitVec 32) : Nat :=
  let c0_i32_2011 : BitVec 32 := 0#32
  let c1_i32_2010 : BitVec 32 := 1#32
  let v1652 : BitVec 32 := Scalar.muli v8 c1_i32_2010
  let v1653 : BitVec 32 := Scalar.addi c0_i32_2011 v1652
  v1653.toNat
def k0_dev53 (v12 : BitVec 32) : Nat :=
  let c0_i32_2043 : BitVec 32 := 0#32
  let c1_i32_2042 : BitVec 32 := 1#32
  let v1674 : BitVec 32 := Scalar.muli v12 c1_i32_2042
  let v1675 : BitVec 32 := Scalar.addi c0_i32_2043 v1674
  v1675.toNat
def k0_dev54 (v12 : BitVec 32) : Nat :=
  let c0_i32_2075 : BitVec 32 := 0#32
  let c1_i32_2074 : BitVec 32 := 1#32
  let v1696 : BitVec 32 := Scalar.muli v12 c1_i32_2074
  let v1697 : BitVec 32 := Scalar.addi c0_i32_2075 v1696
  v1697.toNat
def k0_off67 (v4 : BitVec 32) : Fin 1 → Nat :=
  let c20_i32 : BitVec 32 := 20#32
  let v1708 : BitVec 32 := Scalar.addi v4 c20_i32
  let c32_i32_2084 : BitVec 32 := 32#32
  let v1709 : BitVec 32 := Scalar.remsi v1708 c32_i32_2084
  let v1710 : Index := Scalar.indexCast v1709
  ![v1710.toNat]
def k0_off68 (v1431 : BitVec 32) : Fin 2 → Nat :=
  let c128_i32_1757 : BitVec 32 := 128#32
  let v1448 : BitVec 32 := Scalar.muli v1431 c128_i32_1757
  let c0_i32_2087 : BitVec 32 := 0#32
  ![v1448.toNat, 0]

def k0_chk22 (v1431 : BitVec 32) : Prop :=
  (∀ a, (k0_off57 v1431) a + S128x256.size a ≤ S4096x256.size a) ∧
  (∀ a, (k0_off68 v1431) a + S128x256.size a ≤ S4096x256.size a)
theorem k0_off57_inb : ∀ (v1431 : BitVec 32) (k0_hw22 : k0_chk22 v1431), ∀ a, (k0_off57 v1431) a + S128x256.size a ≤ S4096x256.size a := fun v1431 k0_hw22 => k0_hw22.1
theorem k0_off68_inb : ∀ (v1431 : BitVec 32) (k0_hw22 : k0_chk22 v1431), ∀ a, (k0_off68 v1431) a + S128x256.size a ≤ S4096x256.size a := fun v1431 k0_hw22 => k0_hw22.2

def k0_off69 (v1711 : BitVec 32) : Fin 2 → Nat :=
  let c128_i32_2099 : BitVec 32 := 128#32
  let v1728 : BitVec 32 := Scalar.muli v1711 c128_i32_2099
  let c0_i32_2102 : BitVec 32 := 0#32
  ![v1728.toNat, 0]

def k0_off70 (v4 : BitVec 32) : Fin 1 → Nat :=
  let c12_i32_2105 : BitVec 32 := 12#32
  let v1734 : BitVec 32 := Scalar.addi v4 c12_i32_2105
  let c32_i32_2106 : BitVec 32 := 32#32
  let v1735 : BitVec 32 := Scalar.remsi v1734 c32_i32_2106
  let v1736 : Index := Scalar.indexCast v1735
  ![v1736.toNat]
def k0_off71 (v1457 : BitVec 32) : Fin 2 → Nat :=
  let c128_i32_1780 : BitVec 32 := 128#32
  let v1474 : BitVec 32 := Scalar.muli v1457 c128_i32_1780
  let c0_i32_2109 : BitVec 32 := 0#32
  ![v1474.toNat, 0]

def k0_chk23 (v1457 : BitVec 32) : Prop :=
  (∀ a, (k0_off60 v1457) a + S128x256.size a ≤ S4096x256.size a) ∧
  (∀ a, (k0_off71 v1457) a + S128x256.size a ≤ S4096x256.size a)
theorem k0_off60_inb : ∀ (v1457 : BitVec 32) (k0_hw23 : k0_chk23 v1457), ∀ a, (k0_off60 v1457) a + S128x256.size a ≤ S4096x256.size a := fun v1457 k0_hw23 => k0_hw23.1
theorem k0_off71_inb : ∀ (v1457 : BitVec 32) (k0_hw23 : k0_chk23 v1457), ∀ a, (k0_off71 v1457) a + S128x256.size a ≤ S4096x256.size a := fun v1457 k0_hw23 => k0_hw23.2

def k0_off72 (v1737 : BitVec 32) : Fin 2 → Nat :=
  let c128_i32_2122 : BitVec 32 := 128#32
  let v1754 : BitVec 32 := Scalar.muli v1737 c128_i32_2122
  let c0_i32_2125 : BitVec 32 := 0#32
  ![v1754.toNat, 0]

def k0_dev55 (v8 : BitVec 32) : Nat :=
  let c0_i32_2150 : BitVec 32 := 0#32
  let c1_i32_2149 : BitVec 32 := 1#32
  let v1770 : BitVec 32 := Scalar.muli v8 c1_i32_2149
  let v1771 : BitVec 32 := Scalar.addi c0_i32_2150 v1770
  v1771.toNat
def k0_dev56 (v8 : BitVec 32) : Nat :=
  let c0_i32_2182 : BitVec 32 := 0#32
  let c1_i32_2181 : BitVec 32 := 1#32
  let v1792 : BitVec 32 := Scalar.muli v8 c1_i32_2181
  let v1793 : BitVec 32 := Scalar.addi c0_i32_2182 v1792
  v1793.toNat
def k0_dev57 (v12 : BitVec 32) : Nat :=
  let c0_i32_2214 : BitVec 32 := 0#32
  let c1_i32_2213 : BitVec 32 := 1#32
  let v1814 : BitVec 32 := Scalar.muli v12 c1_i32_2213
  let v1815 : BitVec 32 := Scalar.addi c0_i32_2214 v1814
  v1815.toNat
def k0_dev58 (v12 : BitVec 32) : Nat :=
  let c0_i32_2246 : BitVec 32 := 0#32
  let c1_i32_2245 : BitVec 32 := 1#32
  let v1836 : BitVec 32 := Scalar.muli v12 c1_i32_2245
  let v1837 : BitVec 32 := Scalar.addi c0_i32_2246 v1836
  v1837.toNat
def k0_off73 (v4 : BitVec 32) : Fin 1 → Nat :=
  let c19_i32 : BitVec 32 := 19#32
  let v1848 : BitVec 32 := Scalar.addi v4 c19_i32
  let c32_i32_2255 : BitVec 32 := 32#32
  let v1849 : BitVec 32 := Scalar.remsi v1848 c32_i32_2255
  let v1850 : Index := Scalar.indexCast v1849
  ![v1850.toNat]
def k0_off74 (v1571 : BitVec 32) : Fin 2 → Nat :=
  let c128_i32_1928 : BitVec 32 := 128#32
  let v1588 : BitVec 32 := Scalar.muli v1571 c128_i32_1928
  let c0_i32_2258 : BitVec 32 := 0#32
  ![v1588.toNat, 0]

def k0_chk24 (v1571 : BitVec 32) : Prop :=
  (∀ a, (k0_off63 v1571) a + S128x256.size a ≤ S4096x256.size a) ∧
  (∀ a, (k0_off74 v1571) a + S128x256.size a ≤ S4096x256.size a)
theorem k0_off63_inb : ∀ (v1571 : BitVec 32) (k0_hw24 : k0_chk24 v1571), ∀ a, (k0_off63 v1571) a + S128x256.size a ≤ S4096x256.size a := fun v1571 k0_hw24 => k0_hw24.1
theorem k0_off74_inb : ∀ (v1571 : BitVec 32) (k0_hw24 : k0_chk24 v1571), ∀ a, (k0_off74 v1571) a + S128x256.size a ≤ S4096x256.size a := fun v1571 k0_hw24 => k0_hw24.2

def k0_off75 (v1851 : BitVec 32) : Fin 2 → Nat :=
  let c128_i32_2270 : BitVec 32 := 128#32
  let v1868 : BitVec 32 := Scalar.muli v1851 c128_i32_2270
  let c0_i32_2273 : BitVec 32 := 0#32
  ![v1868.toNat, 0]

def k0_off76 (v4 : BitVec 32) : Fin 1 → Nat :=
  let c13_i32_2276 : BitVec 32 := 13#32
  let v1874 : BitVec 32 := Scalar.addi v4 c13_i32_2276
  let c32_i32_2277 : BitVec 32 := 32#32
  let v1875 : BitVec 32 := Scalar.remsi v1874 c32_i32_2277
  let v1876 : Index := Scalar.indexCast v1875
  ![v1876.toNat]
def k0_off77 (v1597 : BitVec 32) : Fin 2 → Nat :=
  let c128_i32_1951 : BitVec 32 := 128#32
  let v1614 : BitVec 32 := Scalar.muli v1597 c128_i32_1951
  let c0_i32_2280 : BitVec 32 := 0#32
  ![v1614.toNat, 0]

def k0_chk25 (v1597 : BitVec 32) : Prop :=
  (∀ a, (k0_off66 v1597) a + S128x256.size a ≤ S4096x256.size a) ∧
  (∀ a, (k0_off77 v1597) a + S128x256.size a ≤ S4096x256.size a)
theorem k0_off66_inb : ∀ (v1597 : BitVec 32) (k0_hw25 : k0_chk25 v1597), ∀ a, (k0_off66 v1597) a + S128x256.size a ≤ S4096x256.size a := fun v1597 k0_hw25 => k0_hw25.1
theorem k0_off77_inb : ∀ (v1597 : BitVec 32) (k0_hw25 : k0_chk25 v1597), ∀ a, (k0_off77 v1597) a + S128x256.size a ≤ S4096x256.size a := fun v1597 k0_hw25 => k0_hw25.2

def k0_off78 (v1877 : BitVec 32) : Fin 2 → Nat :=
  let c128_i32_2293 : BitVec 32 := 128#32
  let v1894 : BitVec 32 := Scalar.muli v1877 c128_i32_2293
  let c0_i32_2296 : BitVec 32 := 0#32
  ![v1894.toNat, 0]

def k0_dev59 (v8 : BitVec 32) : Nat :=
  let c0_i32_2321 : BitVec 32 := 0#32
  let c1_i32_2320 : BitVec 32 := 1#32
  let v1910 : BitVec 32 := Scalar.muli v8 c1_i32_2320
  let v1911 : BitVec 32 := Scalar.addi c0_i32_2321 v1910
  v1911.toNat
def k0_dev60 (v8 : BitVec 32) : Nat :=
  let c0_i32_2353 : BitVec 32 := 0#32
  let c1_i32_2352 : BitVec 32 := 1#32
  let v1932 : BitVec 32 := Scalar.muli v8 c1_i32_2352
  let v1933 : BitVec 32 := Scalar.addi c0_i32_2353 v1932
  v1933.toNat
def k0_dev61 (v12 : BitVec 32) : Nat :=
  let c0_i32_2385 : BitVec 32 := 0#32
  let c1_i32_2384 : BitVec 32 := 1#32
  let v1954 : BitVec 32 := Scalar.muli v12 c1_i32_2384
  let v1955 : BitVec 32 := Scalar.addi c0_i32_2385 v1954
  v1955.toNat
def k0_dev62 (v12 : BitVec 32) : Nat :=
  let c0_i32_2417 : BitVec 32 := 0#32
  let c1_i32_2416 : BitVec 32 := 1#32
  let v1976 : BitVec 32 := Scalar.muli v12 c1_i32_2416
  let v1977 : BitVec 32 := Scalar.addi c0_i32_2417 v1976
  v1977.toNat

def k0_chk2 (v12 : BitVec 32) : Prop :=
  ((k0_dev1 v12) < nD) ∧
  ((k0_dev4 v12) < nD) ∧
  ((k0_dev6 v12) < nD) ∧
  ((k0_dev9 v12) < nD) ∧
  ((k0_dev10 v12) < nD) ∧
  ((k0_dev13 v12) < nD) ∧
  ((k0_dev14 v12) < nD) ∧
  ((k0_dev17 v12) < nD) ∧
  ((k0_dev18 v12) < nD) ∧
  ((k0_dev21 v12) < nD) ∧
  ((k0_dev22 v12) < nD) ∧
  ((k0_dev25 v12) < nD) ∧
  ((k0_dev26 v12) < nD) ∧
  ((k0_dev29 v12) < nD) ∧
  ((k0_dev30 v12) < nD) ∧
  ((k0_dev33 v12) < nD) ∧
  ((k0_dev34 v12) < nD) ∧
  ((k0_dev37 v12) < nD) ∧
  ((k0_dev38 v12) < nD) ∧
  ((k0_dev41 v12) < nD) ∧
  ((k0_dev42 v12) < nD) ∧
  ((k0_dev45 v12) < nD) ∧
  ((k0_dev46 v12) < nD) ∧
  ((k0_dev49 v12) < nD) ∧
  ((k0_dev50 v12) < nD) ∧
  ((k0_dev53 v12) < nD) ∧
  ((k0_dev54 v12) < nD) ∧
  ((k0_dev57 v12) < nD) ∧
  ((k0_dev58 v12) < nD) ∧
  ((k0_dev61 v12) < nD) ∧
  ((k0_dev62 v12) < nD)
theorem k0_dev1_lt : ∀ (v12 : BitVec 32) (k0_hw2 : k0_chk2 v12), (k0_dev1 v12) < nD := fun v12 k0_hw2 => k0_hw2.1
theorem k0_dev4_lt : ∀ (v12 : BitVec 32) (k0_hw2 : k0_chk2 v12), (k0_dev4 v12) < nD := fun v12 k0_hw2 => k0_hw2.2.1
theorem k0_dev6_lt : ∀ (v12 : BitVec 32) (k0_hw2 : k0_chk2 v12), (k0_dev6 v12) < nD := fun v12 k0_hw2 => k0_hw2.2.2.1
theorem k0_dev9_lt : ∀ (v12 : BitVec 32) (k0_hw2 : k0_chk2 v12), (k0_dev9 v12) < nD := fun v12 k0_hw2 => k0_hw2.2.2.2.1
theorem k0_dev10_lt : ∀ (v12 : BitVec 32) (k0_hw2 : k0_chk2 v12), (k0_dev10 v12) < nD := fun v12 k0_hw2 => k0_hw2.2.2.2.2.1
theorem k0_dev13_lt : ∀ (v12 : BitVec 32) (k0_hw2 : k0_chk2 v12), (k0_dev13 v12) < nD := fun v12 k0_hw2 => k0_hw2.2.2.2.2.2.1
theorem k0_dev14_lt : ∀ (v12 : BitVec 32) (k0_hw2 : k0_chk2 v12), (k0_dev14 v12) < nD := fun v12 k0_hw2 => k0_hw2.2.2.2.2.2.2.1
theorem k0_dev17_lt : ∀ (v12 : BitVec 32) (k0_hw2 : k0_chk2 v12), (k0_dev17 v12) < nD := fun v12 k0_hw2 => k0_hw2.2.2.2.2.2.2.2.1
theorem k0_dev18_lt : ∀ (v12 : BitVec 32) (k0_hw2 : k0_chk2 v12), (k0_dev18 v12) < nD := fun v12 k0_hw2 => k0_hw2.2.2.2.2.2.2.2.2.1
theorem k0_dev21_lt : ∀ (v12 : BitVec 32) (k0_hw2 : k0_chk2 v12), (k0_dev21 v12) < nD := fun v12 k0_hw2 => k0_hw2.2.2.2.2.2.2.2.2.2.1
theorem k0_dev22_lt : ∀ (v12 : BitVec 32) (k0_hw2 : k0_chk2 v12), (k0_dev22 v12) < nD := fun v12 k0_hw2 => k0_hw2.2.2.2.2.2.2.2.2.2.2.1
theorem k0_dev25_lt : ∀ (v12 : BitVec 32) (k0_hw2 : k0_chk2 v12), (k0_dev25 v12) < nD := fun v12 k0_hw2 => k0_hw2.2.2.2.2.2.2.2.2.2.2.2.1
theorem k0_dev26_lt : ∀ (v12 : BitVec 32) (k0_hw2 : k0_chk2 v12), (k0_dev26 v12) < nD := fun v12 k0_hw2 => k0_hw2.2.2.2.2.2.2.2.2.2.2.2.2.1
theorem k0_dev29_lt : ∀ (v12 : BitVec 32) (k0_hw2 : k0_chk2 v12), (k0_dev29 v12) < nD := fun v12 k0_hw2 => k0_hw2.2.2.2.2.2.2.2.2.2.2.2.2.2.1
theorem k0_dev30_lt : ∀ (v12 : BitVec 32) (k0_hw2 : k0_chk2 v12), (k0_dev30 v12) < nD := fun v12 k0_hw2 => k0_hw2.2.2.2.2.2.2.2.2.2.2.2.2.2.2.1
theorem k0_dev33_lt : ∀ (v12 : BitVec 32) (k0_hw2 : k0_chk2 v12), (k0_dev33 v12) < nD := fun v12 k0_hw2 => k0_hw2.2.2.2.2.2.2.2.2.2.2.2.2.2.2.2.1
theorem k0_dev34_lt : ∀ (v12 : BitVec 32) (k0_hw2 : k0_chk2 v12), (k0_dev34 v12) < nD := fun v12 k0_hw2 => k0_hw2.2.2.2.2.2.2.2.2.2.2.2.2.2.2.2.2.1
theorem k0_dev37_lt : ∀ (v12 : BitVec 32) (k0_hw2 : k0_chk2 v12), (k0_dev37 v12) < nD := fun v12 k0_hw2 => k0_hw2.2.2.2.2.2.2.2.2.2.2.2.2.2.2.2.2.2.1
theorem k0_dev38_lt : ∀ (v12 : BitVec 32) (k0_hw2 : k0_chk2 v12), (k0_dev38 v12) < nD := fun v12 k0_hw2 => k0_hw2.2.2.2.2.2.2.2.2.2.2.2.2.2.2.2.2.2.2.1
theorem k0_dev41_lt : ∀ (v12 : BitVec 32) (k0_hw2 : k0_chk2 v12), (k0_dev41 v12) < nD := fun v12 k0_hw2 => k0_hw2.2.2.2.2.2.2.2.2.2.2.2.2.2.2.2.2.2.2.2.1
theorem k0_dev42_lt : ∀ (v12 : BitVec 32) (k0_hw2 : k0_chk2 v12), (k0_dev42 v12) < nD := fun v12 k0_hw2 => k0_hw2.2.2.2.2.2.2.2.2.2.2.2.2.2.2.2.2.2.2.2.2.1
theorem k0_dev45_lt : ∀ (v12 : BitVec 32) (k0_hw2 : k0_chk2 v12), (k0_dev45 v12) < nD := fun v12 k0_hw2 => k0_hw2.2.2.2.2.2.2.2.2.2.2.2.2.2.2.2.2.2.2.2.2.2.1
theorem k0_dev46_lt : ∀ (v12 : BitVec 32) (k0_hw2 : k0_chk2 v12), (k0_dev46 v12) < nD := fun v12 k0_hw2 => k0_hw2.2.2.2.2.2.2.2.2.2.2.2.2.2.2.2.2.2.2.2.2.2.2.1
theorem k0_dev49_lt : ∀ (v12 : BitVec 32) (k0_hw2 : k0_chk2 v12), (k0_dev49 v12) < nD := fun v12 k0_hw2 => k0_hw2.2.2.2.2.2.2.2.2.2.2.2.2.2.2.2.2.2.2.2.2.2.2.2.1
theorem k0_dev50_lt : ∀ (v12 : BitVec 32) (k0_hw2 : k0_chk2 v12), (k0_dev50 v12) < nD := fun v12 k0_hw2 => k0_hw2.2.2.2.2.2.2.2.2.2.2.2.2.2.2.2.2.2.2.2.2.2.2.2.2.1
theorem k0_dev53_lt : ∀ (v12 : BitVec 32) (k0_hw2 : k0_chk2 v12), (k0_dev53 v12) < nD := fun v12 k0_hw2 => k0_hw2.2.2.2.2.2.2.2.2.2.2.2.2.2.2.2.2.2.2.2.2.2.2.2.2.2.1
theorem k0_dev54_lt : ∀ (v12 : BitVec 32) (k0_hw2 : k0_chk2 v12), (k0_dev54 v12) < nD := fun v12 k0_hw2 => k0_hw2.2.2.2.2.2.2.2.2.2.2.2.2.2.2.2.2.2.2.2.2.2.2.2.2.2.2.1
theorem k0_dev57_lt : ∀ (v12 : BitVec 32) (k0_hw2 : k0_chk2 v12), (k0_dev57 v12) < nD := fun v12 k0_hw2 => k0_hw2.2.2.2.2.2.2.2.2.2.2.2.2.2.2.2.2.2.2.2.2.2.2.2.2.2.2.2.1
theorem k0_dev58_lt : ∀ (v12 : BitVec 32) (k0_hw2 : k0_chk2 v12), (k0_dev58 v12) < nD := fun v12 k0_hw2 => k0_hw2.2.2.2.2.2.2.2.2.2.2.2.2.2.2.2.2.2.2.2.2.2.2.2.2.2.2.2.2.1
theorem k0_dev61_lt : ∀ (v12 : BitVec 32) (k0_hw2 : k0_chk2 v12), (k0_dev61 v12) < nD := fun v12 k0_hw2 => k0_hw2.2.2.2.2.2.2.2.2.2.2.2.2.2.2.2.2.2.2.2.2.2.2.2.2.2.2.2.2.2.1
theorem k0_dev62_lt : ∀ (v12 : BitVec 32) (k0_hw2 : k0_chk2 v12), (k0_dev62 v12) < nD := fun v12 k0_hw2 => k0_hw2.2.2.2.2.2.2.2.2.2.2.2.2.2.2.2.2.2.2.2.2.2.2.2.2.2.2.2.2.2.2

def k0_off79 (v4 : BitVec 32) : Fin 1 → Nat :=
  let c18_i32 : BitVec 32 := 18#32
  let v1988 : BitVec 32 := Scalar.addi v4 c18_i32
  let c32_i32_2426 : BitVec 32 := 32#32
  let v1989 : BitVec 32 := Scalar.remsi v1988 c32_i32_2426
  let v1990 : Index := Scalar.indexCast v1989
  ![v1990.toNat]
def k0_off80 (v1711 : BitVec 32) : Fin 2 → Nat :=
  let c128_i32_2099 : BitVec 32 := 128#32
  let v1728 : BitVec 32 := Scalar.muli v1711 c128_i32_2099
  let c0_i32_2429 : BitVec 32 := 0#32
  ![v1728.toNat, 0]

def k0_chk26 (v1711 : BitVec 32) : Prop :=
  (∀ a, (k0_off69 v1711) a + S128x256.size a ≤ S4096x256.size a) ∧
  (∀ a, (k0_off80 v1711) a + S128x256.size a ≤ S4096x256.size a)
theorem k0_off69_inb : ∀ (v1711 : BitVec 32) (k0_hw26 : k0_chk26 v1711), ∀ a, (k0_off69 v1711) a + S128x256.size a ≤ S4096x256.size a := fun v1711 k0_hw26 => k0_hw26.1
theorem k0_off80_inb : ∀ (v1711 : BitVec 32) (k0_hw26 : k0_chk26 v1711), ∀ a, (k0_off80 v1711) a + S128x256.size a ≤ S4096x256.size a := fun v1711 k0_hw26 => k0_hw26.2

def k0_off81 (v1991 : BitVec 32) : Fin 2 → Nat :=
  let c128_i32_2441 : BitVec 32 := 128#32
  let v2008 : BitVec 32 := Scalar.muli v1991 c128_i32_2441
  let c0_i32_2444 : BitVec 32 := 0#32
  ![v2008.toNat, 0]

def k0_off82 (v4 : BitVec 32) : Fin 1 → Nat :=
  let c14_i32_2447 : BitVec 32 := 14#32
  let v2014 : BitVec 32 := Scalar.addi v4 c14_i32_2447
  let c32_i32_2448 : BitVec 32 := 32#32
  let v2015 : BitVec 32 := Scalar.remsi v2014 c32_i32_2448
  let v2016 : Index := Scalar.indexCast v2015
  ![v2016.toNat]
def k0_off83 (v1737 : BitVec 32) : Fin 2 → Nat :=
  let c128_i32_2122 : BitVec 32 := 128#32
  let v1754 : BitVec 32 := Scalar.muli v1737 c128_i32_2122
  let c0_i32_2451 : BitVec 32 := 0#32
  ![v1754.toNat, 0]

def k0_chk27 (v1737 : BitVec 32) : Prop :=
  (∀ a, (k0_off72 v1737) a + S128x256.size a ≤ S4096x256.size a) ∧
  (∀ a, (k0_off83 v1737) a + S128x256.size a ≤ S4096x256.size a)
theorem k0_off72_inb : ∀ (v1737 : BitVec 32) (k0_hw27 : k0_chk27 v1737), ∀ a, (k0_off72 v1737) a + S128x256.size a ≤ S4096x256.size a := fun v1737 k0_hw27 => k0_hw27.1
theorem k0_off83_inb : ∀ (v1737 : BitVec 32) (k0_hw27 : k0_chk27 v1737), ∀ a, (k0_off83 v1737) a + S128x256.size a ≤ S4096x256.size a := fun v1737 k0_hw27 => k0_hw27.2

def k0_off84 (v2017 : BitVec 32) : Fin 2 → Nat :=
  let c128_i32_2464 : BitVec 32 := 128#32
  let v2034 : BitVec 32 := Scalar.muli v2017 c128_i32_2464
  let c0_i32_2467 : BitVec 32 := 0#32
  ![v2034.toNat, 0]

def k0_dev63 (v8 : BitVec 32) : Nat :=
  let c0_i32_2492 : BitVec 32 := 0#32
  let c1_i32_2491 : BitVec 32 := 1#32
  let v2050 : BitVec 32 := Scalar.muli v8 c1_i32_2491
  let v2051 : BitVec 32 := Scalar.addi c0_i32_2492 v2050
  v2051.toNat
def k0_dev64 (v8 : BitVec 32) : Nat :=
  let c0_i32_2524 : BitVec 32 := 0#32
  let c1_i32_2523 : BitVec 32 := 1#32
  let v2072 : BitVec 32 := Scalar.muli v8 c1_i32_2523
  let v2073 : BitVec 32 := Scalar.addi c0_i32_2524 v2072
  v2073.toNat

def k0_chk3_0 (v8 : BitVec 32) : Prop :=
  ((k0_dev2 v8) < nD) ∧
  ((k0_dev3 v8) < nD) ∧
  ((k0_dev5 v8) < nD) ∧
  ((k0_dev7 v8) < nD) ∧
  ((k0_dev8 v8) < nD) ∧
  ((k0_dev11 v8) < nD) ∧
  ((k0_dev12 v8) < nD) ∧
  ((k0_dev15 v8) < nD) ∧
  ((k0_dev16 v8) < nD) ∧
  ((k0_dev19 v8) < nD) ∧
  ((k0_dev20 v8) < nD) ∧
  ((k0_dev23 v8) < nD) ∧
  ((k0_dev24 v8) < nD) ∧
  ((k0_dev27 v8) < nD) ∧
  ((k0_dev28 v8) < nD) ∧
  ((k0_dev31 v8) < nD) ∧
  ((k0_dev32 v8) < nD) ∧
  ((k0_dev35 v8) < nD) ∧
  ((k0_dev36 v8) < nD) ∧
  ((k0_dev39 v8) < nD) ∧
  ((k0_dev40 v8) < nD) ∧
  ((k0_dev43 v8) < nD) ∧
  ((k0_dev44 v8) < nD) ∧
  ((k0_dev47 v8) < nD) ∧
  ((k0_dev48 v8) < nD) ∧
  ((k0_dev51 v8) < nD) ∧
  ((k0_dev52 v8) < nD) ∧
  ((k0_dev55 v8) < nD) ∧
  ((k0_dev56 v8) < nD) ∧
  ((k0_dev59 v8) < nD) ∧
  ((k0_dev60 v8) < nD) ∧
  ((k0_dev63 v8) < nD)
def k0_chk3_1 (v8 : BitVec 32) : Prop :=
  ((k0_dev64 v8) < nD)
def k0_chk3 (v8 : BitVec 32) : Prop :=
  k0_chk3_0 v8 ∧
  k0_chk3_1 v8
theorem k0_dev2_lt : ∀ (v8 : BitVec 32) (k0_hw3 : k0_chk3 v8), (k0_dev2 v8) < nD := fun v8 k0_hw3 => k0_hw3.1.1
theorem k0_dev3_lt : ∀ (v8 : BitVec 32) (k0_hw3 : k0_chk3 v8), (k0_dev3 v8) < nD := fun v8 k0_hw3 => k0_hw3.1.2.1
theorem k0_dev5_lt : ∀ (v8 : BitVec 32) (k0_hw3 : k0_chk3 v8), (k0_dev5 v8) < nD := fun v8 k0_hw3 => k0_hw3.1.2.2.1
theorem k0_dev7_lt : ∀ (v8 : BitVec 32) (k0_hw3 : k0_chk3 v8), (k0_dev7 v8) < nD := fun v8 k0_hw3 => k0_hw3.1.2.2.2.1
theorem k0_dev8_lt : ∀ (v8 : BitVec 32) (k0_hw3 : k0_chk3 v8), (k0_dev8 v8) < nD := fun v8 k0_hw3 => k0_hw3.1.2.2.2.2.1
theorem k0_dev11_lt : ∀ (v8 : BitVec 32) (k0_hw3 : k0_chk3 v8), (k0_dev11 v8) < nD := fun v8 k0_hw3 => k0_hw3.1.2.2.2.2.2.1
theorem k0_dev12_lt : ∀ (v8 : BitVec 32) (k0_hw3 : k0_chk3 v8), (k0_dev12 v8) < nD := fun v8 k0_hw3 => k0_hw3.1.2.2.2.2.2.2.1
theorem k0_dev15_lt : ∀ (v8 : BitVec 32) (k0_hw3 : k0_chk3 v8), (k0_dev15 v8) < nD := fun v8 k0_hw3 => k0_hw3.1.2.2.2.2.2.2.2.1
theorem k0_dev16_lt : ∀ (v8 : BitVec 32) (k0_hw3 : k0_chk3 v8), (k0_dev16 v8) < nD := fun v8 k0_hw3 => k0_hw3.1.2.2.2.2.2.2.2.2.1
theorem k0_dev19_lt : ∀ (v8 : BitVec 32) (k0_hw3 : k0_chk3 v8), (k0_dev19 v8) < nD := fun v8 k0_hw3 => k0_hw3.1.2.2.2.2.2.2.2.2.2.1
theorem k0_dev20_lt : ∀ (v8 : BitVec 32) (k0_hw3 : k0_chk3 v8), (k0_dev20 v8) < nD := fun v8 k0_hw3 => k0_hw3.1.2.2.2.2.2.2.2.2.2.2.1
theorem k0_dev23_lt : ∀ (v8 : BitVec 32) (k0_hw3 : k0_chk3 v8), (k0_dev23 v8) < nD := fun v8 k0_hw3 => k0_hw3.1.2.2.2.2.2.2.2.2.2.2.2.1
theorem k0_dev24_lt : ∀ (v8 : BitVec 32) (k0_hw3 : k0_chk3 v8), (k0_dev24 v8) < nD := fun v8 k0_hw3 => k0_hw3.1.2.2.2.2.2.2.2.2.2.2.2.2.1
theorem k0_dev27_lt : ∀ (v8 : BitVec 32) (k0_hw3 : k0_chk3 v8), (k0_dev27 v8) < nD := fun v8 k0_hw3 => k0_hw3.1.2.2.2.2.2.2.2.2.2.2.2.2.2.1
theorem k0_dev28_lt : ∀ (v8 : BitVec 32) (k0_hw3 : k0_chk3 v8), (k0_dev28 v8) < nD := fun v8 k0_hw3 => k0_hw3.1.2.2.2.2.2.2.2.2.2.2.2.2.2.2.1
theorem k0_dev31_lt : ∀ (v8 : BitVec 32) (k0_hw3 : k0_chk3 v8), (k0_dev31 v8) < nD := fun v8 k0_hw3 => k0_hw3.1.2.2.2.2.2.2.2.2.2.2.2.2.2.2.2.1
theorem k0_dev32_lt : ∀ (v8 : BitVec 32) (k0_hw3 : k0_chk3 v8), (k0_dev32 v8) < nD := fun v8 k0_hw3 => k0_hw3.1.2.2.2.2.2.2.2.2.2.2.2.2.2.2.2.2.1
theorem k0_dev35_lt : ∀ (v8 : BitVec 32) (k0_hw3 : k0_chk3 v8), (k0_dev35 v8) < nD := fun v8 k0_hw3 => k0_hw3.1.2.2.2.2.2.2.2.2.2.2.2.2.2.2.2.2.2.1
theorem k0_dev36_lt : ∀ (v8 : BitVec 32) (k0_hw3 : k0_chk3 v8), (k0_dev36 v8) < nD := fun v8 k0_hw3 => k0_hw3.1.2.2.2.2.2.2.2.2.2.2.2.2.2.2.2.2.2.2.1
theorem k0_dev39_lt : ∀ (v8 : BitVec 32) (k0_hw3 : k0_chk3 v8), (k0_dev39 v8) < nD := fun v8 k0_hw3 => k0_hw3.1.2.2.2.2.2.2.2.2.2.2.2.2.2.2.2.2.2.2.2.1
theorem k0_dev40_lt : ∀ (v8 : BitVec 32) (k0_hw3 : k0_chk3 v8), (k0_dev40 v8) < nD := fun v8 k0_hw3 => k0_hw3.1.2.2.2.2.2.2.2.2.2.2.2.2.2.2.2.2.2.2.2.2.1
theorem k0_dev43_lt : ∀ (v8 : BitVec 32) (k0_hw3 : k0_chk3 v8), (k0_dev43 v8) < nD := fun v8 k0_hw3 => k0_hw3.1.2.2.2.2.2.2.2.2.2.2.2.2.2.2.2.2.2.2.2.2.2.1
theorem k0_dev44_lt : ∀ (v8 : BitVec 32) (k0_hw3 : k0_chk3 v8), (k0_dev44 v8) < nD := fun v8 k0_hw3 => k0_hw3.1.2.2.2.2.2.2.2.2.2.2.2.2.2.2.2.2.2.2.2.2.2.2.1
theorem k0_dev47_lt : ∀ (v8 : BitVec 32) (k0_hw3 : k0_chk3 v8), (k0_dev47 v8) < nD := fun v8 k0_hw3 => k0_hw3.1.2.2.2.2.2.2.2.2.2.2.2.2.2.2.2.2.2.2.2.2.2.2.2.1
theorem k0_dev48_lt : ∀ (v8 : BitVec 32) (k0_hw3 : k0_chk3 v8), (k0_dev48 v8) < nD := fun v8 k0_hw3 => k0_hw3.1.2.2.2.2.2.2.2.2.2.2.2.2.2.2.2.2.2.2.2.2.2.2.2.2.1
theorem k0_dev51_lt : ∀ (v8 : BitVec 32) (k0_hw3 : k0_chk3 v8), (k0_dev51 v8) < nD := fun v8 k0_hw3 => k0_hw3.1.2.2.2.2.2.2.2.2.2.2.2.2.2.2.2.2.2.2.2.2.2.2.2.2.2.1
theorem k0_dev52_lt : ∀ (v8 : BitVec 32) (k0_hw3 : k0_chk3 v8), (k0_dev52 v8) < nD := fun v8 k0_hw3 => k0_hw3.1.2.2.2.2.2.2.2.2.2.2.2.2.2.2.2.2.2.2.2.2.2.2.2.2.2.2.1
theorem k0_dev55_lt : ∀ (v8 : BitVec 32) (k0_hw3 : k0_chk3 v8), (k0_dev55 v8) < nD := fun v8 k0_hw3 => k0_hw3.1.2.2.2.2.2.2.2.2.2.2.2.2.2.2.2.2.2.2.2.2.2.2.2.2.2.2.2.1
theorem k0_dev56_lt : ∀ (v8 : BitVec 32) (k0_hw3 : k0_chk3 v8), (k0_dev56 v8) < nD := fun v8 k0_hw3 => k0_hw3.1.2.2.2.2.2.2.2.2.2.2.2.2.2.2.2.2.2.2.2.2.2.2.2.2.2.2.2.2.1
theorem k0_dev59_lt : ∀ (v8 : BitVec 32) (k0_hw3 : k0_chk3 v8), (k0_dev59 v8) < nD := fun v8 k0_hw3 => k0_hw3.1.2.2.2.2.2.2.2.2.2.2.2.2.2.2.2.2.2.2.2.2.2.2.2.2.2.2.2.2.2.1
theorem k0_dev60_lt : ∀ (v8 : BitVec 32) (k0_hw3 : k0_chk3 v8), (k0_dev60 v8) < nD := fun v8 k0_hw3 => k0_hw3.1.2.2.2.2.2.2.2.2.2.2.2.2.2.2.2.2.2.2.2.2.2.2.2.2.2.2.2.2.2.2.1
theorem k0_dev63_lt : ∀ (v8 : BitVec 32) (k0_hw3 : k0_chk3 v8), (k0_dev63 v8) < nD := fun v8 k0_hw3 => k0_hw3.1.2.2.2.2.2.2.2.2.2.2.2.2.2.2.2.2.2.2.2.2.2.2.2.2.2.2.2.2.2.2.2
theorem k0_dev64_lt : ∀ (v8 : BitVec 32) (k0_hw3 : k0_chk3 v8), (k0_dev64 v8) < nD := fun v8 k0_hw3 => k0_hw3.2

def k0_off85 (v4 : BitVec 32) : Fin 1 → Nat :=
  let c17_i32 : BitVec 32 := 17#32
  let v2104 : BitVec 32 := Scalar.addi v4 c17_i32
  let c32_i32_2565 : BitVec 32 := 32#32
  let v2105 : BitVec 32 := Scalar.remsi v2104 c32_i32_2565
  let v2106 : Index := Scalar.indexCast v2105
  ![v2106.toNat]
def k0_off86 (v1851 : BitVec 32) : Fin 2 → Nat :=
  let c128_i32_2270 : BitVec 32 := 128#32
  let v1868 : BitVec 32 := Scalar.muli v1851 c128_i32_2270
  let c0_i32_2568 : BitVec 32 := 0#32
  ![v1868.toNat, 0]

def k0_chk28 (v1851 : BitVec 32) : Prop :=
  (∀ a, (k0_off75 v1851) a + S128x256.size a ≤ S4096x256.size a) ∧
  (∀ a, (k0_off86 v1851) a + S128x256.size a ≤ S4096x256.size a)
theorem k0_off75_inb : ∀ (v1851 : BitVec 32) (k0_hw28 : k0_chk28 v1851), ∀ a, (k0_off75 v1851) a + S128x256.size a ≤ S4096x256.size a := fun v1851 k0_hw28 => k0_hw28.1
theorem k0_off86_inb : ∀ (v1851 : BitVec 32) (k0_hw28 : k0_chk28 v1851), ∀ a, (k0_off86 v1851) a + S128x256.size a ≤ S4096x256.size a := fun v1851 k0_hw28 => k0_hw28.2

def k0_off87 (v2107 : BitVec 32) : Fin 2 → Nat :=
  let c128_i32_2580 : BitVec 32 := 128#32
  let v2124 : BitVec 32 := Scalar.muli v2107 c128_i32_2580
  let c0_i32_2583 : BitVec 32 := 0#32
  ![v2124.toNat, 0]

def k0_off88 (v4 : BitVec 32) : Fin 1 → Nat :=
  let c15_i32_2586 : BitVec 32 := 15#32
  let v2130 : BitVec 32 := Scalar.addi v4 c15_i32_2586
  let c32_i32_2587 : BitVec 32 := 32#32
  let v2131 : BitVec 32 := Scalar.remsi v2130 c32_i32_2587
  let v2132 : Index := Scalar.indexCast v2131
  ![v2132.toNat]
def k0_off89 (v1877 : BitVec 32) : Fin 2 → Nat :=
  let c128_i32_2293 : BitVec 32 := 128#32
  let v1894 : BitVec 32 := Scalar.muli v1877 c128_i32_2293
  let c0_i32_2590 : BitVec 32 := 0#32
  ![v1894.toNat, 0]

def k0_chk29 (v1877 : BitVec 32) : Prop :=
  (∀ a, (k0_off78 v1877) a + S128x256.size a ≤ S4096x256.size a) ∧
  (∀ a, (k0_off89 v1877) a + S128x256.size a ≤ S4096x256.size a)
theorem k0_off78_inb : ∀ (v1877 : BitVec 32) (k0_hw29 : k0_chk29 v1877), ∀ a, (k0_off78 v1877) a + S128x256.size a ≤ S4096x256.size a := fun v1877 k0_hw29 => k0_hw29.1
theorem k0_off89_inb : ∀ (v1877 : BitVec 32) (k0_hw29 : k0_chk29 v1877), ∀ a, (k0_off89 v1877) a + S128x256.size a ≤ S4096x256.size a := fun v1877 k0_hw29 => k0_hw29.2

def k0_off90 (v2133 : BitVec 32) : Fin 2 → Nat :=
  let c128_i32_2603 : BitVec 32 := 128#32
  let v2150 : BitVec 32 := Scalar.muli v2133 c128_i32_2603
  let c0_i32_2606 : BitVec 32 := 0#32
  ![v2150.toNat, 0]

def k0_off91 (v4 : BitVec 32) : Fin 1 → Nat :=
  let c16_i32 : BitVec 32 := 16#32
  let v2176 : BitVec 32 := Scalar.addi v4 c16_i32
  let c32_i32_2641 : BitVec 32 := 32#32
  let v2177 : BitVec 32 := Scalar.remsi v2176 c32_i32_2641
  let v2178 : Index := Scalar.indexCast v2177
  ![v2178.toNat]

def k0_chk1 (v4 : BitVec 32) : Prop :=
  (∀ (r : Fin 2), ∀ a, (k0_off2 v4 (BitVec.ofNat 32 (1 + 30 * r.val))) a + S1.size a ≤ S32.size a) ∧
  (∀ a, (k0_off4 v4) a + S1.size a ≤ S32.size a) ∧
  (∀ a, (k0_off6 v4) a + S1.size a ≤ S32.size a) ∧
  (∀ a, (k0_off8 v4) a + S1.size a ≤ S32.size a) ∧
  (∀ a, (k0_off10 v4) a + S1.size a ≤ S32.size a) ∧
  (∀ a, (k0_off13 v4) a + S1.size a ≤ S32.size a) ∧
  (∀ a, (k0_off16 v4) a + S1.size a ≤ S32.size a) ∧
  (∀ a, (k0_off19 v4) a + S1.size a ≤ S32.size a) ∧
  (∀ a, (k0_off22 v4) a + S1.size a ≤ S32.size a) ∧
  (∀ a, (k0_off25 v4) a + S1.size a ≤ S32.size a) ∧
  (∀ a, (k0_off28 v4) a + S1.size a ≤ S32.size a) ∧
  (∀ a, (k0_off31 v4) a + S1.size a ≤ S32.size a) ∧
  (∀ a, (k0_off34 v4) a + S1.size a ≤ S32.size a) ∧
  (∀ a, (k0_off37 v4) a + S1.size a ≤ S32.size a) ∧
  (∀ a, (k0_off40 v4) a + S1.size a ≤ S32.size a) ∧
  (∀ a, (k0_off43 v4) a + S1.size a ≤ S32.size a) ∧
  (∀ a, (k0_off46 v4) a + S1.size a ≤ S32.size a) ∧
  (∀ a, (k0_off49 v4) a + S1.size a ≤ S32.size a) ∧
  (∀ a, (k0_off52 v4) a + S1.size a ≤ S32.size a) ∧
  (∀ a, (k0_off55 v4) a + S1.size a ≤ S32.size a) ∧
  (∀ a, (k0_off58 v4) a + S1.size a ≤ S32.size a) ∧
  (∀ a, (k0_off61 v4) a + S1.size a ≤ S32.size a) ∧
  (∀ a, (k0_off64 v4) a + S1.size a ≤ S32.size a) ∧
  (∀ a, (k0_off67 v4) a + S1.size a ≤ S32.size a) ∧
  (∀ a, (k0_off70 v4) a + S1.size a ≤ S32.size a) ∧
  (∀ a, (k0_off73 v4) a + S1.size a ≤ S32.size a) ∧
  (∀ a, (k0_off76 v4) a + S1.size a ≤ S32.size a) ∧
  (∀ a, (k0_off79 v4) a + S1.size a ≤ S32.size a) ∧
  (∀ a, (k0_off82 v4) a + S1.size a ≤ S32.size a) ∧
  (∀ a, (k0_off85 v4) a + S1.size a ≤ S32.size a) ∧
  (∀ a, (k0_off88 v4) a + S1.size a ≤ S32.size a) ∧
  (∀ a, (k0_off91 v4) a + S1.size a ≤ S32.size a)
theorem k0_off2_inb : ∀ (v4 : BitVec 32) (k0_hw1 : k0_chk1 v4), ∀ (r : Fin 2), ∀ a, (k0_off2 v4 (BitVec.ofNat 32 (1 + 30 * r.val))) a + S1.size a ≤ S32.size a := fun v4 k0_hw1 r => k0_hw1.1 r
theorem k0_off4_inb : ∀ (v4 : BitVec 32) (k0_hw1 : k0_chk1 v4), ∀ a, (k0_off4 v4) a + S1.size a ≤ S32.size a := fun v4 k0_hw1 => k0_hw1.2.1
theorem k0_off6_inb : ∀ (v4 : BitVec 32) (k0_hw1 : k0_chk1 v4), ∀ a, (k0_off6 v4) a + S1.size a ≤ S32.size a := fun v4 k0_hw1 => k0_hw1.2.2.1
theorem k0_off8_inb : ∀ (v4 : BitVec 32) (k0_hw1 : k0_chk1 v4), ∀ a, (k0_off8 v4) a + S1.size a ≤ S32.size a := fun v4 k0_hw1 => k0_hw1.2.2.2.1
theorem k0_off10_inb : ∀ (v4 : BitVec 32) (k0_hw1 : k0_chk1 v4), ∀ a, (k0_off10 v4) a + S1.size a ≤ S32.size a := fun v4 k0_hw1 => k0_hw1.2.2.2.2.1
theorem k0_off13_inb : ∀ (v4 : BitVec 32) (k0_hw1 : k0_chk1 v4), ∀ a, (k0_off13 v4) a + S1.size a ≤ S32.size a := fun v4 k0_hw1 => k0_hw1.2.2.2.2.2.1
theorem k0_off16_inb : ∀ (v4 : BitVec 32) (k0_hw1 : k0_chk1 v4), ∀ a, (k0_off16 v4) a + S1.size a ≤ S32.size a := fun v4 k0_hw1 => k0_hw1.2.2.2.2.2.2.1
theorem k0_off19_inb : ∀ (v4 : BitVec 32) (k0_hw1 : k0_chk1 v4), ∀ a, (k0_off19 v4) a + S1.size a ≤ S32.size a := fun v4 k0_hw1 => k0_hw1.2.2.2.2.2.2.2.1
theorem k0_off22_inb : ∀ (v4 : BitVec 32) (k0_hw1 : k0_chk1 v4), ∀ a, (k0_off22 v4) a + S1.size a ≤ S32.size a := fun v4 k0_hw1 => k0_hw1.2.2.2.2.2.2.2.2.1
theorem k0_off25_inb : ∀ (v4 : BitVec 32) (k0_hw1 : k0_chk1 v4), ∀ a, (k0_off25 v4) a + S1.size a ≤ S32.size a := fun v4 k0_hw1 => k0_hw1.2.2.2.2.2.2.2.2.2.1
theorem k0_off28_inb : ∀ (v4 : BitVec 32) (k0_hw1 : k0_chk1 v4), ∀ a, (k0_off28 v4) a + S1.size a ≤ S32.size a := fun v4 k0_hw1 => k0_hw1.2.2.2.2.2.2.2.2.2.2.1
theorem k0_off31_inb : ∀ (v4 : BitVec 32) (k0_hw1 : k0_chk1 v4), ∀ a, (k0_off31 v4) a + S1.size a ≤ S32.size a := fun v4 k0_hw1 => k0_hw1.2.2.2.2.2.2.2.2.2.2.2.1
theorem k0_off34_inb : ∀ (v4 : BitVec 32) (k0_hw1 : k0_chk1 v4), ∀ a, (k0_off34 v4) a + S1.size a ≤ S32.size a := fun v4 k0_hw1 => k0_hw1.2.2.2.2.2.2.2.2.2.2.2.2.1
theorem k0_off37_inb : ∀ (v4 : BitVec 32) (k0_hw1 : k0_chk1 v4), ∀ a, (k0_off37 v4) a + S1.size a ≤ S32.size a := fun v4 k0_hw1 => k0_hw1.2.2.2.2.2.2.2.2.2.2.2.2.2.1
theorem k0_off40_inb : ∀ (v4 : BitVec 32) (k0_hw1 : k0_chk1 v4), ∀ a, (k0_off40 v4) a + S1.size a ≤ S32.size a := fun v4 k0_hw1 => k0_hw1.2.2.2.2.2.2.2.2.2.2.2.2.2.2.1
theorem k0_off43_inb : ∀ (v4 : BitVec 32) (k0_hw1 : k0_chk1 v4), ∀ a, (k0_off43 v4) a + S1.size a ≤ S32.size a := fun v4 k0_hw1 => k0_hw1.2.2.2.2.2.2.2.2.2.2.2.2.2.2.2.1
theorem k0_off46_inb : ∀ (v4 : BitVec 32) (k0_hw1 : k0_chk1 v4), ∀ a, (k0_off46 v4) a + S1.size a ≤ S32.size a := fun v4 k0_hw1 => k0_hw1.2.2.2.2.2.2.2.2.2.2.2.2.2.2.2.2.1
theorem k0_off49_inb : ∀ (v4 : BitVec 32) (k0_hw1 : k0_chk1 v4), ∀ a, (k0_off49 v4) a + S1.size a ≤ S32.size a := fun v4 k0_hw1 => k0_hw1.2.2.2.2.2.2.2.2.2.2.2.2.2.2.2.2.2.1
theorem k0_off52_inb : ∀ (v4 : BitVec 32) (k0_hw1 : k0_chk1 v4), ∀ a, (k0_off52 v4) a + S1.size a ≤ S32.size a := fun v4 k0_hw1 => k0_hw1.2.2.2.2.2.2.2.2.2.2.2.2.2.2.2.2.2.2.1
theorem k0_off55_inb : ∀ (v4 : BitVec 32) (k0_hw1 : k0_chk1 v4), ∀ a, (k0_off55 v4) a + S1.size a ≤ S32.size a := fun v4 k0_hw1 => k0_hw1.2.2.2.2.2.2.2.2.2.2.2.2.2.2.2.2.2.2.2.1
theorem k0_off58_inb : ∀ (v4 : BitVec 32) (k0_hw1 : k0_chk1 v4), ∀ a, (k0_off58 v4) a + S1.size a ≤ S32.size a := fun v4 k0_hw1 => k0_hw1.2.2.2.2.2.2.2.2.2.2.2.2.2.2.2.2.2.2.2.2.1
theorem k0_off61_inb : ∀ (v4 : BitVec 32) (k0_hw1 : k0_chk1 v4), ∀ a, (k0_off61 v4) a + S1.size a ≤ S32.size a := fun v4 k0_hw1 => k0_hw1.2.2.2.2.2.2.2.2.2.2.2.2.2.2.2.2.2.2.2.2.2.1
theorem k0_off64_inb : ∀ (v4 : BitVec 32) (k0_hw1 : k0_chk1 v4), ∀ a, (k0_off64 v4) a + S1.size a ≤ S32.size a := fun v4 k0_hw1 => k0_hw1.2.2.2.2.2.2.2.2.2.2.2.2.2.2.2.2.2.2.2.2.2.2.1
theorem k0_off67_inb : ∀ (v4 : BitVec 32) (k0_hw1 : k0_chk1 v4), ∀ a, (k0_off67 v4) a + S1.size a ≤ S32.size a := fun v4 k0_hw1 => k0_hw1.2.2.2.2.2.2.2.2.2.2.2.2.2.2.2.2.2.2.2.2.2.2.2.1
theorem k0_off70_inb : ∀ (v4 : BitVec 32) (k0_hw1 : k0_chk1 v4), ∀ a, (k0_off70 v4) a + S1.size a ≤ S32.size a := fun v4 k0_hw1 => k0_hw1.2.2.2.2.2.2.2.2.2.2.2.2.2.2.2.2.2.2.2.2.2.2.2.2.1
theorem k0_off73_inb : ∀ (v4 : BitVec 32) (k0_hw1 : k0_chk1 v4), ∀ a, (k0_off73 v4) a + S1.size a ≤ S32.size a := fun v4 k0_hw1 => k0_hw1.2.2.2.2.2.2.2.2.2.2.2.2.2.2.2.2.2.2.2.2.2.2.2.2.2.1
theorem k0_off76_inb : ∀ (v4 : BitVec 32) (k0_hw1 : k0_chk1 v4), ∀ a, (k0_off76 v4) a + S1.size a ≤ S32.size a := fun v4 k0_hw1 => k0_hw1.2.2.2.2.2.2.2.2.2.2.2.2.2.2.2.2.2.2.2.2.2.2.2.2.2.2.1
theorem k0_off79_inb : ∀ (v4 : BitVec 32) (k0_hw1 : k0_chk1 v4), ∀ a, (k0_off79 v4) a + S1.size a ≤ S32.size a := fun v4 k0_hw1 => k0_hw1.2.2.2.2.2.2.2.2.2.2.2.2.2.2.2.2.2.2.2.2.2.2.2.2.2.2.2.1
theorem k0_off82_inb : ∀ (v4 : BitVec 32) (k0_hw1 : k0_chk1 v4), ∀ a, (k0_off82 v4) a + S1.size a ≤ S32.size a := fun v4 k0_hw1 => k0_hw1.2.2.2.2.2.2.2.2.2.2.2.2.2.2.2.2.2.2.2.2.2.2.2.2.2.2.2.2.1
theorem k0_off85_inb : ∀ (v4 : BitVec 32) (k0_hw1 : k0_chk1 v4), ∀ a, (k0_off85 v4) a + S1.size a ≤ S32.size a := fun v4 k0_hw1 => k0_hw1.2.2.2.2.2.2.2.2.2.2.2.2.2.2.2.2.2.2.2.2.2.2.2.2.2.2.2.2.2.1
theorem k0_off88_inb : ∀ (v4 : BitVec 32) (k0_hw1 : k0_chk1 v4), ∀ a, (k0_off88 v4) a + S1.size a ≤ S32.size a := fun v4 k0_hw1 => k0_hw1.2.2.2.2.2.2.2.2.2.2.2.2.2.2.2.2.2.2.2.2.2.2.2.2.2.2.2.2.2.2.1
theorem k0_off91_inb : ∀ (v4 : BitVec 32) (k0_hw1 : k0_chk1 v4), ∀ a, (k0_off91 v4) a + S1.size a ≤ S32.size a := fun v4 k0_hw1 => k0_hw1.2.2.2.2.2.2.2.2.2.2.2.2.2.2.2.2.2.2.2.2.2.2.2.2.2.2.2.2.2.2.2

def k0_off92 (v1991 : BitVec 32) : Fin 2 → Nat :=
  let c128_i32_2441 : BitVec 32 := 128#32
  let v2008 : BitVec 32 := Scalar.muli v1991 c128_i32_2441
  let c0_i32_2644 : BitVec 32 := 0#32
  ![v2008.toNat, 0]

def k0_chk30 (v1991 : BitVec 32) : Prop :=
  (∀ a, (k0_off81 v1991) a + S128x256.size a ≤ S4096x256.size a) ∧
  (∀ a, (k0_off92 v1991) a + S128x256.size a ≤ S4096x256.size a)
theorem k0_off81_inb : ∀ (v1991 : BitVec 32) (k0_hw30 : k0_chk30 v1991), ∀ a, (k0_off81 v1991) a + S128x256.size a ≤ S4096x256.size a := fun v1991 k0_hw30 => k0_hw30.1
theorem k0_off92_inb : ∀ (v1991 : BitVec 32) (k0_hw30 : k0_chk30 v1991), ∀ a, (k0_off92 v1991) a + S128x256.size a ≤ S4096x256.size a := fun v1991 k0_hw30 => k0_hw30.2

def k0_off93 (v2179 : BitVec 32) : Fin 2 → Nat :=
  let c128_i32_2656 : BitVec 32 := 128#32
  let v2196 : BitVec 32 := Scalar.muli v2179 c128_i32_2656
  let c0_i32_2659 : BitVec 32 := 0#32
  ![v2196.toNat, 0]

def k0_chk34 (v2179 : BitVec 32) : Prop :=
  (∀ a, (k0_off93 v2179) a + S128x256.size a ≤ S4096x256.size a)
theorem k0_off93_inb : ∀ (v2179 : BitVec 32) (k0_hw34 : k0_chk34 v2179), ∀ a, (k0_off93 v2179) a + S128x256.size a ≤ S4096x256.size a := fun v2179 k0_hw34 => k0_hw34

def k0_off94 (v2017 : BitVec 32) : Fin 2 → Nat :=
  let c128_i32_2464 : BitVec 32 := 128#32
  let v2034 : BitVec 32 := Scalar.muli v2017 c128_i32_2464
  let c0_i32_2664 : BitVec 32 := 0#32
  ![v2034.toNat, 0]

def k0_chk31 (v2017 : BitVec 32) : Prop :=
  (∀ a, (k0_off84 v2017) a + S128x256.size a ≤ S4096x256.size a) ∧
  (∀ a, (k0_off94 v2017) a + S128x256.size a ≤ S4096x256.size a)
theorem k0_off84_inb : ∀ (v2017 : BitVec 32) (k0_hw31 : k0_chk31 v2017), ∀ a, (k0_off84 v2017) a + S128x256.size a ≤ S4096x256.size a := fun v2017 k0_hw31 => k0_hw31.1
theorem k0_off94_inb : ∀ (v2017 : BitVec 32) (k0_hw31 : k0_chk31 v2017), ∀ a, (k0_off94 v2017) a + S128x256.size a ≤ S4096x256.size a := fun v2017 k0_hw31 => k0_hw31.2

def k0_off95 (v2107 : BitVec 32) : Fin 2 → Nat :=
  let c128_i32_2580 : BitVec 32 := 128#32
  let v2124 : BitVec 32 := Scalar.muli v2107 c128_i32_2580
  let c0_i32_2669 : BitVec 32 := 0#32
  ![v2124.toNat, 0]

def k0_chk32 (v2107 : BitVec 32) : Prop :=
  (∀ a, (k0_off87 v2107) a + S128x256.size a ≤ S4096x256.size a) ∧
  (∀ a, (k0_off95 v2107) a + S128x256.size a ≤ S4096x256.size a)
theorem k0_off87_inb : ∀ (v2107 : BitVec 32) (k0_hw32 : k0_chk32 v2107), ∀ a, (k0_off87 v2107) a + S128x256.size a ≤ S4096x256.size a := fun v2107 k0_hw32 => k0_hw32.1
theorem k0_off95_inb : ∀ (v2107 : BitVec 32) (k0_hw32 : k0_chk32 v2107), ∀ a, (k0_off95 v2107) a + S128x256.size a ≤ S4096x256.size a := fun v2107 k0_hw32 => k0_hw32.2

def k0_off96 (v2133 : BitVec 32) : Fin 2 → Nat :=
  let c128_i32_2603 : BitVec 32 := 128#32
  let v2150 : BitVec 32 := Scalar.muli v2133 c128_i32_2603
  let c0_i32_2674 : BitVec 32 := 0#32
  ![v2150.toNat, 0]

def k0_chk33 (v2133 : BitVec 32) : Prop :=
  (∀ a, (k0_off90 v2133) a + S128x256.size a ≤ S4096x256.size a) ∧
  (∀ a, (k0_off96 v2133) a + S128x256.size a ≤ S4096x256.size a)
theorem k0_off90_inb : ∀ (v2133 : BitVec 32) (k0_hw33 : k0_chk33 v2133), ∀ a, (k0_off90 v2133) a + S128x256.size a ≤ S4096x256.size a := fun v2133 k0_hw33 => k0_hw33.1
theorem k0_off96_inb : ∀ (v2133 : BitVec 32) (k0_hw33 : k0_chk33 v2133), ∀ a, (k0_off96 v2133) a + S128x256.size a ≤ S4096x256.size a := fun v2133 k0_hw33 => k0_hw33.2

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S32 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S32 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S1, .f32⟩
  | .hbm, ⟨6, _⟩ => ⟨S1x1, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S4096x8192, .f32⟩
  | .hbm, ⟨11, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Proof.Prog.lean ====
/- The kernel's body, told once per step. The printed body names every step of its 31 receives, 31 tiles and 62 copies
   by literals; here a step is a definition over the receive slot it works on, the body is the ring of those steps, and
   `body_eq` is that the two are the same program. -/
module

public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KernelIdeal.Ring

open Idealize.ShloMosaic Idealize.ShloMosaic.TcCoe Idealize.SL.Sem
open Cert.KernelIdeal Cert.KernelIdeal.Gen

variable {F : FTy → Type} [FloatOps F]

/-- A body of the kernel. -/
abbrev Body (F : FTy → Type) := Prog (TpuEff nD τ sig (Elt F) Λ₀ .tc) PUnit

/-! ## The receive slots, their halves and semaphores -/

/-- The receive slots: sixteen of the buffer filled rightwards, fifteen of the one filled leftwards. -/
abbrev Slot : Type := Fin 16 ⊕ Fin 15

theorem inb_right (h : Fin 16) (j : Fin 2) : ∀ a, (![h.val, 64 * j.val, 0] : Fin 3 → Nat) a + S1x64x4096.size a ≤ S16x128x4096.size a := by
  revert h j; decide
theorem inb_left (h : Fin 15) (j : Fin 2) : ∀ a, (![h.val, 64 * j.val, 0] : Fin 3 → Nat) a + S1x64x4096.size a ≤ S15x128x4096.size a := by
  revert h j; decide
theorem words_right (h : Fin 16) (j : Fin 2) : (Rect.unit (s := S16x128x4096) ![h.val, 64 * j.val, 0] S1x64x4096.size (inb_right h j)).WholeWords (EltTy.packing .fp8e5m2) := by
  revert h j; decide
theorem words_left (h : Fin 15) (j : Fin 2) : (Rect.unit (s := S15x128x4096) ![h.val, 64 * j.val, 0] S1x64x4096.size (inb_left h j)).WholeWords (EltTy.packing .fp8e5m2) := by
  revert h j; decide
theorem inb_chunk (j : Fin 2) : ∀ a, (![64 * j.val, 0] : Fin 2 → Nat) a + S64x4096.size a ≤ S128x4096.size a := by
  revert j; decide
theorem words_chunk (j : Fin 2) : (Rect.unit (s := S128x4096) ![64 * j.val, 0] S64x4096.size (inb_chunk j)).WholeWords (EltTy.packing .fp8e5m2) := by
  revert j; decide
theorem inb_sem16 (h : Fin 16) (j : Fin 2) : ∀ a, (![h.val, j.val] : Fin 2 → Nat) a + S1x1.size a ≤ S16x2.size a := by
  revert h j; decide
theorem inb_sem15 (h : Fin 15) (j : Fin 2) : ∀ a, (![h.val, j.val] : Fin 2 → Nat) a + S1x1.size a ≤ S15x2.size a := by
  revert h j; decide
theorem inb_slabSem (s : Fin 4) : ∀ a, (![s.val] : Fin 1 → Nat) a + S1.size a ≤ S4.size a := by
  revert s; decide
theorem inb_loadSem (s : Fin 2) : ∀ a, (![s.val] : Fin 1 → Nat) a + S1.size a ≤ S2.size a := by
  revert s; decide
theorem inb_slab (s : Fin 4) : ∀ a, (![s.val, 0, 0] : Fin 3 → Nat) a + S1x128x256.size a ≤ S4x128x256.size a := by
  revert s; decide
theorem inb_right128 (h : Fin 16) : ∀ a, (![h.val, 0, 0] : Fin 3 → Nat) a + S1x128x4096.size a ≤ S16x128x4096.size a := by
  revert h; decide
theorem inb_left128 (h : Fin 15) : ∀ a, (![h.val, 0, 0] : Fin 3 → Nat) a + S1x128x4096.size a ≤ S15x128x4096.size a := by
  revert h; decide

/-- Half `j` of receive slot `t`. -/
def half : Slot → Fin 2 → Memref sig .tc .vmem S64x4096 .fp8e5m2
  | .inl h, j => ((Memref.whole cc0_scratch4).slice (Rect.unit (s := S16x128x4096) ![h.val, 64 * j.val, 0] S1x64x4096.size (inb_right h j)) (fun _ => rfl)).squeeze S64x4096 squeezes_S1x64x4096_S64x4096
  | .inr h, j => ((Memref.whole cc0_scratch5).slice (Rect.unit (s := S15x128x4096) ![h.val, 64 * j.val, 0] S1x64x4096.size (inb_left h j)) (fun _ => rfl)).squeeze S64x4096 squeezes_S1x64x4096_S64x4096

theorem half_exact : ∀ (t : Slot) (j : Fin 2), (half t j).view.WordExact
  | .inl h, j => ((Memref.isWhole_whole cc0_scratch4).wordExact_slice rfl _ (words_right h j)).reshape _ _
  | .inr h, j => ((Memref.isWhole_whole cc0_scratch5).wordExact_slice rfl _ (words_left h j)).reshape _ _

/-- Half `j` of the device's own rounded rows. -/
def chunk (j : Fin 2) : Memref sig .tc .vmem S64x4096 .fp8e5m2 :=
  (Memref.whole cc0_scratch2).slice (Rect.unit (s := S128x4096) ![64 * j.val, 0] S64x4096.size (inb_chunk j)) (fun _ => rfl)

theorem chunk_exact (j : Fin 2) : (chunk j).view.WordExact :=
  (Memref.isWhole_whole cc0_scratch2).wordExact_slice rfl _ (words_chunk j)

/-- What the copy into slot `t` reads: the slot before it, or the device's own rows. -/
def feed : Slot → Fin 2 → Memref sig .tc .vmem S64x4096 .fp8e5m2
  | .inl ⟨0, _⟩, j => chunk j
  | .inl ⟨h + 1, hh⟩, j => half (.inl ⟨h, by omega⟩) j
  | .inr ⟨0, _⟩, j => chunk j
  | .inr ⟨h + 1, hh⟩, j => half (.inr ⟨h, by omega⟩) j

theorem feed_exact : ∀ (t : Slot) (j : Fin 2), (feed t j).view.WordExact
  | .inl ⟨0, _⟩, j => chunk_exact j
  | .inl ⟨h + 1, hh⟩, j => half_exact _ j
  | .inr ⟨0, _⟩, j => chunk_exact j
  | .inr ⟨h + 1, hh⟩, j => half_exact _ j

/-- The semaphore a copy into slot `t` signals where it is sent, -/
def sentSem : Slot → Fin 2 → DmaSem sig
  | .inl h, j => ((cc0_scratch9.slice (Rect.unit (s := S16x2) ![h.val, j.val] S1x1.size (inb_sem16 h j))).squeeze S_ squeezes_S1x1_S_).sem
  | .inr h, j => ((cc0_scratch10.slice (Rect.unit (s := S15x2) ![h.val, j.val] S1x1.size (inb_sem15 h j))).squeeze S_ squeezes_S1x1_S_).sem
/-- and the one it signals where it lands. -/
def cameSem : Slot → Fin 2 → DmaSem sig
  | .inl h, j => ((cc0_scratch11.slice (Rect.unit (s := S16x2) ![h.val, j.val] S1x1.size (inb_sem16 h j))).squeeze S_ squeezes_S1x1_S_).sem
  | .inr h, j => ((cc0_scratch12.slice (Rect.unit (s := S15x2) ![h.val, j.val] S1x1.size (inb_sem15 h j))).squeeze S_ squeezes_S1x1_S_).sem

/-- The semaphores of the two loads and of the four slabs' stores. -/
def loadSem (s : Fin 2) : DmaSem sig := ((cc0_scratch7.slice (Rect.unit (s := S2) ![s.val] S1.size (inb_loadSem s))).squeeze S_ squeezes_S1_S_).sem
def slabSem (s : Fin 4) : DmaSem sig := ((cc0_scratch8.slice (Rect.unit (s := S4) ![s.val] S1.size (inb_slabSem s))).squeeze S_ squeezes_S1_S_).sem
/-- The barrier. -/
abbrev barSem : Sem sig := (SemArray.scalar (sig.barrier 0 rfl) : Sems sig S_).sem

/-- Slab `s`, and the rows of the output that begin at `off`. -/
def slab (s : Fin 4) : Memref sig .tc .vmem S128x256 .f32 :=
  ((Memref.whole cc0_scratch6).slice (Rect.unit (s := S4x128x256) ![s.val, 0, 0] S1x128x256.size (inb_slab s)) (fun _ => rfl)).squeeze S128x256 squeezes_S1x128x256_S128x256

/-- Where device `v`'s rows begin in the output. -/
def rowOff (v : BitVec 32) : Fin 2 → Nat := ![(Scalar.muli v 128#32).toNat, 0]
/-- That they lie in it. -/
abbrev RowIn (v : BitVec 32) : Prop := ∀ a, rowOff v a + S128x256.size a ≤ S4096x256.size a
/-- A word that names rows of the output. -/
abbrev Rows : Type := { v : BitVec 32 // RowIn v }

def rowsOf (o : Rows) : Memref sig .tc .hbm S128x256 .f32 :=
  (Memref.whole main_v3).slice (Rect.unit (s := S4096x256) (rowOff o.1) S128x256.size o.2) (fun _ => rfl)

/-! ## The words the kernel computes -/

/-- Where in the table of devices the origin of slot `t`'s rows stands, for a device at position `p`. -/
def originOff : Slot → BitVec 32 → Fin 1 → Nat
  | .inl h, p => ![(Scalar.indexCast (Scalar.remsi (Scalar.addi p (BitVec.ofNat 32 (31 - h.val))) 32#32)).toNat]
  | .inr h, p => ![(Scalar.indexCast (Scalar.remsi (Scalar.addi p (BitVec.ofNat 32 (1 + h.val))) 32#32)).toNat]

/-- The device a word names. -/
def devOf (v : BitVec 32) : Nat := (Scalar.addi 0#32 (Scalar.muli v 1#32)).toNat

/-- The check the kernel makes on the word of slot `t`'s origin. -/
structure Check where
  P : BitVec 32 → Prop
  dec : ∀ v, Decidable (P v)
  row : ∀ v, P v → RowIn v

def checkRight : Nat → Check
  | 0 => ⟨k0_chk4, k0_chk4.dec, fun _ h => h.1⟩
  | 1 => ⟨k0_chk6, k0_chk6.dec, fun _ h => h.1⟩
  | 2 => ⟨k0_chk8, k0_chk8.dec, fun _ h => h.1⟩
  | 3 => ⟨k0_chk10, k0_chk10.dec, fun _ h => h.1⟩
  | 4 => ⟨k0_chk12, k0_chk12.dec, fun _ h => h.1⟩
  | 5 => ⟨k0_chk14, k0_chk14.dec, fun _ h => h.1⟩
  | 6 => ⟨k0_chk16, k0_chk16.dec, fun _ h => h.1⟩
  | 7 => ⟨k0_chk18, k0_chk18.dec, fun _ h => h.1⟩
  | 8 => ⟨k0_chk20, k0_chk20.dec, fun _ h => h.1⟩
  | 9 => ⟨k0_chk22, k0_chk22.dec, fun _ h => h.1⟩
  | 10 => ⟨k0_chk24, k0_chk24.dec, fun _ h => h.1⟩
  | 11 => ⟨k0_chk26, k0_chk26.dec, fun _ h => h.1⟩
  | 12 => ⟨k0_chk28, k0_chk28.dec, fun _ h => h.1⟩
  | 13 => ⟨k0_chk30, k0_chk30.dec, fun _ h => h.1⟩
  | 14 => ⟨k0_chk32, k0_chk32.dec, fun _ h => h.1⟩
  | _ => ⟨k0_chk34, k0_chk34.dec, fun _ h => h⟩

def checkLeft : Nat → Check
  | 0 => ⟨k0_chk5, k0_chk5.dec, fun _ h => h.1⟩
  | 1 => ⟨k0_chk7, k0_chk7.dec, fun _ h => h.1⟩
  | 2 => ⟨k0_chk9, k0_chk9.dec, fun _ h => h.1⟩
  | 3 => ⟨k0_chk11, k0_chk11.dec, fun _ h => h.1⟩
  | 4 => ⟨k0_chk13, k0_chk13.dec, fun _ h => h.1⟩
  | 5 => ⟨k0_chk15, k0_chk15.dec, fun _ h => h.1⟩
  | 6 => ⟨k0_chk17, k0_chk17.dec, fun _ h => h.1⟩
  | 7 => ⟨k0_chk19, k0_chk19.dec, fun _ h => h.1⟩
  | 8 => ⟨k0_chk21, k0_chk21.dec, fun _ h => h.1⟩
  | 9 => ⟨k0_chk23, k0_chk23.dec, fun _ h => h.1⟩
  | 10 => ⟨k0_chk25, k0_chk25.dec, fun _ h => h.1⟩
  | 11 => ⟨k0_chk27, k0_chk27.dec, fun _ h => h.1⟩
  | 12 => ⟨k0_chk29, k0_chk29.dec, fun _ h => h.1⟩
  | 13 => ⟨k0_chk31, k0_chk31.dec, fun _ h => h.1⟩
  | _ => ⟨k0_chk33, k0_chk33.dec, fun _ h => h.1⟩

def check : Slot → Check
  | .inl h => checkRight h.val
  | .inr h => checkLeft h.val

/-- What the check on a device's position gives: every origin read lies in the table. -/
theorem origin_in {p : BitVec 32} (hp : k0_chk1 p) : ∀ t : Slot, ∀ a, originOff t p a + S1.size a ≤ S32.size a
  | .inl ⟨0, _⟩ => k0_off4_inb p hp
  | .inl ⟨1, _⟩ => k0_off8_inb p hp
  | .inl ⟨2, _⟩ => k0_off13_inb p hp
  | .inl ⟨3, _⟩ => k0_off19_inb p hp
  | .inl ⟨4, _⟩ => k0_off25_inb p hp
  | .inl ⟨5, _⟩ => k0_off31_inb p hp
  | .inl ⟨6, _⟩ => k0_off37_inb p hp
  | .inl ⟨7, _⟩ => k0_off43_inb p hp
  | .inl ⟨8, _⟩ => k0_off49_inb p hp
  | .inl ⟨9, _⟩ => k0_off55_inb p hp
  | .inl ⟨10, _⟩ => k0_off61_inb p hp
  | .inl ⟨11, _⟩ => k0_off67_inb p hp
  | .inl ⟨12, _⟩ => k0_off73_inb p hp
  | .inl ⟨13, _⟩ => k0_off79_inb p hp
  | .inl ⟨14, _⟩ => k0_off85_inb p hp
  | .inl ⟨15, _⟩ => k0_off91_inb p hp
  | .inl ⟨n + 16, h⟩ => absurd h (by omega)
  | .inr ⟨0, _⟩ => k0_off6_inb p hp
  | .inr ⟨1, _⟩ => k0_off10_inb p hp
  | .inr ⟨2, _⟩ => k0_off16_inb p hp
  | .inr ⟨3, _⟩ => k0_off22_inb p hp
  | .inr ⟨4, _⟩ => k0_off28_inb p hp
  | .inr ⟨5, _⟩ => k0_off34_inb p hp
  | .inr ⟨6, _⟩ => k0_off40_inb p hp
  | .inr ⟨7, _⟩ => k0_off46_inb p hp
  | .inr ⟨8, _⟩ => k0_off52_inb p hp
  | .inr ⟨9, _⟩ => k0_off58_inb p hp
  | .inr ⟨10, _⟩ => k0_off64_inb p hp
  | .inr ⟨11, _⟩ => k0_off70_inb p hp
  | .inr ⟨12, _⟩ => k0_off76_inb p hp
  | .inr ⟨13, _⟩ => k0_off82_inb p hp
  | .inr ⟨14, _⟩ => k0_off88_inb p hp
  | .inr ⟨n + 15, h⟩ => absurd h (by omega)

/-! ## The steps -/

/-- Wait for half `j` of slot `t` to have come. -/
def came (t : Slot) (j : Fin 2) (k : Body F) : Body F :=
  .op (.waitDma2 (cameSem t j) (half t j) (half t j) (half_exact t j) (half_exact t j)) fun _ => k
/-- Copy what feeds half `j` of slot `t` into that half at device `d`. -/
def send (t : Slot) (j : Fin 2) (d : Dev nD) (k : Body F) : Body F :=
  .op (.enqueueDma (feed t j) (.remote (Dev.tc d) (half t j) (.dma (sentSem t j))) (.dma (cameSem t j)) (feed_exact t j) (half_exact t j) ⟨⟨rfl, Or.inl rfl⟩, trivial⟩) fun _ => k
/-- Wait until the copy into half `j` of slot `t` has been read out. -/
def sent (t : Slot) (j : Fin 2) (k : Body F) : Body F :=
  .op (.waitDma2 (sentSem t j) (half t j) (feed t j) (half_exact t j) (feed_exact t j)) fun _ => k

/-- Receive slot `t` half by half, passing each half on into slot `t'` of device `d`. -/
def relay (t t' : Slot) (d : Dev nD) (k : Body F) : Body F :=
  came t 0 (send t' 0 d (came t 1 (send t' 1 d k)))
/-- Receive slot `t`, the end of its direction. -/
def receive (t : Slot) (k : Body F) : Body F := came t 0 (came t 1 k)

/-- Wait for the store of rows `o` from slab `s`; `none` when the slab was not stored from before. -/
def stored (s : Fin 4) : Option Rows → Body F → Body F
  | none, k => k
  | some o, k => .op (.waitDma2 (slabSem s) (slab s) (rowsOf o) ((View.wordExact_bits rfl).reshape _ _) (View.wordExact_bits rfl)) fun _ => k

/-- Read slot `t` whole. -/
def readSlot : Slot → (Vec F S1x128x4096 .fp8e5m2 → Body F) → Body F
  | .inl h, k => .op (.load (Memref.whole cc0_scratch4) (Rect.unit (s := S16x128x4096) ![h.val, 0, 0] S1x128x4096.size (inb_right128 h)).toLoadRect (View.loadsAt_vmem h_S1x128x4096)) k
  | .inr h, k => .op (.load (Memref.whole cc0_scratch5) (Rect.unit (s := S15x128x4096) ![h.val, 0, 0] S1x128x4096.size (inb_left128 h)).toLoadRect (View.loadsAt_vmem h_S1x128x4096)) k

/-- Read the rounded weights. -/
def readW (k : Vec F S4096x256 .fp8e5m2 → Body F) : Body F :=
  .op (.load (Memref.whole cc0_scratch3) (Rect.unit (s := S4096x256) ![0, 0] S4096x256.size inb_S4096x256_S4096x256_0_0).toLoadRect (View.loadsAt_vmem h_S4096x256)) k

/-- Put a tile into slab `s` and start its store to rows `o`. -/
def emit (s : Fin 4) (o : Rows) (v : FVec F S1x128x256 .f32) (k : Body F) : Body F :=
  .op (.load (Memref.whole cc0_scratch6) (Rect.unit (s := S4x128x256) ![s.val, 0, 0] S1x128x256.size (inb_slab s)).toLoadRect (View.loadsAt_vmem h_S1x128x256)) fun _ =>
  .op (.store (Memref.whole cc0_scratch6) (Rect.unit (s := S4x128x256) ![s.val, 0, 0] S1x128x256.size (inb_slab s)) v Finset.univ (View.stores_vmem_bits_univ h_S1x128x256 rfl) (.inl rfl)) fun _ =>
  .op (.enqueueDma (slab s) (.here (rowsOf o)) (.dma (slabSem s)) ((View.wordExact_bits rfl).reshape _ _) (View.wordExact_bits rfl) ⟨Or.inl rfl, trivial⟩) fun _ => k

/-- One word of a scalar table. -/
def word {s : Shape} {e : EltTy} (m : Memref sig .tc .smem s e) (off : Fin s.rank → Nat) (sz : Fin s.rank → Nat) (hin : ∀ a, off a + sz a ≤ s.size a)
    (h1 : (Rect.unit (s := s) off sz hin).shape.numel = 1) (hp : e.packing = 1) (k : Elt F e → Body F) : Body F :=
  .op (.load m (Rect.unit (s := s) off sz hin).toLoadRect (View.loadsAt_rect (View.loads_smem_one hp h1))) fun f =>
    k (f (Shape.Idx.first (h1.symm ▸ Nat.one_pos)))

/-- The device tables and the scales, as the kernel is handed them. -/
abbrev mSx : Memref sig .tc .smem S1x1 .f32 := win0_0.stage (cfg0.slots t0_0 0)
abbrev mSw : Memref sig .tc .smem S1x1 .f32 := win0_1.stage (cfg0.slots t0_0 1)
abbrev mTab : Memref sig .tc .smem S32 .i32 := win0_2.stage (cfg0.slots t0_0 2)
abbrev mPos : Memref sig .tc .smem S32 .i32 := win0_3.stage (cfg0.slots t0_0 3)

/-- The tile of the rows that came in slot `t`, for a device at position `p`, with slab `s` last stored from to rows `w`. -/
def tile (t : Slot) (s : Fin 4) (p : BitVec 32) (hp : k0_chk1 p) (c : F .f32) (w : Option Rows) (k : Rows → Body F) : Body F :=
  word mTab (originOff t p) S1.size (origin_in hp t) numel1_S1 rfl fun v =>
  .op (.assume ((check t).P v) ((check t).dec v)) fun hv =>
  stored s w <|
  readSlot t fun x => readW fun y =>
  emit s ⟨v, (check t).row v hv.down⟩ (k0_pay4 c (shapeCast S128x4096 x shapeCasts_S1x128x4096_S128x4096) y) <|
  k ⟨v, (check t).row v hv.down⟩

/-- The rows being stored: of the hop before last and of the last, each rightwards then leftwards. -/
structure Flying where
  (a b c d : Option Rows)

/-- The slabs the tiles of hop `h` go into. -/
def slabR (h : Nat) : Fin 4 := ⟨(1 + 2 * h) % 4, Nat.mod_lt _ (by decide)⟩
def slabL (h : Nat) : Fin 4 := ⟨(2 + 2 * h) % 4, Nat.mod_lt _ (by decide)⟩

/-- The two tiles of hop `h`. -/
def tiles (h : Nat) (hh : h < 15) (p : BitVec 32) (hp : k0_chk1 p) (c : F .f32) (w : Flying) (k : Flying → Body F) : Body F :=
  tile (.inl ⟨h, by omega⟩) (slabR h) p hp c w.a fun o =>
  tile (.inr ⟨h, hh⟩) (slabL h) p hp c w.b fun o' =>
  k ⟨w.c, w.d, some o, some o'⟩

/-- A hop that passes both directions on. -/
def hop (h : Nat) (hh : h < 14) (r l : Dev nD) (p : BitVec 32) (hp : k0_chk1 p) (c : F .f32) (w : Flying) (k : Flying → Body F) : Body F :=
  relay (.inl ⟨h, by omega⟩) (.inl ⟨h + 1, by omega⟩) r <|
  relay (.inr ⟨h, by omega⟩) (.inr ⟨h + 1, by omega⟩) l <|
  tiles h (by omega) p hp c w k

/-- `n` hops from hop `h` on. -/
def hops (r l : Dev nD) (p : BitVec 32) (hp : k0_chk1 p) (c : F .f32) : (n h : Nat) → h + n ≤ 14 → Flying → (Flying → Body F) → Body F
  | 0, _, _, w, k => k w
  | n + 1, h, hn, w, k => hop h (by omega) r l p hp c w fun w' => hops r l p hp c n (h + 1) (by omega) w' k

/-- The two last hops, and the stores still out. -/
def lastHops (r : Dev nD) (p : BitVec 32) (hp : k0_chk1 p) (c : F .f32) (w : Flying) (k : Body F) : Body F :=
  relay (.inl 14) (.inl 15) r <| receive (.inr 14) <|
  tiles 14 (by decide) p hp c w fun w' =>
  receive (.inl 15) <|
  tile (.inl 15) 3 p hp c w'.a fun o =>
  stored 0 w'.b <| stored 1 w'.c <| stored 2 w'.d <| stored 3 (some o) k

/-- The waits for the copies to have been read out, hop by hop. -/
def drain : (n h : Nat) → h + n ≤ 15 → Body F → Body F
  | 0, _, _, k => k
  | n + 1, h, hn, k =>
    sent (.inl ⟨h, by omega⟩) 0 <| sent (.inl ⟨h, by omega⟩) 1 <| sent (.inr ⟨h, by omega⟩) 0 <| sent (.inr ⟨h, by omega⟩) 1 <|
    drain n (h + 1) (by omega) k

def drainAll (k : Body F) : Body F :=
  sent (.inl 0) 0 <| sent (.inr 0) 0 <| sent (.inl 0) 1 <| sent (.inr 0) 1 <|
  drain 14 1 (by decide) <| sent (.inl 15) 0 <| sent (.inl 15) 1 k

/-- Everything from the own rows being rounded on: the copies of the first hop, the own tile, the ring, the drain. -/
def main (d r l : Dev nD) (p : BitVec 32) (hp : k0_chk1 p) : Body F :=
  send (.inl 0) 0 r <| send (.inr 0) 0 l <| send (.inl 0) 1 r <| send (.inr 0) 1 l <|
  .op (.waitDma2 (loadSem 1) (Memref.whole main_arg1) (Memref.whole cc0_scratch1) (Memref.isWhole_whole _).wordExact (Memref.isWhole_whole _).wordExact) fun _ =>
  .op (.load (Memref.whole cc0_scratch1) (Rect.unit (s := S4096x256) ![0, 0] S4096x256.size inb_S4096x256_S4096x256_0_0).toLoadRect (View.loadsAt_vmem h_S4096x256)) fun w =>
  .op (.load (Memref.whole cc0_scratch3) (Rect.unit (s := S4096x256) ![0, 0] S4096x256.size inb_S4096x256_S4096x256_0_0).toLoadRect (View.loadsAt_vmem h_S4096x256)) fun _ =>
  .op (.store (Memref.whole cc0_scratch3) (Rect.unit (s := S4096x256) ![0, 0] S4096x256.size inb_S4096x256_S4096x256_0_0) (k0_pay2 w) Finset.univ (View.stores_vmem h_S4096x256 ((Memref.isWhole_whole _).storeExact_slice rfl _ packedfp8e5m2_S4096x256_S4096x256_0_0) (fun _ => rfl)) (.inl rfl)) fun _ =>
  word mSx ![0, 0] S1x1.size inb_S1x1_S1x1_0_0 numel1_S1x1 rfl fun sx =>
  word mSw ![0, 0] S1x1.size inb_S1x1_S1x1_0_0 numel1_S1x1 rfl fun sw =>
  .op (.load (Memref.whole cc0_scratch2) (Rect.unit (s := S128x4096) ![0, 0] S128x4096.size inb_S128x4096_S128x4096_0_0).toLoadRect (View.loadsAt_vmem h_S128x4096)) fun x =>
  readW fun y =>
  emit 0 ⟨Scalar.remsi (Scalar.divsi (Dev.word d) 1#32) 32#32, k0_off3_inb d⟩ (k0_pay4 (k0_pay3 sx sw) x y) <|
  hops r l p hp (k0_pay3 sx sw) 14 0 (by decide) ⟨none, none, none, some ⟨Scalar.remsi (Scalar.divsi (Dev.word d) 1#32) 32#32, k0_off3_inb d⟩⟩ fun w =>
  lastHops r p hp (k0_pay3 sx sw) w <|
  drainAll (.ret ⟨⟩)

/-- The device on the right of the word `v`, and on the left. -/
abbrev rightDev (v : BitVec 32) (hv : k0_chk3 v) : Dev nD := ⟨devOf v, k0_dev2_lt v hv⟩
abbrev leftDev (v : BitVec 32) (hv : k0_chk2 v) : Dev nD := ⟨devOf v, k0_dev1_lt v hv⟩

/-- The body from the start. -/
def body : Body F :=
  .op .deviceId fun d =>
  word mPos (k0_off1 d) S1.size (k0_off1_inb d) numel1_S1 rfl fun p =>
  .op (.assume (k0_chk1 p) (k0_chk1.dec p)) fun hp =>
  word mTab (k0_off2 p 1#32) S1.size (k0_off2_inb p hp.down 0) numel1_S1 rfl fun r =>
  .op (.assume (k0_chk3 r) (k0_chk3.dec r)) fun hr =>
  word mTab (k0_off2 p 31#32) S1.size (k0_off2_inb p hp.down 1) numel1_S1 rfl fun l =>
  .op (.assume (k0_chk2 l) (k0_chk2.dec l)) fun hl =>
  .op (.enqueueDma (Memref.whole main_arg0) (.here (Memref.whole cc0_scratch0)) (.dma (loadSem 0)) (Memref.isWhole_whole _).wordExact (Memref.isWhole_whole _).wordExact ⟨Or.inl rfl, trivial⟩) fun _ =>
  .op (.enqueueDma (Memref.whole main_arg1) (.here (Memref.whole cc0_scratch1)) (.dma (loadSem 1)) (Memref.isWhole_whole _).wordExact (Memref.isWhole_whole _).wordExact ⟨Or.inl rfl, trivial⟩) fun _ =>
  .op (.semSignal (leftDev l hl.down, .tc) barSem 1) fun _ =>
  .op (.semSignal (rightDev r hr.down, .tc) barSem 1) fun _ =>
  .op (.semWait barSem 2) fun _ =>
  .op (.waitDma2 (loadSem 0) (Memref.whole main_arg0) (Memref.whole cc0_scratch0) (Memref.isWhole_whole _).wordExact (Memref.isWhole_whole _).wordExact) fun _ =>
  .op (.load (Memref.whole cc0_scratch0) (Rect.unit (s := S128x4096) ![0, 0] S128x4096.size inb_S128x4096_S128x4096_0_0).toLoadRect (View.loadsAt_vmem h_S128x4096)) fun x =>
  .op (.load (Memref.whole cc0_scratch2) (Rect.unit (s := S128x4096) ![0, 0] S128x4096.size inb_S128x4096_S128x4096_0_0).toLoadRect (View.loadsAt_vmem h_S128x4096)) fun _ =>
  .op (.store (Memref.whole cc0_scratch2) (Rect.unit (s := S128x4096) ![0, 0] S128x4096.size inb_S128x4096_S128x4096_0_0) (k0_pay1 x) Finset.univ (View.stores_vmem h_S128x4096 ((Memref.isWhole_whole _).storeExact_slice rfl _ packedfp8e5m2_S128x4096_S128x4096_0_0) (fun _ => rfl)) (.inl rfl)) fun _ =>
  main d (rightDev r hr.down) (leftDev l hl.down) p hp.down

/-- The printed body at the one point is the ring told here. -/
theorem body_eq : bodyAt0 (F := F) t0_0 = body := by chain_rfl

end Cert.KernelIdeal.Ring

end
-- ==== Proof.Table.lean ====
/- The ring. The host hands the kernel two tables: the device at each position of the ring, and the position of each
   device. Here they are functions on the 32 devices, one the inverse of the other, and every word the kernel computes
   from them is the word of a device it names; each of the kernel's own checks on those words holds. -/
module

public import proofs.«01_k».proof.Proof.Prog

@[expose] public section

noncomputable section

namespace Cert.KernelIdeal.Ring

open Idealize.ShloMosaic Idealize.ShloMosaic.TcCoe Idealize.SL.Sem
open Cert.KernelIdeal Cert.KernelIdeal.Gen

/-! ## Positions and devices -/

/-- The device at a position of the ring, and the position of a device. -/
def devAt (p : Fin 32) : Dev nD := ⟨(lit0 p).toNat % 32, Nat.mod_lt _ (by decide)⟩
def posOf (c : Dev nD) : Fin 32 := ⟨(lit1 c).toNat % 32, Nat.mod_lt _ (by decide)⟩

theorem devAt_posOf : ∀ c, devAt (posOf c) = c := by decide
theorem posOf_devAt : ∀ p, posOf (devAt p) = p := by decide

/-- Positions are devices, one for one. -/
def ring : Fin 32 ≃ Dev nD := ⟨devAt, posOf, posOf_devAt, devAt_posOf⟩

/-- The neighbours of a device on the ring. -/
def rgt (c : Dev nD) : Dev nD := devAt (posOf c + 1)
def lft (c : Dev nD) : Dev nD := devAt (posOf c - 1)

theorem lft_rgt : ∀ c, lft (rgt c) = c := by decide
theorem rgt_lft : ∀ c, rgt (lft c) = c := by decide
theorem rgt_ne_lft : ∀ c, rgt c ≠ lft c := by decide

/-- Where a copy into slot `t` goes, and where one comes from. -/
def onto (c : Dev nD) : Slot → Dev nD
  | .inl _ => rgt c
  | .inr _ => lft c
def from' (c : Dev nD) : Slot → Dev nD
  | .inl _ => lft c
  | .inr _ => rgt c

theorem onto_from (c : Dev nD) : ∀ t, onto (from' c t) t = c
  | .inl _ => rgt_lft c
  | .inr _ => lft_rgt c
theorem from_onto (c : Dev nD) : ∀ t, from' (onto c t) t = c
  | .inl _ => lft_rgt c
  | .inr _ => rgt_lft c

/-- Stepping once along a direction of the ring is one for one. -/
def step (t : Slot) : Dev nD ≃ Dev nD := ⟨fun c => onto c t, fun c => from' c t, fun c => from_onto c t, fun c => onto_from c t⟩

/-- How far along the ring the rows of slot `t` began. -/
def shift : Slot → Fin 32
  | .inl h => ⟨31 - h.val, by omega⟩
  | .inr h => ⟨1 + h.val, by omega⟩

/-- The device whose rows come to `c` in slot `t`. -/
def origin (c : Dev nD) (t : Slot) : Dev nD := devAt (posOf c + shift t)

/-- The rows of the first hop are the neighbour's own, -/
theorem origin_first : ∀ c, origin (rgt c) (.inl 0) = c ∧ origin (lft c) (.inr 0) = c := by decide
/-- and those of a later hop are what the neighbour had of the hop before. -/
theorem shift_right : ∀ (h : Fin 16) (hh : h.val + 1 < 16) (p : Fin 32), p + 1 + shift (.inl ⟨h.val + 1, hh⟩) = p + shift (.inl h) := by decide
theorem shift_left : ∀ (h : Fin 15) (hh : h.val + 1 < 15) (p : Fin 32), p - 1 + shift (.inr ⟨h.val + 1, hh⟩) = p + shift (.inr h) := by decide
theorem origin_right (c : Dev nD) (h : ℕ) (h0 : h < 16) (hh : h + 1 < 16) : origin (rgt c) (.inl ⟨h + 1, hh⟩) = origin c (.inl ⟨h, h0⟩) := by
  unfold origin rgt; rw [posOf_devAt]; exact congrArg devAt (shift_right ⟨h, h0⟩ hh _)
theorem origin_left (c : Dev nD) (h : ℕ) (h0 : h < 15) (hh : h + 1 < 15) : origin (lft c) (.inr ⟨h + 1, hh⟩) = origin c (.inr ⟨h, h0⟩) := by
  unfold origin lft; rw [posOf_devAt]; exact congrArg devAt (shift_left ⟨h, h0⟩ hh _)

/-! ## The words -/

/-- The word that names device `d`, and the one that names position `p`. -/
def devWord (d : Dev nD) : BitVec 32 := BitVec.ofNat 32 d.val
def posWord (p : Fin 32) : BitVec 32 := BitVec.ofNat 32 p.val

theorem lit0_eq : ∀ p, lit0 p = devWord (devAt p) := by decide
theorem lit1_eq : ∀ c, lit1 c = posWord (posOf c) := by decide

theorem devOf_devWord : ∀ d, devOf (devWord d) = d.val := by decide
theorem own_word : ∀ d : Dev nD, Scalar.remsi (Scalar.divsi (Dev.word d) 1#32) 32#32 = devWord d := by decide

/-- Where the kernel looks a word up: its own position, its neighbours' devices, the origin of a slot. -/
theorem off_pos : ∀ d : Dev nD, k0_off1 d 0 = d.val := by decide
theorem off_right : ∀ p : Fin 32, k0_off2 (posWord p) 1#32 0 = (p + 1).val := by decide
theorem off_left : ∀ p : Fin 32, k0_off2 (posWord p) 31#32 0 = (p - 1).val := by decide
theorem off_originR : ∀ (h : Fin 16) (p : Fin 32), originOff (.inl h) (posWord p) 0 = (p + shift (.inl h)).val := by decide +kernel
theorem off_originL : ∀ (h : Fin 15) (p : Fin 32), originOff (.inr h) (posWord p) 0 = (p + shift (.inr h)).val := by decide +kernel
theorem off_origin : ∀ (t : Slot) (p : Fin 32), originOff t (posWord p) 0 = (p + shift t).val
  | .inl h => off_originR h
  | .inr h => off_originL h

/-! ## The checks -/

instance (v : BitVec 32) : Decidable (k0_chk1 v) := k0_chk1.dec v
instance (v : BitVec 32) : Decidable (k0_chk2 v) := k0_chk2.dec v
instance (v : BitVec 32) : Decidable (k0_chk3 v) := k0_chk3.dec v
instance (t : Slot) (v : BitVec 32) : Decidable ((check t).P v) := (check t).dec v

theorem chk_pos : ∀ p : Fin 32, k0_chk1 (posWord p) := by decide +kernel
theorem chk_left : ∀ d : Dev nD, k0_chk2 (devWord d) := by decide +kernel
theorem chk_right : ∀ d : Dev nD, k0_chk3 (devWord d) := by decide +kernel
theorem chk_originR : ∀ (h : Fin 16) (d : Dev nD), (check (.inl h)).P (devWord d) := by decide +kernel
theorem chk_originL : ∀ (h : Fin 15) (d : Dev nD), (check (.inr h)).P (devWord d) := by decide +kernel
theorem chk_origin : ∀ (t : Slot) (d : Dev nD), (check t).P (devWord d)
  | .inl h => chk_originR h
  | .inr h => chk_originL h

/-- The rows of the output that are device `d`'s. -/
theorem row_in : ∀ d : Dev nD, RowIn (devWord d) := by decide +kernel
def rowOf (d : Dev nD) : Rows := ⟨devWord d, row_in d⟩

theorem rowOff_dev : ∀ d : Dev nD, rowOff (devWord d) = ![128 * d.val, 0] := by decide +kernel

/-! ## The order of the copies -/

/-- The hop that fills slot `t`. -/
def hopOf : Slot → ℕ
  | .inl h => h.val
  | .inr h => h.val

end Cert.KernelIdeal.Ring

end
-- ==== Proof.Views.lean ====
/- Which elements of a buffer each view of the kernel covers, and in what order: the halves of the receive slots, the
   halves of the device's own rows, the slabs, the rows of the output. Each family cuts its buffer into disjoint pieces
   that cover it. -/
module

public import proofs.«01_k».proof.Proof.Table
public import Idealize.ShloMosaic.Lib.ValueLayout
public import Idealize.ShloMosaic.Lib.ValueIdxCore
public import Idealize.ShloMosaic.Lib.Ring
public import Idealize.ShloMosaic.Lib.Exec.Geometry

@[expose] public section

noncomputable section

namespace Cert.KernelIdeal.Ring

open Idealize.ShloMosaic Idealize.ShloMosaic.TcCoe Idealize.SL.Sem
open Idealize.ShloMosaic.ValueIdx
open Cert.KernelIdeal Cert.KernelIdeal.Gen

variable {F : FTy → Type}

/-! ## Any view -/

/-- What a view reads of some contents, written through a view of the same shape elsewhere, is what that view would read. -/
theorem write_eq {κ : Kind} {sp : Space} {s : Shape} {e : EltTy} (v : View sig κ sp s e) (f g : v.ty.Contents (Elt F)) (w : s.Idx → Elt F e)
    (h : v.read (Elt F) g = w) {i : v.ty.Idx} (hi : i ∈ v.set) : v.write (Elt F) f w Finset.univ i = g i := by
  obtain ⟨x, -, rfl⟩ := Finset.mem_map.mp hi
  rw [View.write_emb_of_mem f w (Finset.mem_univ x), ← h, View.read_apply, cast_cast, cast_eq]

/-! ## The halves of a slot -/

theorem half_set_right (h : Fin 16) (j : Fin 2) : (half (.inl h) j).view.set = (Rect.unit (s := S16x128x4096) ![h.val, 64 * j.val, 0] S1x64x4096.size (inb_right h j)).set :=
  (Memref.set_view_squeeze _ squeezes_S1x64x4096_S64x4096).trans (View.set_slice_whole _ _)
theorem half_set_left (h : Fin 15) (j : Fin 2) : (half (.inr h) j).view.set = (Rect.unit (s := S15x128x4096) ![h.val, 64 * j.val, 0] S1x64x4096.size (inb_left h j)).set :=
  (Memref.set_view_squeeze _ squeezes_S1x64x4096_S64x4096).trans (View.set_slice_whole _ _)

theorem mem_half_right (h : Fin 16) (j : Fin 2) (i : S16x128x4096.Idx) :
    i ∈ (half (.inl h) j).view.set ↔ (i 0).val = h.val ∧ 64 * j.val ≤ (i 1).val ∧ (i 1).val < 64 * j.val + 64 := by
  rw [half_set_right]
  refine Rect.mem_set_unit.trans ⟨fun H => ?_, fun H a => ?_⟩
  · have h0 : h.val ≤ (i 0).val ∧ (i 0).val < h.val + 1 := H 0
    exact ⟨by omega, H 1⟩
  · match a with
    | ⟨0, _⟩ => exact (show h.val ≤ (i 0).val ∧ (i 0).val < h.val + 1 by omega)
    | ⟨1, _⟩ => exact H.2
    | ⟨2, _⟩ => exact ⟨Nat.zero_le _, (i 2).isLt.trans_le (Nat.le_add_left _ _)⟩
theorem mem_half_left (h : Fin 15) (j : Fin 2) (i : S15x128x4096.Idx) :
    i ∈ (half (.inr h) j).view.set ↔ (i 0).val = h.val ∧ 64 * j.val ≤ (i 1).val ∧ (i 1).val < 64 * j.val + 64 := by
  rw [half_set_left]
  refine Rect.mem_set_unit.trans ⟨fun H => ?_, fun H a => ?_⟩
  · have h0 : h.val ≤ (i 0).val ∧ (i 0).val < h.val + 1 := H 0
    exact ⟨by omega, H 1⟩
  · match a with
    | ⟨0, _⟩ => exact (show h.val ≤ (i 0).val ∧ (i 0).val < h.val + 1 by omega)
    | ⟨1, _⟩ => exact H.2
    | ⟨2, _⟩ => exact ⟨Nat.zero_le _, (i 2).isLt.trans_le (Nat.le_add_left _ _)⟩

/-- Row `r` of half `j`, in the whole block of rows. -/
def inHalf (j : Fin 2) (r : Fin 64) : Fin 128 := ⟨64 * j.val + r.val, by omega⟩

theorem half_emb_right (h : Fin 16) (j : Fin 2) (y : S64x4096.Idx) :
    (half (.inl h) j).view.emb y = (ix3 h (inHalf j (y 0)) (y 1) : S16x128x4096.Idx) := by
  obtain ⟨r, k, rfl⟩ : ∃ (r : Fin 64) (k : Fin 4096), y = ix2 r k := ⟨y 0, y 1, eq_ix2 y⟩
  show (Rect.unit (s := S16x128x4096) ![h.val, 64 * j.val, 0] S1x64x4096.size (inb_right h j)).emb (Shape.reshapeEquiv _ (ix2 r k)) = _
  rw [reshapeEquiv_ix2_1ab]
  funext a
  match a with
  | ⟨0, _⟩ => exact Fin.ext (show h.val + 1 * 0 = h.val by omega)
  | ⟨1, _⟩ => exact Fin.ext (show 64 * j.val + 1 * r.val = 64 * j.val + r.val by omega)
  | ⟨2, _⟩ => exact Fin.ext (show 0 + 1 * k.val = k.val by omega)
theorem half_emb_left (h : Fin 15) (j : Fin 2) (y : S64x4096.Idx) :
    (half (.inr h) j).view.emb y = (ix3 h (inHalf j (y 0)) (y 1) : S15x128x4096.Idx) := by
  obtain ⟨r, k, rfl⟩ : ∃ (r : Fin 64) (k : Fin 4096), y = ix2 r k := ⟨y 0, y 1, eq_ix2 y⟩
  show (Rect.unit (s := S15x128x4096) ![h.val, 64 * j.val, 0] S1x64x4096.size (inb_left h j)).emb (Shape.reshapeEquiv _ (ix2 r k)) = _
  rw [reshapeEquiv_ix2_1ab]
  funext a
  match a with
  | ⟨0, _⟩ => exact Fin.ext (show h.val + 1 * 0 = h.val by omega)
  | ⟨1, _⟩ => exact Fin.ext (show 64 * j.val + 1 * r.val = 64 * j.val + r.val by omega)
  | ⟨2, _⟩ => exact Fin.ext (show 0 + 1 * k.val = k.val by omega)

theorem half_disj_right (a b : Fin 16 × Fin 2) (hab : a ≠ b) : Disjoint (half (.inl a.1) a.2).view.set (half (.inl b.1) b.2).view.set := by
  refine Finset.disjoint_left.mpr fun i ha hb => hab ?_
  have ha := (mem_half_right _ _ i).mp ha
  have hb := (mem_half_right _ _ i).mp hb
  exact Prod.ext (Fin.ext (by omega)) (Fin.ext (by omega))
theorem half_disj_left (a b : Fin 15 × Fin 2) (hab : a ≠ b) : Disjoint (half (.inr a.1) a.2).view.set (half (.inr b.1) b.2).view.set := by
  refine Finset.disjoint_left.mpr fun i ha hb => hab ?_
  have ha := (mem_half_left _ _ i).mp ha
  have hb := (mem_half_left _ _ i).mp hb
  exact Prod.ext (Fin.ext (by omega)) (Fin.ext (by omega))

/-- The half a row lies in. -/
def halfOf (r : ℕ) (hr : r < 128) : Fin 2 := ⟨r / 64, by omega⟩
theorem halfOf_spec (r : ℕ) (hr : r < 128) : 64 * (halfOf r hr).val ≤ r ∧ r < 64 * (halfOf r hr).val + 64 := by
  show 64 * (r / 64) ≤ r ∧ r < 64 * (r / 64) + 64; omega

theorem half_cover_right : Finset.univ.biUnion (β := S16x128x4096.Idx) (fun a : Fin 16 × Fin 2 => (half (.inl a.1) a.2).view.set) = Finset.univ :=
  Finset.eq_univ_iff_forall.mpr fun (i : S16x128x4096.Idx) => Finset.mem_biUnion.mpr
    ⟨(i 0, halfOf (i 1).val (i 1).isLt), Finset.mem_univ _, (mem_half_right _ _ i).mpr ⟨rfl, halfOf_spec (i 1).val (i 1).isLt⟩⟩
theorem half_cover_left : Finset.univ.biUnion (β := S15x128x4096.Idx) (fun a : Fin 15 × Fin 2 => (half (.inr a.1) a.2).view.set) = Finset.univ :=
  Finset.eq_univ_iff_forall.mpr fun (i : S15x128x4096.Idx) => Finset.mem_biUnion.mpr
    ⟨(i 0, halfOf (i 1).val (i 1).isLt), Finset.mem_univ _, (mem_half_left _ _ i).mpr ⟨rfl, halfOf_spec (i 1).val (i 1).isLt⟩⟩

/-- The whole slot, as it is read. -/
abbrev rowRight (h : Fin 16) : Rect S16x128x4096 := Rect.unit (s := S16x128x4096) ![h.val, 0, 0] S1x128x4096.size (inb_right128 h)
abbrev rowLeft (h : Fin 15) : Rect S15x128x4096 := Rect.unit (s := S15x128x4096) ![h.val, 0, 0] S1x128x4096.size (inb_left128 h)

theorem mem_rowRight (h : Fin 16) (i : S16x128x4096.Idx) : i ∈ (rowRight h).set ↔ (i 0).val = h.val := by
  refine Rect.mem_set_unit.trans ⟨fun H => ?_, fun H a => ?_⟩
  · have h0 : h.val ≤ (i 0).val ∧ (i 0).val < h.val + 1 := H 0
    omega
  · match a with
    | ⟨0, _⟩ => exact (show h.val ≤ (i 0).val ∧ (i 0).val < h.val + 1 by omega)
    | ⟨1, _⟩ => exact ⟨Nat.zero_le _, (i 1).isLt.trans_le (Nat.le_add_left _ _)⟩
    | ⟨2, _⟩ => exact ⟨Nat.zero_le _, (i 2).isLt.trans_le (Nat.le_add_left _ _)⟩
theorem mem_rowLeft (h : Fin 15) (i : S15x128x4096.Idx) : i ∈ (rowLeft h).set ↔ (i 0).val = h.val := by
  refine Rect.mem_set_unit.trans ⟨fun H => ?_, fun H a => ?_⟩
  · have h0 : h.val ≤ (i 0).val ∧ (i 0).val < h.val + 1 := H 0
    omega
  · match a with
    | ⟨0, _⟩ => exact (show h.val ≤ (i 0).val ∧ (i 0).val < h.val + 1 by omega)
    | ⟨1, _⟩ => exact ⟨Nat.zero_le _, (i 1).isLt.trans_le (Nat.le_add_left _ _)⟩
    | ⟨2, _⟩ => exact ⟨Nat.zero_le _, (i 2).isLt.trans_le (Nat.le_add_left _ _)⟩

theorem rowRight_cut (h : Fin 16) : Finset.univ.biUnion (β := S16x128x4096.Idx) (fun j : Fin 2 => (half (.inl h) j).view.set) = (rowRight h).set := by
  refine Finset.ext fun (i : S16x128x4096.Idx) => Finset.mem_biUnion.trans ((mem_rowRight h i).trans ⟨?_, ?_⟩).symm
  · exact fun hi => ⟨halfOf (i 1).val (i 1).isLt, Finset.mem_univ _, (mem_half_right _ _ i).mpr ⟨hi, halfOf_spec _ _⟩⟩
  · exact fun ⟨j, _, hj⟩ => ((mem_half_right _ _ i).mp hj).1
theorem rowLeft_cut (h : Fin 15) : Finset.univ.biUnion (β := S15x128x4096.Idx) (fun j : Fin 2 => (half (.inr h) j).view.set) = (rowLeft h).set := by
  refine Finset.ext fun (i : S15x128x4096.Idx) => Finset.mem_biUnion.trans ((mem_rowLeft h i).trans ⟨?_, ?_⟩).symm
  · exact fun hi => ⟨halfOf (i 1).val (i 1).isLt, Finset.mem_univ _, (mem_half_left _ _ i).mpr ⟨hi, halfOf_spec _ _⟩⟩
  · exact fun ⟨j, _, hj⟩ => ((mem_half_left _ _ i).mp hj).1

theorem rowRight_emb (h : Fin 16) (y : S1x128x4096.Idx) : (rowRight h).emb y = ix3 h (y 1) (y 2) := by
  have h0 : (y 0).val = 0 := Nat.lt_one_iff.mp (y 0).isLt
  funext a
  match a with
  | ⟨0, _⟩ => exact Fin.ext (show h.val + 1 * (y 0).val = h.val by omega)
  | ⟨1, _⟩ => exact Fin.ext (show 0 + 1 * (y 1).val = (y 1).val by omega)
  | ⟨2, _⟩ => exact Fin.ext (show 0 + 1 * (y 2).val = (y 2).val by omega)
theorem rowLeft_emb (h : Fin 15) (y : S1x128x4096.Idx) : (rowLeft h).emb y = ix3 h (y 1) (y 2) := by
  have h0 : (y 0).val = 0 := Nat.lt_one_iff.mp (y 0).isLt
  funext a
  match a with
  | ⟨0, _⟩ => exact Fin.ext (show h.val + 1 * (y 0).val = h.val by omega)
  | ⟨1, _⟩ => exact Fin.ext (show 0 + 1 * (y 1).val = (y 1).val by omega)
  | ⟨2, _⟩ => exact Fin.ext (show 0 + 1 * (y 2).val = (y 2).val by omega)

/-! ## The halves of the own rows -/

theorem chunk_set (j : Fin 2) : (chunk j).view.set = (Rect.unit (s := S128x4096) ![64 * j.val, 0] S64x4096.size (inb_chunk j)).set :=
  View.set_slice_whole _ _
theorem mem_chunk (j : Fin 2) (i : S128x4096.Idx) : i ∈ (chunk j).view.set ↔ 64 * j.val ≤ (i 0).val ∧ (i 0).val < 64 * j.val + 64 := by
  rw [chunk_set]
  refine Rect.mem_set_unit.trans ⟨fun H => H 0, fun H a => ?_⟩
  match a with
  | ⟨0, _⟩ => exact H
  | ⟨1, _⟩ => exact ⟨Nat.zero_le _, (i 1).isLt.trans_le (Nat.le_add_left _ _)⟩
theorem chunk_emb (j : Fin 2) (y : S64x4096.Idx) : (chunk j).view.emb y = (ix2 (inHalf j (y 0)) (y 1) : S128x4096.Idx) := by
  funext a
  match a with
  | ⟨0, _⟩ => exact Fin.ext (show 64 * j.val + 1 * (y 0).val = 64 * j.val + (y 0).val by omega)
  | ⟨1, _⟩ => exact Fin.ext (show 0 + 1 * (y 1).val = (y 1).val by omega)
theorem chunk_disj (a b : Fin 2) (hab : a ≠ b) : Disjoint (chunk a).view.set (chunk b).view.set := by
  refine Finset.disjoint_left.mpr fun i ha hb => hab ?_
  have ha := (mem_chunk _ i).mp ha
  have hb := (mem_chunk _ i).mp hb
  exact Fin.ext (by omega)
theorem chunk_cover : Finset.univ.biUnion (β := S128x4096.Idx) (fun j => (chunk j).view.set) = Finset.univ :=
  Finset.eq_univ_iff_forall.mpr fun (i : S128x4096.Idx) => Finset.mem_biUnion.mpr
    ⟨halfOf (i 0).val (i 0).isLt, Finset.mem_univ _, (mem_chunk _ i).mpr (halfOf_spec _ _)⟩

/-! ## The slabs -/

abbrev slabRect (s : Fin 4) : Rect S4x128x256 := Rect.unit (s := S4x128x256) ![s.val, 0, 0] S1x128x256.size (inb_slab s)

theorem slab_set (s : Fin 4) : (slab s).view.set = (slabRect s).set :=
  (Memref.set_view_squeeze _ squeezes_S1x128x256_S128x256).trans (View.set_slice_whole _ _)
theorem mem_slab (s : Fin 4) (i : S4x128x256.Idx) : i ∈ (slab s).view.set ↔ (i 0).val = s.val := by
  rw [slab_set]
  refine Rect.mem_set_unit.trans ⟨fun H => ?_, fun H a => ?_⟩
  · have h0 : s.val ≤ (i 0).val ∧ (i 0).val < s.val + 1 := H 0
    omega
  · match a with
    | ⟨0, _⟩ => exact (show s.val ≤ (i 0).val ∧ (i 0).val < s.val + 1 by omega)
    | ⟨1, _⟩ => exact ⟨Nat.zero_le _, (i 1).isLt.trans_le (Nat.le_add_left _ _)⟩
    | ⟨2, _⟩ => exact ⟨Nat.zero_le _, (i 2).isLt.trans_le (Nat.le_add_left _ _)⟩
theorem slab_emb (s : Fin 4) (y : S128x256.Idx) : (slab s).view.emb y = (ix3 s (y 0) (y 1) : S4x128x256.Idx) := by
  obtain ⟨r, k, rfl⟩ : ∃ (r : Fin 128) (k : Fin 256), y = ix2 r k := ⟨y 0, y 1, eq_ix2 y⟩
  show (slabRect s).emb (Shape.reshapeEquiv _ (ix2 r k)) = _
  rw [reshapeEquiv_ix2_1ab]
  funext a
  match a with
  | ⟨0, _⟩ => exact Fin.ext (show s.val + 1 * 0 = s.val by omega)
  | ⟨1, _⟩ => exact Fin.ext (show 0 + 1 * r.val = r.val by omega)
  | ⟨2, _⟩ => exact Fin.ext (show 0 + 1 * k.val = k.val by omega)
theorem slabRect_emb (s : Fin 4) (r : Fin 128) (k : Fin 256) : (slabRect s).emb (ix3 (0 : Fin 1) r k) = ix3 s r k := by
  funext a
  match a with
  | ⟨0, _⟩ => exact Fin.ext (show s.val + 1 * 0 = s.val by omega)
  | ⟨1, _⟩ => exact Fin.ext (show 0 + 1 * r.val = r.val by omega)
  | ⟨2, _⟩ => exact Fin.ext (show 0 + 1 * k.val = k.val by omega)
theorem slab_disj (a b : Fin 4) (hab : a ≠ b) : Disjoint (slab a).view.set (slab b).view.set := by
  refine Finset.disjoint_left.mpr fun i ha hb => hab ?_
  have ha := (mem_slab _ i).mp ha
  have hb := (mem_slab _ i).mp hb
  exact Fin.ext (by omega)
theorem slab_cover : Finset.univ.biUnion (β := S4x128x256.Idx) (fun s => (slab s).view.set) = Finset.univ :=
  Finset.eq_univ_iff_forall.mpr fun (i : S4x128x256.Idx) => Finset.mem_biUnion.mpr ⟨i 0, Finset.mem_univ _, (mem_slab _ i).mpr rfl⟩

/-! ## The rows of the output -/

/-- Row `r` of the rows of device `d`, in the whole output. -/
def inRows (d : Dev nD) (r : Fin 128) : Fin 4096 := ⟨128 * d.val + r.val, by have hd : d.val < 32 := d.isLt; omega⟩

theorem rows_off (d : Dev nD) : rowOff (rowOf d).1 = ![128 * d.val, 0] := rowOff_dev d

theorem rows_set (d : Dev nD) : (rowsOf (rowOf d)).view.set = (Rect.unit (s := S4096x256) (rowOff (rowOf d).1) S128x256.size (rowOf d).2).set :=
  View.set_slice_whole _ _
theorem mem_rows (d : Dev nD) (i : S4096x256.Idx) : i ∈ (rowsOf (rowOf d)).view.set ↔ 128 * d.val ≤ (i 0).val ∧ (i 0).val < 128 * d.val + 128 := by
  rw [rows_set]
  refine Rect.mem_set_unit.trans ?_
  rw [rows_off]
  refine ⟨fun H => H 0, fun H a => ?_⟩
  match a with
  | ⟨0, _⟩ => exact H
  | ⟨1, _⟩ => exact ⟨Nat.zero_le _, (i 1).isLt.trans_le (Nat.le_add_left _ _)⟩
theorem rows_emb (d : Dev nD) (y : S128x256.Idx) : (rowsOf (rowOf d)).view.emb y = (ix2 (inRows d (y 0)) (y 1) : S4096x256.Idx) := by
  have h0 : rowOff (rowOf d).1 0 = 128 * d.val := congrFun (rows_off d) 0
  have h1 : rowOff (rowOf d).1 1 = 0 := congrFun (rows_off d) 1
  funext a
  match a with
  | ⟨0, _⟩ => exact Fin.ext (show rowOff (rowOf d).1 0 + 1 * (y 0).val = 128 * d.val + (y 0).val by omega)
  | ⟨1, _⟩ => exact Fin.ext (show rowOff (rowOf d).1 1 + 1 * (y 1).val = (y 1).val by omega)
theorem rows_disj (a b : Dev nD) (hab : a ≠ b) : Disjoint (rowsOf (rowOf a)).view.set (rowsOf (rowOf b)).view.set := by
  refine Finset.disjoint_left.mpr fun i ha hb => hab ?_
  have ha := (mem_rows _ i).mp ha
  have hb := (mem_rows _ i).mp hb
  exact Fin.ext (by omega)

/-- The device whose rows hold row `i`. -/
def ownerOf (i : Fin 4096) : Dev nD := ⟨i.val / 128, by have := i.isLt; show i.val / 128 < 32; omega⟩
theorem ownerOf_inRows (d : Dev nD) (r : Fin 128) : ownerOf (inRows d r) = d := Fin.ext (by show (128 * d.val + r.val) / 128 = d.val; omega)

theorem rows_cover : Finset.univ.biUnion (β := S4096x256.Idx) (fun d => (rowsOf (rowOf d)).view.set) = Finset.univ :=
  Finset.eq_univ_iff_forall.mpr fun (i : S4096x256.Idx) => Finset.mem_biUnion.mpr
    ⟨ownerOf (i 0), Finset.mem_univ _, (mem_rows _ i).mpr (by show 128 * ((i 0).val / 128) ≤ (i 0).val ∧ (i 0).val < 128 * ((i 0).val / 128) + 128; omega)⟩

end Cert.KernelIdeal.Ring

end
-- ==== Proof.Common.lean ====
/- What the devices agree on before they start: who signals which semaphore, with how much, and what rides on each signal.

   Every semaphore of the exchange is used for one round. A device's barrier takes one unit from each neighbour: the right
   neighbour's brings the right neighbour's sixteen receive slots, to be written, and the left neighbour's its fifteen. The
   semaphore of half a slot that came takes that half, holding the rows of the slot's origin; the semaphore of half a slot
   that was sent takes back the share of the rows lent to the copy.

   Waits are ordered: a device waits at its barrier owing only receives, and for the slot of hop `h` owing only later hops. -/
module

public import proofs.«01_k».proof.Proof.Views
public import Idealize.ShloMosaic.Lib.Rounds
public import Idealize.ShloMosaic.Lib.Transfers
public import Idealize.ShloMosaic.Lib.Tactic
public import Idealize.ShloMosaic.Lib.Pipeline.BigSepL

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type}

/-! ## The resource algebra: the windows' copy, the exchange's, and the local copies' -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig Unit (Elt F) ℕ UU ℕ) := countersEmb

/-! ## The cells -/

abbrev barCell (c : Dev nD) : GSem nD τ sig := ((c : Thread nD τ), .reg barSem)
abbrev sentCell (c : Dev nD) (t : Slot) (j : Fin 2) : GSem nD τ sig := ((c : Thread nD τ), .dma (sentSem t j))
abbrev cameCell (c : Dev nD) (t : Slot) (j : Fin 2) : GSem nD τ sig := ((c : Thread nD τ), .dma (cameSem t j))

/-- What a semaphore is for. -/
inductive Role
  | bar
  | sent (t : Slot) (j : Fin 2)
  | came (t : Slot) (j : Fin 2)
  | idle
  deriving DecidableEq

def roleOf : SemLoc sig → Role
  | .reg _ => .bar
  | .dma n =>
    if n.val < 10 then .idle
    else if h : n.val < 42 then .sent (.inl ⟨(n.val - 10) / 2, by omega⟩) ⟨(n.val - 10) % 2, by omega⟩
    else if h : n.val < 72 then .sent (.inr ⟨(n.val - 42) / 2, by omega⟩) ⟨(n.val - 42) % 2, by omega⟩
    else if h : n.val < 104 then .came (.inl ⟨(n.val - 72) / 2, by omega⟩) ⟨(n.val - 72) % 2, by omega⟩
    else if h : n.val < 134 then .came (.inr ⟨(n.val - 104) / 2, by omega⟩) ⟨(n.val - 104) % 2, by omega⟩
    else .idle

theorem role_sent : ∀ t j, roleOf (.dma (sentSem t j)) = .sent t j
  | .inl h, j => (show ∀ (h : Fin 16) (j : Fin 2), roleOf (.dma (sentSem (.inl h) j)) = .sent (.inl h) j by decide +kernel) h j
  | .inr h, j => (show ∀ (h : Fin 15) (j : Fin 2), roleOf (.dma (sentSem (.inr h) j)) = .sent (.inr h) j by decide +kernel) h j
theorem role_came : ∀ t j, roleOf (.dma (cameSem t j)) = .came t j
  | .inl h, j => (show ∀ (h : Fin 16) (j : Fin 2), roleOf (.dma (cameSem (.inl h) j)) = .came (.inl h) j by decide +kernel) h j
  | .inr h, j => (show ∀ (h : Fin 15) (j : Fin 2), roleOf (.dma (cameSem (.inr h) j)) = .came (.inr h) j by decide +kernel) h j
theorem role_slab : ∀ s, roleOf (.dma (slabSem s)) = .idle := by decide +kernel
theorem role_load : ∀ s, roleOf (.dma (loadSem s)) = .idle := by decide +kernel

/-- The credit of half a slot. -/
abbrev N : ℕ := (half (.inl 0) 0).view.dmaCredit
theorem N_pos : 0 < N := View.dmaCredit_pos _ (by decide)
theorem half_credit : ∀ t j, (half t j).view.dmaCredit = N
  | .inl _, _ => rfl
  | .inr _, _ => rfl
theorem feed_credit : ∀ t j, (feed t j).view.dmaCredit = N
  | .inl ⟨0, _⟩, _ => rfl
  | .inl ⟨_ + 1, _⟩, _ => rfl
  | .inr ⟨0, _⟩, _ => rfl
  | .inr ⟨_ + 1, _⟩, _ => rfl

/-! ## The rows in the slots -/

/-- The rounded rows of each device. -/
abbrev AllRows (F : FTy → Type) : Type := Dev nD → Vec F S128x4096 .fp8e5m2

variable (X : AllRows F)

/-- What the buffer filled rightwards comes to hold at device `c`, and the one filled leftwards. -/
def rightRows (c : Dev nD) : Vec F S16x128x4096 .fp8e5m2 := fun i => X (origin c (.inl (i 0))) (ix2 (i 1) (i 2))
def leftRows (c : Dev nD) : Vec F S15x128x4096 .fp8e5m2 := fun i => X (origin c (.inr (i 0))) (ix2 (i 1) (i 2))

/-- What half a slot holds once it came, -/
def landed (c : Dev nD) : (t : Slot) → (j : Fin 2) → Buf (Elt F) ((half t j).view.loc (c : Thread nD τ))
  | .inl _, _ => rightRows X c
  | .inr _, _ => leftRows X c
/-- and what the copy into a slot reads. -/
def feeding (c : Dev nD) : (t : Slot) → (j : Fin 2) → Buf (Elt F) ((feed t j).view.loc (c : Thread nD τ))
  | .inl ⟨0, _⟩, _ => X c
  | .inl ⟨h + 1, _⟩, j => landed X c (.inl ⟨h, by omega⟩) j
  | .inr ⟨0, _⟩, _ => X c
  | .inr ⟨h + 1, _⟩, j => landed X c (.inr ⟨h, by omega⟩) j

/-- Half `j` of a block of rows. -/
def halfRows (x : Vec F S128x4096 .fp8e5m2) (j : Fin 2) : Vec F S64x4096 .fp8e5m2 := fun y => x (ix2 (inHalf j (y 0)) (y 1))

theorem read_landed (c : Dev nD) : ∀ t j, (half t j).view.read (Elt F) (landed X c t j) = halfRows (X (origin c t)) j
  | .inl h, j => funext fun y => congrArg (rightRows X c) (half_emb_right h j y)
  | .inr h, j => funext fun y => congrArg (leftRows X c) (half_emb_left h j y)
theorem read_chunk (x : Vec F S128x4096 .fp8e5m2) (j : Fin 2) : (chunk j).view.read (Elt F) x = halfRows x j :=
  funext fun y => congrArg x (chunk_emb j y)
theorem read_feeding (c : Dev nD) : ∀ t j, (feed t j).view.read (Elt F) (feeding X c t j) = halfRows (X (origin (onto c t) t)) j
  | .inl ⟨0, h0⟩, j => by
    rw [show origin (onto c (.inl ⟨0, h0⟩)) (.inl ⟨0, h0⟩) = c from (origin_first c).1]; exact read_chunk (X c) j
  | .inl ⟨h + 1, hh⟩, j => by
    rw [show origin (onto c (.inl ⟨h + 1, hh⟩)) (.inl ⟨h + 1, hh⟩) = origin c (.inl ⟨h, by omega⟩) from origin_right c h _ hh]
    exact read_landed X c (.inl ⟨h, by omega⟩) j
  | .inr ⟨0, h0⟩, j => by
    rw [show origin (onto c (.inr ⟨0, h0⟩)) (.inr ⟨0, h0⟩) = c from (origin_first c).2]; exact read_chunk (X c) j
  | .inr ⟨h + 1, hh⟩, j => by
    rw [show origin (onto c (.inr ⟨h + 1, hh⟩)) (.inr ⟨h + 1, hh⟩) = origin c (.inr ⟨h, by omega⟩) from origin_left c h _ hh]
    exact read_landed X c (.inr ⟨h, by omega⟩) j

/-! ## Holding them -/

/-- Half a slot of device `c`, and what feeds it. -/
def halfAt (c : Dev nD) (t : Slot) (j : Fin 2) (q : PosShare TreeShare) (f : Buf (Elt F) ((half t j).view.loc (c : Thread nD τ))) : sProp 𝕄 :=
  (half t j).view.loc (c : Thread nD τ) ↦[(half t j).view.set]{q} f
def feedAt (c : Dev nD) (t : Slot) (j : Fin 2) (q : PosShare TreeShare) (f : Buf (Elt F) ((feed t j).view.loc (c : Thread nD τ))) : sProp 𝕄 :=
  (feed t j).view.loc (c : Thread nD τ) ↦[(feed t j).view.set]{q} f

instance halfAt_storable (c : Dev nD) (t : Slot) (j : Fin 2) (q f) : BI.Storable (upEmb : UEmb _ 𝕄) (halfAt (F := F) c t j q f) := by
  unfold halfAt; infer_instance
instance feedAt_storable (c : Dev nD) (t : Slot) (j : Fin 2) (q f) : BI.Storable (upEmb : UEmb _ 𝕄) (feedAt (F := F) c t j q f) := by
  unfold feedAt; infer_instance

/-- The share of its rows a device lends to the copy into slot `t`: the own rows go both ways. -/
def lent : Slot → PosShare TreeShare
  | .inl ⟨0, _⟩ => fullShare.left.left
  | .inr ⟨0, _⟩ => fullShare.left.right
  | _ => fullShare.left

/-- A copy into half a slot leaves it holding the rows of the slot's origin. -/
theorem lands (c : Dev nD) (t : Slot) (j : Fin 2) (fd : Buf (Elt F) ((half t j).view.loc (onto c t : Thread nD τ))) :
    ((half t j).view.loc (onto c t : Thread nD τ) ↦[(half t j).view.set]{fullShare}
        ((half t j).view.write (Elt F) fd ((feed t j).view.read (Elt F) (feeding X c t j)) Finset.univ) : sProp 𝕄)
      = halfAt (onto c t) t j fullShare (landed X (onto c t) t j) := by
  unfold halfAt
  exact pointsTo_congr fun i hi => write_eq _ _ _ _ ((read_landed X (onto c t) t j).trans (read_feeding X c t j).symm) hi

/-! ## The schedule -/

/-- What the right neighbour's signal brings, and the left neighbour's. -/
def barPay (c : Dev nD) : Bool → sProp 𝕄
  | false => bigSep Finset.univ fun a : Fin 16 × Fin 2 => iprop((∃ f, halfAt (rgt c) (.inl a.1) a.2 fullShare f) ∗ reached ER (cameCell (rgt c) (.inl a.1) a.2) 0)
  | true => bigSep Finset.univ fun a : Fin 15 × Fin 2 => iprop((∃ f, halfAt (lft c) (.inr a.1) a.2 fullShare f) ∗ reached ER (cameCell (lft c) (.inr a.1) a.2) 0)

instance barPay_storable (c : Dev nD) : ∀ d, BI.Storable (upEmb : UEmb _ 𝕄) (barPay (F := F) c d)
  | false => by unfold barPay; infer_instance
  | true => by unfold barPay; infer_instance

def payOf (c : Dev nD) (d : Bool) : Role → sProp 𝕄
  | .bar => barPay c d
  | .sent t j => feedAt c t j (lent t) (feeding X c t j)
  | .came t j => halfAt c t j fullShare (landed X c t j)
  | .idle => iprop(emp)

instance payOf_storable (c : Dev nD) (d : Bool) : ∀ r, BI.Storable (upEmb : UEmb _ 𝕄) (payOf X c d r)
  | .bar => by unfold payOf; infer_instance
  | .sent _ _ => by unfold payOf; infer_instance
  | .came _ _ => by unfold payOf; infer_instance
  | .idle => by unfold payOf; infer_instance

def dutiesOf : Role → Finset Bool
  | .bar => Finset.univ
  | .idle => ∅
  | _ => {false}
def amountOf : Role → ℕ
  | .bar => 1
  | _ => N
theorem amountOf_pos : ∀ r, 0 < amountOf r
  | .bar => Nat.one_pos
  | .sent _ _ => N_pos
  | .came _ _ => N_pos
  | .idle => N_pos

def sched : Rounds.Schedule (GSem nD τ sig) Bool 𝕄 where
  duties g r := if r = 0 ∧ g.1.2 = .tc then dutiesOf (roleOf g.2) else ∅
  unitless _ := False
  amount g _ _ := amountOf (roleOf g.2)
  payload g _ d := payOf X g.1.1 d (roleOf g.2)
  amount_pos g _ _ _ := amountOf_pos _

instance sched_storable (g : GSem nD τ sig) (r : ℕ) (d : Bool) : BI.Storable (upEmb : UEmb _ 𝕄) ((sched X).payload g r d) := by
  show BI.Storable upEmb (payOf X g.1.1 d (roleOf g.2)); infer_instance

section Sched

variable (c : Dev nD) (t : Slot) (j : Fin 2)

theorem duties_bar : (sched X).duties (barCell c) 0 = Finset.univ := by dsimp only [sched]; exact if_pos ⟨rfl, rfl⟩
theorem duties_sent : (sched X).duties (sentCell c t j) 0 = {false} := by dsimp only [sched]; exact (if_pos ⟨rfl, rfl⟩).trans (by rw [role_sent]; rfl)
theorem duties_came : (sched X).duties (cameCell c t j) 0 = {false} := by dsimp only [sched]; exact (if_pos ⟨rfl, rfl⟩).trans (by rw [role_came]; rfl)
theorem duties_later (g : GSem nD τ sig) : ∀ r, 1 ≤ r → (sched X).duties g r = ∅ := fun r hr => by
  dsimp only [sched]; exact if_neg fun h => by omega

theorem amount_bar (d : Bool) : (sched X).amount (barCell c) 0 d = 1 := rfl
theorem amount_sent (d : Bool) : (sched X).amount (sentCell c t j) 0 d = N := by show amountOf (roleOf _) = N; rw [role_sent]; rfl
theorem amount_came (d : Bool) : (sched X).amount (cameCell c t j) 0 d = N := by show amountOf (roleOf _) = N; rw [role_came]; rfl

theorem expect_bar : (sched X).expect (barCell c) 0 = 2 := by
  unfold Schedule.expect Schedule.amountOf
  rw [duties_bar, Finset.sum_congr rfl fun d _ => amount_bar X c d, Finset.sum_const, Finset.card_univ, Fintype.card_bool, smul_eq_mul]
theorem expect_sent : (sched X).expect (sentCell c t j) 0 = N := by
  unfold Schedule.expect Schedule.amountOf; rw [duties_sent, Finset.sum_singleton, amount_sent]
theorem expect_came : (sched X).expect (cameCell c t j) 0 = N := by
  unfold Schedule.expect Schedule.amountOf; rw [duties_came, Finset.sum_singleton, amount_came]

theorem payload_bar (d : Bool) : (sched X).payload (barCell c) 0 d = barPay c d := rfl
theorem payload_sent (d : Bool) : (sched X).payload (sentCell c t j) 0 d = feedAt c t j (lent t) (feeding X c t j) := by
  show payOf X c d (roleOf _) = _; rw [role_sent]; rfl
theorem payload_came (d : Bool) : (sched X).payload (cameCell c t j) 0 d = halfAt c t j fullShare (landed X c t j) := by
  show payOf X c d (roleOf _) = _; rw [role_came]; rfl

theorem rest_bar : bigSep ((sched X).duties (barCell c) 0 \ ∅) (fun d => (sched X).payload (barCell c) 0 d) = iprop(barPay c false ∗ barPay c true) := by
  rw [Finset.sdiff_empty, duties_bar, bigSep_univ_eq_bigSepL [false, true] (by decide) (by decide), bigSepL_cons_cons, bigSepL_singleton,
    payload_bar, payload_bar]
  rfl
theorem rest_sent : bigSep ((sched X).duties (sentCell c t j) 0 \ ∅) (fun d => (sched X).payload (sentCell c t j) 0 d) = feedAt c t j (lent t) (feeding X c t j) := by
  rw [Finset.sdiff_empty, duties_sent, bigSep_singleton, payload_sent]
theorem rest_came : bigSep ((sched X).duties (cameCell c t j) 0 \ ∅) (fun d => (sched X).payload (cameCell c t j) 0 d) = halfAt c t j fullShare (landed X c t j) := by
  rw [Finset.sdiff_empty, duties_came, bigSep_singleton, payload_came]

end Sched

/-! ## What a device owes, and in which order it may wait -/

/-- Half a slot. -/
abbrev Item : Type := Slot × Fin 2

/-- Owing the copies of a list of halves, the first to be made first. -/
def owing (c : Dev nD) : List Item → CellTallies nD τ sig Unit
  | [] => 0
  | x :: l => owing c l + tallyAt (cameCell (onto c x.1) x.1 x.2) () N

def L (g : GSem nD τ sig) : Finset Unit := if g.1.2 = .tc then {()} else ∅
/-- Barriers stand at 1, the receives of hop `h` at `2 + h`, all else at 0. -/
def levelOf : Role → ℕ
  | .bar => 1
  | .came t _ => 2 + hopOf t
  | _ => 0
def lv (g : GSem nD τ sig) (_ : Unit) : ℕ := levelOf (roleOf g.2)

theorem L_of_ne (g : GSem nD τ sig) (h : g.1.2 ≠ .tc) : L g = ∅ := if_neg h
theorem L_tc (c : Dev nD) (sm : SemLoc sig) : L ((c : Thread nD τ), sm) = {()} := if_pos rfl

theorem owing_pos (c : Dev nD) : ∀ (l : List Item) {g : GSem nD τ sig} {u : Unit}, 0 < owing c l g u →
    ∃ x ∈ l, g = cameCell (onto c x.1) x.1 x.2
  | [], g, u, h => absurd h (Nat.lt_irrefl 0)
  | x :: l, g, u, h => by
    unfold owing at h
    rw [Pi.add_apply, Finsupp.add_apply, tallyAt_apply] at h
    by_cases hx : g = cameCell (onto c x.1) x.1 x.2 ∧ u = ()
    · exact ⟨x, List.mem_cons_self, hx.1⟩
    · rw [if_neg hx, Nat.add_zero] at h
      obtain ⟨y, hy, hg⟩ := owing_pos c l h
      exact ⟨y, List.mem_cons_of_mem _ hy, hg⟩

/-- A wait at a cell below every receive still owed is admitted. -/
theorem mayWait (c : Dev nD) (sm : SemLoc sig) (l : List Item) (h : ∀ x ∈ l, levelOf (roleOf sm) < 2 + hopOf x.1) :
    (levAts L lv : sProp 𝕄) ⊢ MayWait (c : Thread nD τ) sm () (owing c l) :=
  MayOwe.of_cut (L := L) (lev := lv) (levelOf (roleOf sm)) (fun p hp => by rw [Finset.mem_singleton.mp hp, L_tc]; exact Finset.mem_singleton_self _)
    (fun g u hg => by obtain ⟨x, -, rfl⟩ := owing_pos c l hg; rw [L_tc]; exact Finset.mem_singleton_self _)
    (fun p hp => by rw [Finset.mem_singleton.mp hp]; exact le_rfl)
    (fun g u hg => by
      obtain ⟨x, hx, rfl⟩ := owing_pos c l hg
      show _ < levelOf (roleOf _)
      rw [role_came]; exact h x hx)

/-- Owing something, whatever has been waited for. -/
def owed (c : Dev nD) (O : CellTallies nD τ sig Unit) : sProp 𝕄 := iprop(∃ W : Waits sig Unit, owes (c : Thread nD τ) O W)

/-! ## The invariants -/

/-- The cells: the barriers, and those of the halves sent and come. -/
def cellsOf (c : Dev nD) : Item ⊕ Item → GSem nD τ sig
  | .inl x => sentCell c x.1 x.2
  | .inr x => cameCell c x.1 x.2

/-- Every cell's invariant, and the levels: what every device may use at any time. -/
def rules (κ : GSem nD τ sig → ℕ) : sProp 𝕄 :=
  iprop((bigSep Finset.univ fun c : Dev nD => iprop(cellInv ER (sched X) (κ (barCell c)) (barCell c)
      ∗ bigSep Finset.univ fun x : Item ⊕ Item => cellInv ER (sched X) (κ (cellsOf c x)) (cellsOf c x))) ∗ levAts L lv)

instance rules_persistent (κ : GSem nD τ sig → ℕ) : BI.Persistent (rules X κ) := by unfold rules; infer_instance

/-- One member of a family held whole. -/
theorem pick {I : Type} [Fintype I] [DecidableEq I] (Φ : I → sProp 𝕄) (i : I) : bigSep Finset.univ Φ ⊢ Φ i :=
  bigSep_elim (Finset.mem_univ i)

theorem rules_bar (κ : GSem nD τ sig → ℕ) (c : Dev nD) : rules X κ ⊢ cellInv ER (sched X) (κ (barCell c)) (barCell c) := by
  unfold rules
  iintro ⟨H, -⟩
  ihave H' := (pick _ c) $$ H
  icases H' with ⟨H', -⟩
  iexact H'
theorem rules_cell (κ : GSem nD τ sig → ℕ) (c : Dev nD) (x : Item ⊕ Item) : rules X κ ⊢ cellInv ER (sched X) (κ (cellsOf c x)) (cellsOf c x) := by
  unfold rules
  iintro ⟨H, -⟩
  ihave H' := (pick _ c) $$ H
  icases H' with ⟨-, H'⟩
  iapply (pick _ x) $$ H'
theorem rules_sent (κ : GSem nD τ sig → ℕ) (c : Dev nD) (t : Slot) (j : Fin 2) :
    rules X κ ⊢ cellInv ER (sched X) (κ (sentCell c t j)) (sentCell c t j) := rules_cell X κ c (.inl (t, j))
theorem rules_came (κ : GSem nD τ sig → ℕ) (c : Dev nD) (t : Slot) (j : Fin 2) :
    rules X κ ⊢ cellInv ER (sched X) (κ (cameCell c t j)) (cameCell c t j) := rules_cell X κ c (.inr (t, j))
theorem rules_levels (κ : GSem nD τ sig → ℕ) : rules X κ ⊢ levAts L lv := by
  unfold rules
  iintro ⟨-, H⟩
  iexact H

set_option maxRecDepth 100000 in
/-- The same, from the rules. -/
theorem rules_wait (κ : GSem nD τ sig → ℕ) (c : Dev nD) (sm : SemLoc sig) (l : List Item) (h : ∀ x ∈ l, levelOf (roleOf sm) < 2 + hopOf x.1) :
    rules X κ ⊢ MayWait (c : Thread nD τ) sm () (owing c l) := (rules_levels X κ).trans (mayWait c sm l h)

/-- A cell past its one round closes, its counter back in hand at zero. -/
theorem close (κ : ℕ) (g : GSem nD τ sig) :
    iprop(cellInv ER (sched X) κ g ∗ atPos ER g (0 + 1) ∅ 0) ⊢ (|={Set.univ}=> semVal g 0 : sProp 𝕄) :=
  Rounds.cell_close ER (sched X) (Set.mem_univ κ) id (duties_later X g)

end Cert.KernelIdeal.Ring

end
-- ==== Proof.Steps.lean ====
/- One rule for each step of the kernel: what the device must hold to take it, and what it holds after. -/
module

public import proofs.«01_k».proof.Proof.Common

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ UU ℕ

abbrev 𝒱₀ : Variants := Variants.none

/-- Running `p` on device `c` to `Q`. -/
abbrev run (c : Dev nD) (p : Body F) (Q : PUnit → sProp 𝕄) : sProp 𝕄 :=
  wp frame (wpE (defs₀ (F := F)) 𝒱₀ (c : Thread nD τ) none) Set.univ p Q

variable (X : AllRows F) (κ : GSem nD τ sig → ℕ) (c : Dev nD)

/-! ## The copies between devices -/

/-- What device `c` needs to make the copy into a half at its neighbour, beside the rows; and what it keeps of it. -/
def SendIt (x : Item) : sProp 𝕄 :=
  iprop(atPos ER (sentCell c x.1 x.2) 0 ∅ 0 ∗ dutyTok ER (sentCell c x.1 x.2) 0 false ∗ reached ER (sentCell c x.1 x.2) 0
    ∗ dutyTok ER (cameCell (onto c x.1) x.1 x.2) 0 false ∗ reached ER (cameCell (onto c x.1) x.1 x.2) 0
    ∗ ∃ f, halfAt (onto c x.1) x.1 x.2 fullShare f)
def SentIt (x : Item) : sProp 𝕄 :=
  iprop(atPos ER (sentCell c x.1 x.2) 0 ∅ 0 ∗ cred (tallyAt (sentCell c x.1 x.2) () N))
/-- What it needs to receive a half. -/
def CameIt (x : Item) : sProp 𝕄 :=
  iprop(atPos ER (cameCell c x.1 x.2) 0 ∅ 0 ∗ cred (tallyAt (cameCell c x.1 x.2) () N))

/-- The rows a copy reads. -/
abbrev Fed (t : Slot) (j : Fin 2) : sProp 𝕄 := feedAt c t j (lent t) (feeding X c t j)
/-- A half that came, at a share. -/
abbrev Came (t : Slot) (j : Fin 2) (q : PosShare TreeShare) : sProp 𝕄 := halfAt c t j q (landed X c t j)

theorem run_send (t : Slot) (j : Fin 2) (d : Dev nD) (hd : d = onto c t) (l : List Item) (k : Body F) (Q : PUnit → sProp 𝕄) :
    iprop(rules X κ ∗ SendIt c (t, j) ∗ Fed X c t j ∗ owed c (owing c ((t, j) :: l))
      ∗ ((SentIt c (t, j) ∗ owed c (owing c l)) -∗ run c k Q)) ⊢ run c (send t j d k) Q := by
  subst hd
  unfold send SendIt SentIt owed Fed feedAt
  iintro ⟨#HR, ⟨Hat, Ht, #Hr, Ht', #Hr', ⟨%fd, Hh⟩⟩, Hf, ⟨%W, HO⟩, Hk⟩
  iapply (Rounds.wp_send_pointsTo 𝒱₀ ER (sched X) (c : Thread nD τ) none (c' := (onto c t : Thread nD τ)) (src := feed t j) (dst := half t j)
      (sS := .dma (sentSem t j)) (sem := .dma (cameSem t j)) (q := lent t) (fs := feeding X c t j) (κ₁ := κ (sentCell c t j)) (κ₂ := κ (cameCell (onto c t) t j))
      (r₁ := 0) (r₂ := 0) (d₁ := false) (d₂ := false) (fd := fd)
      (by rw [duties_sent]; exact Finset.mem_singleton_self _) (by rw [duties_came]; exact Finset.mem_singleton_self _)
      () () N (half_credit t j) (amount_sent X c t j false) (amount_came X (onto c t) t j false) (owing c l) rfl (W := W)
      (by rw [payload_sent]; exact BI.Entails.refl _)
      (by rw [payload_came, lands])) $$ [Hf Hh HO Ht Ht']
  · isplitr; · iapply (rules_sent X κ c t j); iexact HR
    isplitr; · iapply (rules_came X κ (onto c t) t j); iexact HR
    isplitl [Hf]; · iexact Hf
    isplitl [Hh]; · unfold halfAt; iexact Hh
    isplitl [HO]; · iexact HO
    isplitl [Ht]; · iexact Ht
    isplitr; · iexact Hr
    isplitl [Ht']; · iexact Ht'
    iexact Hr'
  iintro ⟨Hc, HO⟩
  iapply Hk
  isplitl [Hat Hc]; · isplitl [Hat] <;> iassumption
  iexists W; iexact HO

theorem run_came (t : Slot) (j : Fin 2) (l : List Item) (hl : ∀ x ∈ l, hopOf t < hopOf x.1) (k : Body F) (Q : PUnit → sProp 𝕄) :
    iprop(rules X κ ∗ CameIt c (t, j) ∗ owed c (owing c l)
      ∗ ((Came X c t j fullShare ∗ semVal (cameCell c t j) 0 ∗ owed c (owing c l)) -∗ run c k Q)) ⊢ run c (came t j k) Q := by
  unfold came CameIt owed
  iintro ⟨#HR, ⟨Hat, Hc⟩, ⟨%W, HO⟩, Hk⟩
  iapply (Rounds.wp_wait_rest_token 𝒱₀ ER (sched X) (c : Thread nD τ) none (κ := κ (cameCell c t j))
      (wpE_waitDma2_eq 𝒱₀ (c : Thread nD τ) none Set.univ) (Set.mem_univ _) () (O := owing c l) (W := W) (R := 0) (m := 0) (T := ∅)
      ((Nat.zero_add _).trans ((half_credit t j).trans (expect_came X c t j).symm))) $$ [Hc HO Hat]
  · isplitr; · iapply (rules_came X κ c t j); iexact HR
    isplitl [Hc]; · rw [half_credit]; iexact Hc
    isplitl [HO]; · iexact HO
    isplitr
    · iapply (rules_wait X κ c (.dma (cameSem t j)) l (fun x hx => by rw [role_came]; exact Nat.add_lt_add_left (hl x hx) 2))
      iexact HR
    iexact Hat
  iintro ⟨HO, Hat, -, Hpay⟩
  imod (close X (κ (cameCell c t j)) (cameCell c t j)) $$ [Hat] with Hv
  · isplitr; · iapply (rules_came X κ c t j); iexact HR
    iexact Hat
  iapply Hk
  isplitl [Hpay]; · iapply (Entails.of_eq (rest_came X c t j)) $$ Hpay
  isplitl [Hv]; · iexact Hv
  iexists _; iexact HO

theorem run_sent (t : Slot) (j : Fin 2) (k : Body F) (Q : PUnit → sProp 𝕄) :
    iprop(rules X κ ∗ SentIt c (t, j) ∗ owed c 0
      ∗ ((Fed X c t j ∗ semVal (sentCell c t j) 0 ∗ owed c 0) -∗ run c k Q)) ⊢ run c (sent t j k) Q := by
  unfold sent SentIt owed
  iintro ⟨#HR, ⟨Hat, Hc⟩, ⟨%W, HO⟩, Hk⟩
  iapply (Rounds.wp_wait_rest_token 𝒱₀ ER (sched X) (c : Thread nD τ) none (κ := κ (sentCell c t j))
      (wpE_waitDma2_eq 𝒱₀ (c : Thread nD τ) none Set.univ) (Set.mem_univ _) () (O := 0) (W := W) (R := 0) (m := 0) (T := ∅)
      ((Nat.zero_add _).trans ((feed_credit t j).trans (expect_sent X c t j).symm))) $$ [Hc HO Hat]
  · isplitr; · iapply (rules_sent X κ c t j); iexact HR
    isplitl [Hc]; · rw [feed_credit]; iexact Hc
    isplitl [HO]; · iexact HO
    isplitr; · rw [MayWait_zero]; iempintro
    iexact Hat
  iintro ⟨HO, Hat, -, Hpay⟩
  imod (close X (κ (sentCell c t j)) (sentCell c t j)) $$ [Hat] with Hv
  · isplitr; · iapply (rules_sent X κ c t j); iexact HR
    iexact Hat
  iapply Hk
  isplitl [Hpay]; · iapply (Entails.of_eq (rest_sent X c t j)) $$ Hpay
  isplitl [Hv]; · iexact Hv
  iexists _; iexact HO

/-- A half that came is lent on from, or read, each by its share. -/
theorem came_split (t : Slot) (j : Fin 2) : Came X c t j fullShare ⊣⊢ iprop(Came X c t j fullShare.left ∗ Came X c t j fullShare.right) := by
  unfold Came halfAt; exact pointsTo_share (PosShare.mem_left_op_right fullShare)

/-! ## A whole slot -/

/-- A slot whole, at a share, holding the rows that came in it. -/
def slotAt (q : PosShare TreeShare) : Slot → sProp 𝕄
  | .inl h => (Memref.whole cc0_scratch4).view.loc (c : Thread nD τ) ↦[(rowRight h).set]{q} rightRows X c
  | .inr h => (Memref.whole cc0_scratch5).view.loc (c : Thread nD τ) ↦[(rowLeft h).set]{q} leftRows X c

theorem halves_right (q : PosShare TreeShare) (h : Fin 16) :
    (slotAt X c q (.inl h) : sProp 𝕄) = bigSep Finset.univ fun j : Fin 2 => Came X c (.inl h) j q :=
  Ring.pointsTo_sub_blocks (ℓ := (Memref.whole cc0_scratch4).view.loc (c : Thread nD τ)) (B := Fin 2) (fun j => (half (.inl h) j).view.set)
    (fun a b hab => half_disj_right (h, a) (h, b) fun e => hab (congrArg Prod.snd e)) (rowRight h).set (rowRight_cut h) (rightRows X c)

theorem halves_left (q : PosShare TreeShare) (h : Fin 15) :
    (slotAt X c q (.inr h) : sProp 𝕄) = bigSep Finset.univ fun j : Fin 2 => Came X c (.inr h) j q :=
  Ring.pointsTo_sub_blocks (ℓ := (Memref.whole cc0_scratch5).view.loc (c : Thread nD τ)) (B := Fin 2) (fun j => (half (.inr h) j).view.set)
    (fun a b hab => half_disj_left (h, a) (h, b) fun e => hab (congrArg Prod.snd e)) (rowLeft h).set (rowLeft_cut h) (leftRows X c)

theorem slot_halves (q : PosShare TreeShare) : ∀ t : Slot, (slotAt X c q t : sProp 𝕄) = iprop(Came X c t 0 q ∗ Came X c t 1 q)
  | .inl h => (halves_right X c q h).trans (BI.bigSep_fin_two _)
  | .inr h => (halves_left X c q h).trans (BI.bigSep_fin_two _)

/-- The rows as a slot is read. -/
def slotRows (d : Dev nD) : Vec F S1x128x4096 .fp8e5m2 := fun y => X d (ix2 (y 1) (y 2))

theorem run_readSlot (q : PosShare TreeShare) (k : Vec F S1x128x4096 .fp8e5m2 → Body F) (Q : PUnit → sProp 𝕄) : ∀ t : Slot,
    iprop(slotAt X c q t ∗ (slotAt X c q t -∗ run c (k (slotRows X (origin c t))) Q)) ⊢ run c (readSlot t k) Q
  | .inl h => by
    unfold readSlot slotAt
    iintro ⟨Hs, Hk⟩
    iapply (wp_load_rect 𝒱₀ (c : Thread nD τ) none Set.univ (m := Memref.whole cc0_scratch4) (r := rowRight h) (by rw [show ((Memref.whole cc0_scratch4).access (rowRight h)).set = (rowRight h).set from View.set_slice_whole _ _])) $$ [Hs]
    · iexact Hs
    iintro Hs
    rw [show ((Memref.whole cc0_scratch4).access (rowRight h)).read (Elt F) (rightRows X c) = slotRows X (origin c (.inl h)) from
      funext fun y => congrArg (rightRows X c) (rowRight_emb h y)]
    iapply Hk $$ Hs
  | .inr h => by
    unfold readSlot slotAt
    iintro ⟨Hs, Hk⟩
    iapply (wp_load_rect 𝒱₀ (c : Thread nD τ) none Set.univ (m := Memref.whole cc0_scratch5) (r := rowLeft h) (by rw [show ((Memref.whole cc0_scratch5).access (rowLeft h)).set = (rowLeft h).set from View.set_slice_whole _ _])) $$ [Hs]
    · iexact Hs
    iintro Hs
    rw [show ((Memref.whole cc0_scratch5).access (rowLeft h)).read (Elt F) (leftRows X c) = slotRows X (origin c (.inr h)) from
      funext fun y => congrArg (leftRows X c) (rowLeft_emb h y)]
    iapply Hk $$ Hs

/-- Read as a block of rows, they are the origin's. -/
theorem slotRows_cast (d : Dev nD) (h) : shapeCast S128x4096 (slotRows X d) h = X d := by
  funext y
  obtain ⟨r, k, rfl⟩ : ∃ (r : Fin 128) (k : Fin 4096), y = ix2 r k := ⟨y 0, y 1, eq_ix2 y⟩
  show slotRows X d (Shape.reshapeEquiv _ (ix2 r k)) = _
  rw [reshapeEquiv_ix2_1ab]
  rfl

end Cert.KernelIdeal.Ring

end
-- ==== Proof.Tiles.lean ====
/- The tiles. A device turns every block of rows it has into 128 rows of its output: it reads the block and the rounded
   weights, puts the product into one of four slabs, and starts the slab's store into the rows of the output that are the
   block's origin's. What each of those steps needs and gives, as a lemma over the rest of the program. -/
module

public import proofs.«01_k».proof.Proof.Steps
public import Idealize.ShloMosaic.Lib.Memref

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ UU ℕ

variable (X : AllRows F) (κ : GSem nD τ sig → ℕ) (c : Dev nD)

/-! ## Reading a word of a table -/

theorem run_word {s : Shape} {e : EltTy} (m : Memref sig .tc .smem s e) (x : s.Idx → Elt F e) (off sz : Fin s.rank → Nat)
    (hin : ∀ a, off a + sz a ≤ s.size a) (h1 : (Rect.unit (s := s) off sz hin).shape.numel = 1) (hp : e.packing = 1)
    (k : Elt F e → Body F) (Q : PUnit → sProp 𝕄) :
    iprop(owns (c : Thread nD τ) m fullShare x
      ∗ (owns (c : Thread nD τ) m fullShare x -∗ run c (k (x ((Rect.unit (s := s) off sz hin).emb (Shape.Idx.first (h1.symm ▸ Nat.one_pos))))) Q))
      ⊢ run c (word m off sz hin h1 hp k) Q := by
  unfold word owns
  iintro ⟨⟨%g, %hg, Hm⟩, Hk⟩
  subst hg
  iapply (wp_load 𝒱₀ (c : Thread nD τ) none Set.univ (m := m) (r := (Rect.unit (s := s) off sz hin).toLoadRect) (View.setOn_subset_set _ _)) $$ [Hm]
  · iexact Hm
  iintro Hm
  iapply Hk
  iexists g
  isplitr; · ipureintro; rfl
  iexact Hm

/-- The tables as the kernel is handed them. -/
def tabOf : Vec F S32 .i32 := fun i => lit0 (S32.rowMajor i)
def posTab : Vec F S32 .i32 := fun i => lit1 (S32.rowMajor i)
abbrev Tab : sProp 𝕄 := owns (c : Thread nD τ) mTab fullShare (tabOf (F := F))
abbrev PosTab : sProp 𝕄 := owns (c : Thread nD τ) mPos fullShare (posTab (F := F))

theorem run_tab (off : Fin 1 → Nat) (hin) (h1) (hp) (p : Fin 32) (h : off 0 = p.val) (k : BitVec 32 → Body F) (Q : PUnit → sProp 𝕄) :
    iprop(Tab c ∗ (Tab c -∗ run c (k (devWord (devAt p))) Q)) ⊢ run c (word mTab off S1.size hin h1 hp k) Q := by
  refine Entails.trans (Entails.of_eq ?_) (run_word c mTab (tabOf (F := F)) off S1.size hin h1 hp k Q)
  rw [show tabOf (F := F) ((Rect.unit (s := S32) off S1.size hin).emb (Shape.Idx.first (h1.symm ▸ Nat.one_pos))) = devWord (devAt p) from ?_]
  rw [← lit0_eq]
  exact congrArg lit0 (Fin.ext ((Shape.rowMajor_val_one _).trans h))

/-! ## A slab and its store -/

/-- A slab, and the rows of the output that are device `d`'s. -/
def slabAt (s : Fin 4) (f : Buf (Elt F) ((slab s).view.loc (c : Thread nD τ))) : sProp 𝕄 :=
  (slab s).view.loc (c : Thread nD τ) ↦[(slab s).view.set]{fullShare} f
def rowsAt (d : Dev nD) (f : Buf (Elt F) ((rowsOf (rowOf d)).view.loc (c : Thread nD τ))) : sProp 𝕄 :=
  (rowsOf (rowOf d)).view.loc (c : Thread nD τ) ↦[(rowsOf (rowOf d)).view.set]{fullShare} f

/-- The credit of a slab's store. -/
abbrev M : ℕ := (rowsOf (rowOf 0)).view.dmaCredit

variable (out : Vec F S4096x256 .f32)

/-- A slab free, or on its way to a device's rows of the output. -/
def SlabSt (s : Fin 4) : Option (Dev nD) → sProp 𝕄
  | none => iprop((∃ f, slabAt c s f) ∗ semVal ((c : Thread nD τ), .dma (slabSem s)) 0)
  | some d => Transfers.Flight EC (c : Thread nD τ) (.dma (slabSem s)) () M iprop(rowsAt c d out ∗ ∃ f, slabAt c s f)
/-- What the store of a slab leaves when it is done. -/
def Done : Option (Dev nD) → sProp 𝕄
  | none => iprop(emp)
  | some d => rowsAt c d out

theorem run_stored (l : List Item) (s : Fin 4) (k : Body F) (Q : PUnit → sProp 𝕄) : ∀ w : Option (Dev nD),
    iprop(rules X κ ∗ SlabSt c out s w ∗ owed c (owing c l)
      ∗ ((SlabSt c out s none ∗ Done c out w ∗ owed c (owing c l)) -∗ run c k Q)) ⊢ run c (stored s (w.map rowOf) k) Q
  | none => by
    unfold Done
    iintro ⟨-, Hs, HO, Hk⟩
    iapply Hk
    isplitl [Hs]; · iexact Hs
    isplitr; · iempintro
    iexact HO
  | some d => by
    unfold Done SlabSt owed
    show _ ⊢ run c (stored s (some (rowOf d)) k) Q
    unfold stored
    iintro ⟨#HR, Hf, ⟨%W, HO⟩, Hk⟩
    iapply (Transfers.wp_waitLocalO EC 𝒱₀ (c : Thread nD τ) none () (N := M) (srcw := slab s) (dstw := rowsOf (rowOf d)) (hsrc := (View.wordExact_bits rfl).reshape _ _) (hdst := View.wordExact_bits rfl) rfl (O := owing c l) (W := W)) $$ [Hf HO]
    · isplitl [Hf]; · iexact Hf
      isplitl [HO]; · iexact HO
      iapply (rules_wait X κ c (.dma (slabSem s)) l (fun x hx => by rw [role_slab]; exact Nat.lt_of_lt_of_le Nat.two_pos (Nat.le_add_right 2 _))); iexact HR
    iintro ⟨⟨Hr, Hs⟩, Hv, HO⟩
    iapply Hk
    isplitl [Hs Hv]; · isplitl [Hs] <;> iassumption
    isplitl [Hr]; · iexact Hr
    iexists _; iexact HO

/-- The slabs together. -/
abbrev slabs : Memref sig .tc .vmem S4x128x256 .f32 := Memref.whole cc0_scratch6
theorem read_slabs (g : Vec F S4x128x256 .f32) (i : S4x128x256.Idx) : slabs.view.read (Elt F) g i = g i := rfl
/-- What is written through a rectangle of a view, the view reads there. -/
theorem put_at {κ : Kind} {sp : Space} {sh : Shape} {e : EltTy} (v : View sig κ sp sh e) (r : Rect sh) (f : v.ty.Contents (Elt F)) (w : r.shape.Idx → Elt F e) (x : r.shape.Idx) :
    v.read (Elt F) ((v.slice r).write (Elt F) f w Finset.univ) (r.emb x) = w x := View.read_slice_write_emb r f w (Finset.mem_univ x)
/-- A tile put into a slab. -/
def withTile (s : Fin 4) (f : Vec F S4x128x256 .f32) (v : FVec F S1x128x256 .f32) : Vec F S4x128x256 .f32 :=
  (slabs.view.slice (slabRect s)).write (Elt F) f v Finset.univ
theorem withTile_at (s : Fin 4) (f : Vec F S4x128x256 .f32) (v : FVec F S1x128x256 .f32) (r : Fin 128) (k : Fin 256) :
    withTile s f v (ix3 s r k) = v (ix3 (0 : Fin 1) r k) := by
  refine (read_slabs (withTile s f v) (ix3 s r k)).symm.trans ?_
  rw [← slabRect_emb]
  exact put_at slabs.view (slabRect s) f v (ix3 (0 : Fin 1) r k)

/-- What a slab holds once a tile is put in it, the store carries to the rows. -/
theorem read_tile (s : Fin 4) (d : Dev nD) (g : Vec F S4x128x256 .f32)
    (hg : ∀ r k, g (ix3 s r k) = out (ix2 (inRows d r) k)) :
    (rowsOf (rowOf d)).view.read (Elt F) out = (slab s).view.read (Elt F) g := by
  funext y
  have h1 : (rowsOf (rowOf d)).view.read (Elt F) out y = out (ix2 (inRows d (y 0)) (y 1)) := by rw [← rows_emb]; rfl
  have h2 : (slab s).view.read (Elt F) g y = g (ix3 s (y 0) (y 1)) := by rw [← slab_emb]; rfl
  rw [h1, h2]; exact (hg (y 0) (y 1)).symm

theorem run_emit (s : Fin 4) (d : Dev nD) (v : FVec F S1x128x256 .f32) (hv : ∀ r k, v (ix3 (0 : Fin 1) r k) = out (ix2 (inRows d r) k))
    (k : Body F) (Q : PUnit → sProp 𝕄) :
    iprop(SlabSt c out s none ∗ (∃ f, rowsAt c d f) ∗ (SlabSt c out s (some d) -∗ run c k Q)) ⊢ run c (emit s (rowOf d) v k) Q := by
  unfold SlabSt emit slabAt rowsAt
  iintro ⟨⟨⟨%f, Hs⟩, Hv⟩, ⟨%g, Hr⟩, Hk⟩
  iapply (wp_load_rect 𝒱₀ (c : Thread nD τ) none Set.univ (m := Memref.whole cc0_scratch6) (r := slabRect s) (S := (slab s).view.set)
    (by rw [slab_set]; exact (View.set_slice_whole _ _).le)) $$ [Hs]
  · iexact Hs
  iintro Hs
  iapply (wp_store 𝒱₀ (c : Thread nD τ) none Set.univ (m := Memref.whole cc0_scratch6) (r := slabRect s) (S := (slab s).view.set)
    (by rw [slab_set, View.setOn_univ]; exact (View.set_slice_whole _ _).le)) $$ [Hs]
  · iexact Hs
  iintro Hs
  iapply (Transfers.wp_dmaLocal EC 𝒱₀ (c : Thread nD τ) none (src := slab s) (dst := rowsOf (rowOf d)) () M rfl (View.dmaCredit_pos _ (by decide)) (Finset.Subset.refl _)) $$ [Hs Hr Hv]
  · isplitl [Hs]; · iexact Hs
    isplitl [Hr]; · iexact Hr
    iexact Hv
  iintro Hf
  iapply Hk
  iapply (Transfers.Flight_mono EC (c : Thread nD τ) ?_) $$ Hf
  iintro ⟨Hr, Hs⟩
  isplitl [Hr]
  · iapply (Entails.of_eq (pointsTo_congr fun i hi => write_eq _ _ _ _ (read_tile out s d (withTile s f v) fun r k => (withTile_at s f v r k).trans (hv r k)) hi)) $$ Hr
  iexists _; iexact Hs

/-! ## The tiles -/

/-- A device's output: the rows of each owner against the device's weights. -/
def outOf (sc : F .f32) (W : Vec F S4096x256 .fp8e5m2) : Vec F S4096x256 .f32 := fun i =>
  k0_pay4 sc (X (ownerOf (i 0))) W (ix3 (0 : Fin 1) (⟨(i 0).val % 128, Nat.mod_lt _ (by decide)⟩ : Fin 128) (i 1 : Fin 256))

theorem outOf_rows (sc : F .f32) (W : Vec F S4096x256 .fp8e5m2) (d : Dev nD) (r : Fin 128) (k : Fin 256) :
    k0_pay4 sc (X d) W (ix3 (0 : Fin 1) r k) = outOf X sc W (ix2 (inRows d r) k) := by
  show _ = k0_pay4 sc (X (ownerOf (inRows d r))) W (ix3 (0 : Fin 1) (⟨(128 * d.val + r.val) % 128, _⟩ : Fin 128) k)
  rw [ownerOf_inRows]
  congr 2
  exact Fin.ext (by show r.val = (128 * d.val + r.val) % 128; omega)

/-- The rounded weights in their buffer. -/
def weightsAt (W : Vec F S4096x256 .fp8e5m2) : sProp 𝕄 := (Memref.whole cc0_scratch3).view.loc (c : Thread nD τ) ↦{fullShare} W

theorem run_readW (W : Vec F S4096x256 .fp8e5m2) (k : Vec F S4096x256 .fp8e5m2 → Body F) (Q : PUnit → sProp 𝕄) :
    iprop(weightsAt c W ∗ (weightsAt c W -∗ run c (k W) Q)) ⊢ run c (readW k) Q := by
  unfold readW weightsAt
  iintro ⟨Hw, Hk⟩
  iapply (wp_load_rect 𝒱₀ (c : Thread nD τ) none Set.univ (m := Memref.whole cc0_scratch3)
    (r := Rect.unit (s := S4096x256) ![0, 0] S4096x256.size inb_S4096x256_S4096x256_0_0) (Finset.subset_univ _)) $$ [Hw]
  · iexact Hw
  iintro Hw
  rw [show ((Memref.whole cc0_scratch3).access (Rect.unit (s := S4096x256) ![0, 0] S4096x256.size inb_S4096x256_S4096x256_0_0)).read (Elt F) W = W from
    Memref.read_access_unit_zero (Elt F) cc0_scratch3 (by decide) _ W]
  iapply Hk $$ Hw

/-- What a tile reads beside its block of rows. -/
def Env (W : Vec F S4096x256 .fp8e5m2) : sProp 𝕄 := iprop(Tab c ∗ weightsAt c W)

theorem run_tile (sc : F .f32) (W : Vec F S4096x256 .fp8e5m2) (t : Slot) (q : PosShare TreeShare) (s : Fin 4) (hp) (w : Option (Dev nD)) (l : List Item)
    (k : Rows → Body F) (Q : PUnit → sProp 𝕄) :
    iprop(rules X κ ∗ Env c W ∗ slotAt X c q t ∗ SlabSt c (outOf X sc W) s w ∗ (∃ f, rowsAt c (origin c t) f) ∗ owed c (owing c l)
      ∗ ((Env c W ∗ slotAt X c q t ∗ SlabSt c (outOf X sc W) s (some (origin c t)) ∗ Done c (outOf X sc W) w ∗ owed c (owing c l))
        -∗ run c (k (rowOf (origin c t))) Q))
      ⊢ run c (tile t s (posWord (posOf c)) hp sc (w.map rowOf) k) Q := by
  unfold Env tile
  iintro ⟨#HR, ⟨HT, HW⟩, Hx, Hs, Hr, HO, Hk⟩
  iapply (run_tab c _ _ _ _ (posOf c + shift t) (off_origin t (posOf c)))
  isplitl [HT]; · iexact HT
  iintro HT
  iapply (wp_assume 𝒱₀ (c : Thread nD τ) none Set.univ (chk_origin t (origin c t)))
  iapply (run_stored X κ c (outOf X sc W) l s _ _ w)
  isplitr; · iexact HR
  isplitl [Hs]; · iexact Hs
  isplitl [HO]; · iexact HO
  iintro ⟨Hs, Hd, HO⟩
  iapply (run_readSlot X c q _ _ t)
  isplitl [Hx]; · iexact Hx
  iintro Hx
  iapply (run_readW c W)
  isplitl [HW]; · iexact HW
  iintro HW
  rw [slotRows_cast]
  iapply (run_emit c (outOf X sc W) s (origin c t) _ (fun r k => outOf_rows X sc W (origin c t) r k))
  isplitl [Hs]; · iexact Hs
  isplitl [Hr]; · iexact Hr
  iintro Hs
  iapply Hk
  isplitl [HT HW]; · isplitl [HT] <;> iassumption
  isplitl [Hx]; · iexact Hx
  isplitl [Hs]; · iexact Hs
  isplitl [Hd]; · iexact Hd
  iexact HO

end Cert.KernelIdeal.Ring

end
-- ==== Proof.Hops.lean ====
/- The hops. A hop receives the two slots that came, passes each on half by half, and makes a tile of each; `n` hops are
   told by induction, over lists that name, in the program's order, the halves to come, the halves to send, the slots to
   read and the rows whose stores are done. -/
module

public import proofs.«01_k».proof.Proof.Tiles

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ UU ℕ

/-! ## Holding something of each member of a list -/

def each {α : Type} (Φ : α → sProp 𝕄) : List α → sProp 𝕄
  | [] => iprop(emp)
  | x :: l => iprop(Φ x ∗ each Φ l)

theorem each_eq {α : Type} (Φ : α → sProp 𝕄) : ∀ l : List α, each Φ l = bigSepL l Φ
  | [] => rfl
  | x :: l => by rw [bigSepL_cons']; show iprop(Φ x ∗ each Φ l) = _; rw [each_eq Φ l]

/-- A family over a finite type, listed. -/
theorem each_univ {α : Type} [Fintype α] [DecidableEq α] (Φ : α → sProp 𝕄) (l : List α) (h : Finset.univ = l.toFinset) (hl : l.Nodup) :
    bigSep Finset.univ Φ = each Φ l := (bigSep_univ_eq_bigSepL l h hl Φ).trans (each_eq Φ l).symm

theorem each_append {α : Type} (Φ : α → sProp 𝕄) (l l' : List α) : each Φ (l ++ l') = iprop(each Φ l ∗ each Φ l') := by
  rw [each_eq, each_eq, each_eq, bigSepL_append]

variable (X : AllRows F) (κ : GSem nD τ sig → ℕ) (c : Dev nD)

/-! ## Receiving a slot -/

abbrev cameZero (x : Item) : sProp 𝕄 := semVal (cameCell c x.1 x.2) 0
abbrev sentZero (x : Item) : sProp 𝕄 := semVal (sentCell c x.1 x.2) 0

theorem run_relay (t t' : Slot) (hcut : ∀ j, Came X c t j fullShare.left ⊢ Fed X c t' j) (ht : hopOf t < hopOf t') (l : List Item)
    (hl : ∀ x ∈ l, hopOf t < hopOf x.1) (d : Dev nD) (hd : d = onto c t') (k : Body F) (Q : PUnit → sProp 𝕄) :
    iprop(rules X κ ∗ (CameIt c (t, 0) ∗ CameIt c (t, 1)) ∗ (SendIt c (t', 0) ∗ SendIt c (t', 1)) ∗ owed c (owing c ((t', 0) :: (t', 1) :: l))
      ∗ (((cameZero c (t, 0) ∗ cameZero c (t, 1)) ∗ slotAt X c fullShare.right t ∗ (SentIt c (t', 0) ∗ SentIt c (t', 1)) ∗ owed c (owing c l))
        -∗ run c k Q)) ⊢ run c (relay t t' d k) Q := by
  unfold relay
  iintro ⟨#HR, ⟨Hc0, Hc1⟩, ⟨Hs0, Hs1⟩, HO, Hk⟩
  iapply (run_came X κ c t 0 ((t', 0) :: (t', 1) :: l) (fun x hx => by
    rcases List.mem_cons.mp hx with rfl | hx
    · exact ht
    rcases List.mem_cons.mp hx with rfl | hx
    · exact ht
    exact hl x hx))
  isplitr; · iexact HR
  isplitl [Hc0]; · iexact Hc0
  isplitl [HO]; · iexact HO
  iintro ⟨Hh0, Hv0, HO⟩
  ihave Hh := (came_split X c t 0).1 $$ Hh0
  icases Hh with ⟨Hl0, Hr0⟩
  iapply (run_send X κ c t' 0 d hd ((t', 1) :: l))
  isplitr; · iexact HR
  isplitl [Hs0]; · iexact Hs0
  isplitl [Hl0]; · iapply (hcut 0) $$ Hl0
  isplitl [HO]; · iexact HO
  iintro ⟨Hs0, HO⟩
  iapply (run_came X κ c t 1 ((t', 1) :: l) (fun x hx => by
    rcases List.mem_cons.mp hx with rfl | hx
    · exact ht
    exact hl x hx))
  isplitr; · iexact HR
  isplitl [Hc1]; · iexact Hc1
  isplitl [HO]; · iexact HO
  iintro ⟨Hh1, Hv1, HO⟩
  ihave Hh := (came_split X c t 1).1 $$ Hh1
  icases Hh with ⟨Hl1, Hr1⟩
  iapply (run_send X κ c t' 1 d hd l)
  isplitr; · iexact HR
  isplitl [Hs1]; · iexact Hs1
  isplitl [Hl1]; · iapply (hcut 1) $$ Hl1
  isplitl [HO]; · iexact HO
  iintro ⟨Hs1, HO⟩
  iapply Hk
  isplitl [Hv0 Hv1]; · isplitl [Hv0] <;> iassumption
  isplitl [Hr0 Hr1]; · rw [slot_halves]; isplitl [Hr0] <;> iassumption
  isplitl [Hs0 Hs1]; · isplitl [Hs0] <;> iassumption
  iexact HO

theorem run_receive (t : Slot) (l : List Item) (hl : ∀ x ∈ l, hopOf t < hopOf x.1) (k : Body F) (Q : PUnit → sProp 𝕄) :
    iprop(rules X κ ∗ (CameIt c (t, 0) ∗ CameIt c (t, 1)) ∗ owed c (owing c l)
      ∗ (((cameZero c (t, 0) ∗ cameZero c (t, 1)) ∗ slotAt X c fullShare t ∗ owed c (owing c l)) -∗ run c k Q)) ⊢ run c (receive t k) Q := by
  unfold receive
  iintro ⟨#HR, ⟨Hc0, Hc1⟩, HO, Hk⟩
  iapply (run_came X κ c t 0 l hl)
  isplitr; · iexact HR
  isplitl [Hc0]; · iexact Hc0
  isplitl [HO]; · iexact HO
  iintro ⟨Hh0, Hv0, HO⟩
  iapply (run_came X κ c t 1 l hl)
  isplitr; · iexact HR
  isplitl [Hc1]; · iexact Hc1
  isplitl [HO]; · iexact HO
  iintro ⟨Hh1, Hv1, HO⟩
  iapply Hk
  isplitl [Hv0 Hv1]; · isplitl [Hv0] <;> iassumption
  isplitl [Hh0 Hh1]; · rw [slot_halves]; isplitl [Hh0] <;> iassumption
  iexact HO

/-! ## The rows in flight -/

/-- Whose rows a tile is made of: the device's own, or those that came in a slot. -/
abbrev Src : Type := Option Slot
def srcDev : Src → Dev nD
  | none => c
  | some t => origin c t

/-- The stores not yet waited for: of the hop before last and of the last, each rightwards then leftwards. -/
structure Fl where
  (a b c d : Option Src)

def Fl.rows (w : Fl) : Flying :=
  ⟨(w.a.map (srcDev c)).map rowOf, (w.b.map (srcDev c)).map rowOf, (w.c.map (srcDev c)).map rowOf, (w.d.map (srcDev c)).map rowOf⟩
/-- After the tiles of slots `t` and `t'`. -/
def Fl.next (w : Fl) (t t' : Slot) : Fl := ⟨w.c, w.d, some (some t), some (some t')⟩

variable (out : Vec F S4096x256 .f32)

/-- The slabs before hop `h`. -/
def Slabs (h : ℕ) (w : Fl) : sProp 𝕄 :=
  iprop(SlabSt c out (slabR h) (w.a.map (srcDev c)) ∗ SlabSt c out (slabL h) (w.b.map (srcDev c))
    ∗ SlabSt c out (slabR (h + 1)) (w.c.map (srcDev c)) ∗ SlabSt c out (slabL (h + 1)) (w.d.map (srcDev c)))

/-- The rows of the output a source's tile goes to: at any contents, and done. -/
abbrev Free (x : Src) : sProp 𝕄 := iprop(∃ f, rowsAt c (srcDev c x) f)
abbrev Out (x : Src) : sProp 𝕄 := rowsAt c (srcDev c x) out

theorem slabR_two (h : ℕ) : slabR (h + 2) = slabR h := Fin.ext (by show (1 + 2 * (h + 2)) % 4 = (1 + 2 * h) % 4; omega)
theorem slabL_two (h : ℕ) : slabL (h + 2) = slabL h := Fin.ext (by show (2 + 2 * (h + 2)) % 4 = (2 + 2 * h) % 4; omega)

/-- Rows done join the list of those done. -/
theorem done_cons (l : List Src) : ∀ w : Option Src, iprop(Done c out (w.map (srcDev c)) ∗ each (Out c out) l) ⊢ each (Out c out) (w.toList ++ l)
  | none => by
    show iprop(emp ∗ each (Out c out) l) ⊢ each (Out c out) l
    iintro ⟨-, H⟩; iexact H
  | some x => Entails.rfl

theorem run_tiles (sc : F .f32) (W : Vec F S4096x256 .fp8e5m2) (h : ℕ) (hh : h < 15) (q q' : PosShare TreeShare) (hp) (w : Fl) (l : List Item)
    (k : Flying → Body F) (Q : PUnit → sProp 𝕄) :
    iprop(rules X κ ∗ Env c W ∗ slotAt X c q (.inl ⟨h, by omega⟩) ∗ slotAt X c q' (.inr ⟨h, hh⟩) ∗ Slabs c (outOf X sc W) h w
      ∗ Free c (some (.inl ⟨h, by omega⟩)) ∗ Free c (some (.inr ⟨h, hh⟩)) ∗ owed c (owing c l)
      ∗ ((Env c W ∗ slotAt X c q (.inl ⟨h, by omega⟩) ∗ slotAt X c q' (.inr ⟨h, hh⟩)
          ∗ Slabs c (outOf X sc W) (h + 1) (w.next (.inl ⟨h, by omega⟩) (.inr ⟨h, hh⟩))
          ∗ Done c (outOf X sc W) (w.a.map (srcDev c)) ∗ Done c (outOf X sc W) (w.b.map (srcDev c)) ∗ owed c (owing c l))
        -∗ run c (k ((w.next (.inl ⟨h, by omega⟩) (.inr ⟨h, hh⟩)).rows c)) Q))
      ⊢ run c (tiles h hh (posWord (posOf c)) hp sc (w.rows c) k) Q := by
  unfold tiles Slabs
  iintro ⟨#HR, HE, Hx, Hy, ⟨Ha, Hb, Hc, Hd⟩, Hf, Hg, HO, Hk⟩
  iapply (run_tile X κ c sc W (.inl ⟨h, by omega⟩) q (slabR h) hp (w.a.map (srcDev c)) l)
  isplitr; · iexact HR
  isplitl [HE]; · iexact HE
  isplitl [Hx]; · iexact Hx
  isplitl [Ha]; · iexact Ha
  isplitl [Hf]; · iexact Hf
  isplitl [HO]; · iexact HO
  iintro ⟨HE, Hx, Ha, Hda, HO⟩
  iapply (run_tile X κ c sc W (.inr ⟨h, hh⟩) q' (slabL h) hp (w.b.map (srcDev c)) l)
  isplitr; · iexact HR
  isplitl [HE]; · iexact HE
  isplitl [Hy]; · iexact Hy
  isplitl [Hb]; · iexact Hb
  isplitl [Hg]; · iexact Hg
  isplitl [HO]; · iexact HO
  iintro ⟨HE, Hy, Hb, Hdb, HO⟩
  iapply Hk
  isplitl [HE]; · iexact HE
  isplitl [Hx]; · iexact Hx
  isplitl [Hy]; · iexact Hy
  isplitl [Ha Hb Hc Hd]
  · isplitl [Hc]; · iexact Hc
    isplitl [Hd]; · iexact Hd
    isplitl [Ha]; · rw [slabR_two]; iexact Ha
    rw [slabL_two]; iexact Hb
  isplitl [Hda]; · iexact Hda
  isplitl [Hdb]; · iexact Hdb
  iexact HO

/-! ## The lists of `n` hops from hop `h` on -/

/-- The two slots of hop `h`. -/
abbrev sR (h : ℕ) (hh : h < 16) : Slot := .inl ⟨h, hh⟩
abbrev sL (h : ℕ) (hh : h < 15) : Slot := .inr ⟨h, hh⟩

def slots : (n h : ℕ) → h + n ≤ 14 → List Slot
  | 0, _, _ => []
  | n + 1, h, hn => sR h (by omega) :: sL h (by omega) :: slots n (h + 1) (by omega)
def comes : (n h : ℕ) → h + n ≤ 14 → List Item
  | 0, _, _ => []
  | n + 1, h, hn => (sR h (by omega), 0) :: (sR h (by omega), 1) :: (sL h (by omega), 0) :: (sL h (by omega), 1) :: comes n (h + 1) (by omega)
def sends : (n h : ℕ) → h + n ≤ 14 → List Item
  | 0, _, _ => []
  | n + 1, h, hn => (sR (h + 1) (by omega), 0) :: (sR (h + 1) (by omega), 1) :: (sL (h + 1) (by omega), 0) :: (sL (h + 1) (by omega), 1) :: sends n (h + 1) (by omega)
/-- The copies of the last hop. -/
def lastSends : List Item := [(.inl 15, 0), (.inl 15, 1)]

/-- The stores out after those hops, and the rows done in them. -/
def after : (n h : ℕ) → h + n ≤ 14 → Fl → Fl
  | 0, _, _, w => w
  | n + 1, h, hn, w => after n (h + 1) (by omega) (w.next (sR h (by omega)) (sL h (by omega)))
def dones : (n h : ℕ) → h + n ≤ 14 → Fl → List Src
  | 0, _, _, _ => []
  | n + 1, h, hn, w => w.a.toList ++ (w.b.toList ++ dones n (h + 1) (by omega) (w.next (sR h (by omega)) (sL h (by omega))))

theorem sends_later : ∀ (n h : ℕ) (hn : h + n ≤ 14), ∀ x ∈ sends n h hn ++ lastSends, h < hopOf x.1
  | 0, h, hn, x, hx => by
    rcases List.mem_cons.mp hx with rfl | hx
    · exact (show h < 15 by omega)
    · rw [List.mem_singleton.mp hx]; exact (show h < 15 by omega)
  | n + 1, h, hn, x, hx => by
    have hx' : x ∈ (sR (h + 1) (by omega), (0 : Fin 2)) :: (sR (h + 1) (by omega), 1) :: (sL (h + 1) (by omega), 0) :: (sL (h + 1) (by omega), 1)
      :: (sends n (h + 1) (by omega) ++ lastSends) := hx
    rcases List.mem_cons.mp hx' with rfl | hx'
    · exact Nat.lt_succ_self h
    rcases List.mem_cons.mp hx' with rfl | hx'
    · exact Nat.lt_succ_self h
    rcases List.mem_cons.mp hx' with rfl | hx'
    · exact Nat.lt_succ_self h
    rcases List.mem_cons.mp hx' with rfl | hx'
    · exact Nat.lt_succ_self h
    exact Nat.lt_of_succ_lt (sends_later n (h + 1) (by omega) x hx')

/-- A half lent on is the half that came. -/
theorem cut_right (h : ℕ) (hh : h + 1 < 16) (j : Fin 2) : Came X c (sR h (by omega)) j fullShare.left ⊢ Fed X c (sR (h + 1) hh) j := Entails.rfl
theorem cut_left (h : ℕ) (hh : h + 1 < 15) (j : Fin 2) : Came X c (sL h (by omega)) j fullShare.left ⊢ Fed X c (sL (h + 1) hh) j := Entails.rfl

theorem run_hops (sc : F .f32) (W : Vec F S4096x256 .fp8e5m2) (hp) : ∀ (n h : ℕ) (hn : h + n ≤ 14) (w : Fl) (k : Flying → Body F) (Q : PUnit → sProp 𝕄),
    iprop(rules X κ ∗ Env c W ∗ Slabs c (outOf X sc W) h w ∗ each (CameIt c) (comes n h hn) ∗ each (SendIt c) (sends n h hn)
      ∗ each (fun t => Free c (some t)) (slots n h hn) ∗ owed c (owing c (sends n h hn ++ lastSends))
      ∗ ((Env c W ∗ Slabs c (outOf X sc W) (h + n) (after n h hn w) ∗ each (cameZero c) (comes n h hn) ∗ each (SentIt c) (sends n h hn)
          ∗ each (slotAt X c fullShare.right) (slots n h hn) ∗ each (Out c (outOf X sc W)) (dones n h hn w) ∗ owed c (owing c lastSends))
        -∗ run c (k ((after n h hn w).rows c)) Q))
      ⊢ run c (hops (rgt c) (lft c) (posWord (posOf c)) hp sc n h hn (w.rows c) k) Q
  | 0, h, hn, w, k, Q => by
    iintro ⟨-, HE, Hs, -, -, -, HO, Hk⟩
    iapply Hk
    isplitl [HE]; · iexact HE
    isplitl [Hs]; · iexact Hs
    isplitr; · iempintro
    isplitr; · iempintro
    isplitr; · iempintro
    isplitr; · iempintro
    iexact HO
  | n + 1, h, hn, w, k, Q => by
    have r0 : h < 16 := by omega
    have r1 : h + 1 < 16 := by omega
    have l0 : h < 15 := by omega
    have l1 : h + 1 < 15 := by omega
    have hn' : h + 1 + n ≤ 14 := by omega
    have hl := sends_later n (h + 1) hn'
    unfold hops hop
    simp only [comes, sends, slots, dones, after, each, List.cons_append]
    iintro ⟨#HR, HE, Hs, ⟨Hc0, Hc1, Hc2, Hc3, Hc⟩, ⟨Ht0, Ht1, Ht2, Ht3, Ht⟩, ⟨Hf, Hf', Hfs⟩, HO, Hk⟩
    iapply (run_relay X κ c (sR h r0) (sR (h + 1) r1) (cut_right X c h r1) (Nat.lt_succ_self h)
      ((sL (h + 1) l1, 0) :: (sL (h + 1) l1, 1) :: (sends n (h + 1) hn' ++ lastSends)) (fun x hx => by
        rcases List.mem_cons.mp hx with rfl | hx
        · exact Nat.lt_succ_self h
        rcases List.mem_cons.mp hx with rfl | hx
        · exact Nat.lt_succ_self h
        exact Nat.lt_of_succ_lt (hl x hx)) (rgt c) rfl)
    isplitr; · iexact HR
    isplitl [Hc0 Hc1]; · isplitl [Hc0] <;> iassumption
    isplitl [Ht0 Ht1]; · isplitl [Ht0] <;> iassumption
    isplitl [HO]; · iexact HO
    iintro ⟨⟨Hv0, Hv1⟩, Hx, ⟨Ht0, Ht1⟩, HO⟩
    iapply (run_relay X κ c (sL h l0) (sL (h + 1) l1) (cut_left X c h l1) (Nat.lt_succ_self h)
      (sends n (h + 1) hn' ++ lastSends) (fun x hx => Nat.lt_of_succ_lt (hl x hx)) (lft c) rfl)
    isplitr; · iexact HR
    isplitl [Hc2 Hc3]; · isplitl [Hc2] <;> iassumption
    isplitl [Ht2 Ht3]; · isplitl [Ht2] <;> iassumption
    isplitl [HO]; · iexact HO
    iintro ⟨⟨Hv2, Hv3⟩, Hy, ⟨Ht2, Ht3⟩, HO⟩
    iapply (run_tiles X κ c sc W h l0 fullShare.right fullShare.right hp w (sends n (h + 1) hn' ++ lastSends))
    isplitr; · iexact HR
    isplitl [HE]; · iexact HE
    isplitl [Hx]; · iexact Hx
    isplitl [Hy]; · iexact Hy
    isplitl [Hs]; · iexact Hs
    isplitl [Hf]; · iexact Hf
    isplitl [Hf']; · iexact Hf'
    isplitl [HO]; · iexact HO
    iintro ⟨HE, Hx, Hy, Hs, Hda, Hdb, HO⟩
    iapply (run_hops sc W hp n (h + 1) hn' (w.next (sR h r0) (sL h l0)) k Q)
    isplitr; · iexact HR
    isplitl [HE]; · iexact HE
    isplitl [Hs]; · iexact Hs
    isplitl [Hc]; · iexact Hc
    isplitl [Ht]; · iexact Ht
    isplitl [Hfs]; · iexact Hfs
    isplitl [HO]; · iexact HO
    iintro ⟨HE, Hs, Hv, Ht, Hxs, Hd, HO⟩
    iapply Hk
    isplitl [HE]; · iexact HE
    isplitl [Hs]; · rw [show h + (n + 1) = h + 1 + n from by omega]; iexact Hs
    isplitl [Hv0 Hv1 Hv2 Hv3 Hv]
    · isplitl [Hv0]; · iexact Hv0
      isplitl [Hv1]; · iexact Hv1
      isplitl [Hv2]; · iexact Hv2
      isplitl [Hv3] <;> iassumption
    isplitl [Ht0 Ht1 Ht2 Ht3 Ht]
    · isplitl [Ht0]; · iexact Ht0
      isplitl [Ht1]; · iexact Ht1
      isplitl [Ht2]; · iexact Ht2
      isplitl [Ht3] <;> iassumption
    isplitl [Hx Hy Hxs]
    · isplitl [Hx]; · iexact Hx
      isplitl [Hy] <;> iassumption
    isplitl [Hda Hdb Hd]
    · iapply (done_cons c (outOf X sc W) _ w.a)
      isplitl [Hda]; · iexact Hda
      iapply (done_cons c (outOf X sc W) _ w.b)
      isplitl [Hdb] <;> iassumption
    iexact HO

end Cert.KernelIdeal.Ring

end
-- ==== Proof.Main.lean ====
/- The rest of the run from the own rows being rounded on: the copies of the first hop, the rounded weights, the own tile,
   the hops, the last hop of each direction, and the waits that give every row lent back. -/
module

public import proofs.«01_k».proof.Proof.Hops

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ UU ℕ

variable (X : AllRows F) (κ : GSem nD τ sig → ℕ) (c : Dev nD)

/-! ## The last hops -/

def lastComes : List Item := [(.inl 14, 0), (.inl 14, 1), (.inr 14, 0), (.inr 14, 1), (.inl 15, 0), (.inl 15, 1)]
def lastSlots : List Slot := [.inl 14, .inr 14, .inl 15]
def lastDones (w : Fl) : List Src :=
  w.a.toList ++ (w.b.toList ++ (w.c.toList ++ (w.d.toList ++ [some (.inl 14), some (.inr 14), some (.inl 15)])))

/-- The slabs all free. -/
def slabsFree (out : Vec F S4096x256 .f32) : sProp 𝕄 :=
  iprop(SlabSt c out 0 none ∗ SlabSt c out 1 none ∗ SlabSt c out 2 none ∗ SlabSt c out 3 none)

/-- A slot's tile stored. -/
theorem done_out (out : Vec F S4096x256 .f32) (t : Slot) : Done c out (some (origin c t)) ⊢ Out c out (some t) := Entails.rfl

theorem run_last (sc : F .f32) (W : Vec F S4096x256 .fp8e5m2) (hp) (w : Fl) (k : Body F) (Q : PUnit → sProp 𝕄) :
    iprop(rules X κ ∗ Env c W ∗ Slabs c (outOf X sc W) 14 w ∗ each (CameIt c) lastComes ∗ each (SendIt c) lastSends
      ∗ each (fun t => Free c (some t)) lastSlots ∗ owed c (owing c lastSends)
      ∗ ((Env c W ∗ slabsFree c (outOf X sc W) ∗ each (cameZero c) lastComes ∗ each (SentIt c) lastSends
          ∗ slotAt X c fullShare.right (.inl 14) ∗ slotAt X c fullShare (.inr 14) ∗ slotAt X c fullShare (.inl 15)
          ∗ each (Out c (outOf X sc W)) (lastDones w) ∗ owed c 0) -∗ run c k Q))
      ⊢ run c (lastHops (rgt c) (posWord (posOf c)) hp sc (w.rows c) k) Q := by
  have h14 : 14 < 15 := by decide
  unfold lastHops
  simp only [lastComes, lastSends, lastSlots, each]
  iintro ⟨#HR, HE, Hs, ⟨Hc0, Hc1, Hc2, Hc3, Hc4, Hc5, -⟩, ⟨Ht0, Ht1, -⟩, ⟨Hf0, Hf1, Hf2, -⟩, HO, Hk⟩
  iapply (run_relay X κ c (.inl 14) (.inl 15) (fun j => cut_right X c 14 (by decide) j) (by decide) [] (fun x hx => absurd hx List.not_mem_nil) (rgt c) rfl)
  isplitr; · iexact HR
  isplitl [Hc0 Hc1]; · isplitl [Hc0] <;> iassumption
  isplitl [Ht0 Ht1]; · isplitl [Ht0] <;> iassumption
  isplitl [HO]; · iexact HO
  iintro ⟨⟨Hv0, Hv1⟩, Hx, ⟨Ht0, Ht1⟩, HO⟩
  iapply (run_receive X κ c (.inr 14) [] (fun x hx => absurd hx List.not_mem_nil))
  isplitr; · iexact HR
  isplitl [Hc2 Hc3]; · isplitl [Hc2] <;> iassumption
  isplitl [HO]; · iexact HO
  iintro ⟨⟨Hv2, Hv3⟩, Hy, HO⟩
  iapply (run_tiles X κ c sc W 14 h14 fullShare.right fullShare hp w [])
  isplitr; · iexact HR
  isplitl [HE]; · iexact HE
  isplitl [Hx]; · iexact Hx
  isplitl [Hy]; · iexact Hy
  isplitl [Hs]; · iexact Hs
  isplitl [Hf0]; · iexact Hf0
  isplitl [Hf1]; · iexact Hf1
  isplitl [HO]; · iexact HO
  unfold Slabs
  iintro ⟨HE, Hx, Hy, ⟨Hs3, Hs0, Hs1, Hs2⟩, Hda, Hdb, HO⟩
  iapply (run_receive X κ c (.inl 15) [] (fun x hx => absurd hx List.not_mem_nil))
  isplitr; · iexact HR
  isplitl [Hc4 Hc5]; · isplitl [Hc4] <;> iassumption
  isplitl [HO]; · iexact HO
  iintro ⟨⟨Hv4, Hv5⟩, Hz, HO⟩
  iapply (run_tile X κ c sc W (.inl 15) fullShare 3 hp (w.c.map (srcDev c)) [])
  isplitr; · iexact HR
  isplitl [HE]; · iexact HE
  isplitl [Hz]; · iexact Hz
  isplitl [Hs3]; · iexact Hs3
  isplitl [Hf2]; · iexact Hf2
  isplitl [HO]; · iexact HO
  iintro ⟨HE, Hz, Hs3, Hdc, HO⟩
  iapply (run_stored X κ c (outOf X sc W) [] 0 _ _ (w.d.map (srcDev c)))
  isplitr; · iexact HR
  isplitl [Hs0]; · iexact Hs0
  isplitl [HO]; · iexact HO
  iintro ⟨Hs0, Hdd, HO⟩
  iapply (run_stored X κ c (outOf X sc W) [] 1 _ _ (some (origin c (.inl 14))))
  isplitr; · iexact HR
  isplitl [Hs1]; · iexact Hs1
  isplitl [HO]; · iexact HO
  iintro ⟨Hs1, Hde, HO⟩
  iapply (run_stored X κ c (outOf X sc W) [] 2 _ _ (some (origin c (.inr 14))))
  isplitr; · iexact HR
  isplitl [Hs2]; · iexact Hs2
  isplitl [HO]; · iexact HO
  iintro ⟨Hs2, Hdf, HO⟩
  iapply (run_stored X κ c (outOf X sc W) [] 3 _ _ (some (origin c (.inl 15))))
  isplitr; · iexact HR
  isplitl [Hs3]; · iexact Hs3
  isplitl [HO]; · iexact HO
  iintro ⟨Hs3, Hdg, HO⟩
  iapply Hk
  isplitl [HE]; · iexact HE
  isplitl [Hs0 Hs1 Hs2 Hs3]
  · unfold slabsFree
    isplitl [Hs0]; · iexact Hs0
    isplitl [Hs1]; · iexact Hs1
    isplitl [Hs2] <;> iassumption
  isplitl [Hv0 Hv1 Hv2 Hv3 Hv4 Hv5]
  · isplitl [Hv0]; · iexact Hv0
    isplitl [Hv1]; · iexact Hv1
    isplitl [Hv2]; · iexact Hv2
    isplitl [Hv3]; · iexact Hv3
    isplitl [Hv4]; · iexact Hv4
    isplitl [Hv5]; · iexact Hv5
    iempintro
  isplitl [Ht0 Ht1]
  · isplitl [Ht0]; · iexact Ht0
    isplitl [Ht1]; · iexact Ht1
    iempintro
  isplitl [Hx]; · iexact Hx
  isplitl [Hy]; · iexact Hy
  isplitl [Hz]; · iexact Hz
  isplitr [HO]
  · unfold lastDones
    iapply (done_cons c (outOf X sc W) _ w.a)
    isplitl [Hda]; · iexact Hda
    iapply (done_cons c (outOf X sc W) _ w.b)
    isplitl [Hdb]; · iexact Hdb
    iapply (done_cons c (outOf X sc W) _ w.c)
    isplitl [Hdc]; · iexact Hdc
    iapply (done_cons c (outOf X sc W) _ w.d)
    isplitl [Hdd]; · iexact Hdd
    simp only [each]
    isplitl [Hde]; · iapply (done_out c (outOf X sc W) _) $$ Hde
    isplitl [Hdf]; · iapply (done_out c (outOf X sc W) _) $$ Hdf
    isplitl [Hdg]; · iapply (done_out c (outOf X sc W) _) $$ Hdg
    iempintro
  iexact HO

/-! ## Taking back what was lent -/

/-- A slot whole again, its halves read out by the copies on. -/
theorem slot_join (t t' : Slot) (hcut : ∀ j, Fed X c t' j ⊢ Came X c t j fullShare.left) :
    iprop(slotAt X c fullShare.right t ∗ Fed X c t' 0 ∗ Fed X c t' 1) ⊢ slotAt X c fullShare t := by
  rw [slot_halves, slot_halves]
  iintro ⟨⟨Hr0, Hr1⟩, H0, H1⟩
  isplitl [Hr0 H0]
  · iapply (came_split X c t 0).2
    isplitl [H0]; · iapply (hcut 0) $$ H0
    iexact Hr0
  · iapply (came_split X c t 1).2
    isplitl [H1]; · iapply (hcut 1) $$ H1
    iexact Hr1

/-- Both halves of a copy taken back. -/
theorem run_sent2 (t : Slot) (k : Body F) (Q : PUnit → sProp 𝕄) :
    iprop(rules X κ ∗ (SentIt c (t, 0) ∗ SentIt c (t, 1)) ∗ owed c 0
      ∗ (((Fed X c t 0 ∗ Fed X c t 1) ∗ (sentZero c (t, 0) ∗ sentZero c (t, 1)) ∗ owed c 0) -∗ run c k Q)) ⊢ run c (sent t 0 (sent t 1 k)) Q := by
  iintro ⟨#HR, ⟨H0, H1⟩, HO, Hk⟩
  iapply (run_sent X κ c t 0)
  isplitr; · iexact HR
  isplitl [H0]; · iexact H0
  isplitl [HO]; · iexact HO
  iintro ⟨Hf0, Hv0, HO⟩
  iapply (run_sent X κ c t 1)
  isplitr; · iexact HR
  isplitl [H1]; · iexact H1
  isplitl [HO]; · iexact HO
  iintro ⟨Hf1, Hv1, HO⟩
  iapply Hk
  isplitl [Hf0 Hf1]; · isplitl [Hf0] <;> iassumption
  isplitl [Hv0 Hv1]; · isplitl [Hv0] <;> iassumption
  iexact HO

theorem run_drain (k : Body F) (Q : PUnit → sProp 𝕄) : ∀ (n h : ℕ) (hn : h + n ≤ 14) (hn' : h + 1 + n ≤ 15),
    iprop(rules X κ ∗ each (SentIt c) (sends n h hn) ∗ each (slotAt X c fullShare.right) (slots n h hn) ∗ owed c 0
      ∗ ((each (sentZero c) (sends n h hn) ∗ each (slotAt X c fullShare) (slots n h hn) ∗ owed c 0) -∗ run c k Q))
      ⊢ run c (drain n (h + 1) hn' k) Q
  | 0, h, hn, hn' => by
    iintro ⟨-, -, -, HO, Hk⟩
    iapply Hk
    isplitr; · iempintro
    isplitr; · iempintro
    iexact HO
  | n + 1, h, hn, hn' => by
    have r0 : h < 16 := by omega
    have r1 : h + 1 < 16 := by omega
    have l0 : h < 15 := by omega
    have l1 : h + 1 < 15 := by omega
    have hm : h + 1 + n ≤ 14 := by omega
    have hm' : h + 1 + 1 + n ≤ 15 := by omega
    unfold drain
    simp only [sends, slots, each]
    iintro ⟨#HR, ⟨H0, H1, H2, H3, Ht⟩, ⟨Hx, Hy, Hs⟩, HO, Hk⟩
    iapply (run_sent2 X κ c (sR (h + 1) r1))
    isplitr; · iexact HR
    isplitl [H0 H1]; · isplitl [H0] <;> iassumption
    isplitl [HO]; · iexact HO
    iintro ⟨Hf, ⟨Hv0, Hv1⟩, HO⟩
    iapply (run_sent2 X κ c (sL (h + 1) l1))
    isplitr; · iexact HR
    isplitl [H2 H3]; · isplitl [H2] <;> iassumption
    isplitl [HO]; · iexact HO
    iintro ⟨Hg, ⟨Hv2, Hv3⟩, HO⟩
    iapply (run_drain k Q n (h + 1) hm hm')
    isplitr; · iexact HR
    isplitl [Ht]; · iexact Ht
    isplitl [Hs]; · iexact Hs
    isplitl [HO]; · iexact HO
    iintro ⟨Hv, Hs, HO⟩
    iapply Hk
    isplitl [Hv0 Hv1 Hv2 Hv3 Hv]
    · isplitl [Hv0]; · iexact Hv0
      isplitl [Hv1]; · iexact Hv1
      isplitl [Hv2]; · iexact Hv2
      isplitl [Hv3] <;> iassumption
    isplitl [Hx Hy Hs Hf Hg]
    · isplitl [Hx Hf]
      · iapply (slot_join X c (sR h r0) (sR (h + 1) r1) (fun j => Entails.rfl))
        isplitl [Hx] <;> iassumption
      isplitl [Hy Hg]
      · iapply (slot_join X c (sL h l0) (sL (h + 1) l1) (fun j => Entails.rfl))
        isplitl [Hy] <;> iassumption
      iexact Hs
    iexact HO

/-! ## The device's own rows -/

/-- The own rounded rows, at a share. -/
def ownAt (q : PosShare TreeShare) : sProp 𝕄 := (Memref.whole cc0_scratch2).view.loc (c : Thread nD τ) ↦{q} X c

/-- What the four copies of the first hop read. -/
def lentOwn : sProp 𝕄 := iprop((Fed X c (.inl 0) 0 ∗ Fed X c (.inl 0) 1) ∗ (Fed X c (.inr 0) 0 ∗ Fed X c (.inr 0) 1))

/-- The left share of the own rows, half by half and copy by copy. -/
theorem own_halves (q : PosShare TreeShare) : (ownAt X c q : sProp 𝕄)
    = bigSep Finset.univ fun j : Fin 2 => (chunk j).view.loc (c : Thread nD τ) ↦[(chunk j).view.set]{q} X c :=
  Ring.pointsTo_blocks (ℓ := (Memref.whole cc0_scratch2).view.loc (c : Thread nD τ)) (B := Fin 2) (fun j => (chunk j).view.set)
    (fun a b hab => chunk_disj a b hab) chunk_cover (X c)
theorem own_two (q : PosShare TreeShare) : (ownAt X c q : sProp 𝕄)
    = iprop(((chunk 0).view.loc (c : Thread nD τ) ↦[(chunk 0).view.set]{q} X c) ∗ ((chunk 1).view.loc (c : Thread nD τ) ↦[(chunk 1).view.set]{q} X c)) :=
  (own_halves X c q).trans (BI.bigSep_fin_two _)
theorem own_right : (ownAt X c fullShare.left.left : sProp 𝕄) = iprop(Fed X c (.inl 0) 0 ∗ Fed X c (.inl 0) 1) := own_two X c _
theorem own_left : (ownAt X c fullShare.left.right : sProp 𝕄) = iprop(Fed X c (.inr 0) 0 ∗ Fed X c (.inr 0) 1) := own_two X c _
theorem own_share (q : PosShare TreeShare) : (ownAt X c q : sProp 𝕄) ⊣⊢ iprop(ownAt X c q.left ∗ ownAt X c q.right) := by
  unfold ownAt; exact pointsTo_share (PosShare.mem_left_op_right q)
theorem lent_own : lentOwn X c ⊣⊢ (ownAt X c fullShare.left : sProp 𝕄) := by
  unfold lentOwn
  rw [← own_right, ← own_left]
  exact ⟨(own_share X c fullShare.left).2, (own_share X c fullShare.left).1⟩

/-! ## All the waits at the end -/

def firstSends : List Item := [(.inl 0, 0), (.inr 0, 0), (.inl 0, 1), (.inr 0, 1)]
theorem h14 : 0 + 14 ≤ 14 := by decide
/-- The copies of the whole run in order, the arrivals in order, the slots. -/
def sendOrder : List Item := firstSends ++ (sends 14 0 h14 ++ lastSends)
def comeOrder : List Item := comes 14 0 h14 ++ lastComes
def slotOrder : List Slot := slots 14 0 h14 ++ lastSlots

theorem run_drainAll (k : Body F) (Q : PUnit → sProp 𝕄) :
    iprop(rules X κ ∗ (each (SentIt c) firstSends ∗ each (SentIt c) (sends 14 0 h14) ∗ each (SentIt c) lastSends)
      ∗ each (slotAt X c fullShare.right) (slots 14 0 h14) ∗ slotAt X c fullShare.right (.inl 14) ∗ slotAt X c fullShare (.inr 14)
      ∗ slotAt X c fullShare (.inl 15) ∗ ownAt X c fullShare.right ∗ owed c 0
      ∗ ((each (sentZero c) sendOrder ∗ each (slotAt X c fullShare) slotOrder ∗ ownAt X c fullShare ∗ owed c 0) -∗ run c k Q))
      ⊢ run c (drainAll k) Q := by
  have h15 : 0 + 1 + 14 ≤ 15 := by decide
  unfold drainAll
  simp only [firstSends, lastSends, each]
  iintro ⟨#HR, ⟨⟨H0, H1, H2, H3, -⟩, Ht, ⟨H4, H5, -⟩⟩, Hs, Hx, Hy, Hz, Hown, HO, Hk⟩
  iapply (run_sent X κ c (.inl 0) 0)
  isplitr; · iexact HR
  isplitl [H0]; · iexact H0
  isplitl [HO]; · iexact HO
  iintro ⟨Hf0, Hv0, HO⟩
  iapply (run_sent X κ c (.inr 0) 0)
  isplitr; · iexact HR
  isplitl [H1]; · iexact H1
  isplitl [HO]; · iexact HO
  iintro ⟨Hf1, Hv1, HO⟩
  iapply (run_sent X κ c (.inl 0) 1)
  isplitr; · iexact HR
  isplitl [H2]; · iexact H2
  isplitl [HO]; · iexact HO
  iintro ⟨Hf2, Hv2, HO⟩
  iapply (run_sent X κ c (.inr 0) 1)
  isplitr; · iexact HR
  isplitl [H3]; · iexact H3
  isplitl [HO]; · iexact HO
  iintro ⟨Hf3, Hv3, HO⟩
  iapply (run_drain X κ c _ Q 14 0 h14 h15)
  isplitr; · iexact HR
  isplitl [Ht]; · iexact Ht
  isplitl [Hs]; · iexact Hs
  isplitl [HO]; · iexact HO
  iintro ⟨Hv, Hs, HO⟩
  iapply (run_sent2 X κ c (.inl 15))
  isplitr; · iexact HR
  isplitl [H4 H5]; · isplitl [H4] <;> iassumption
  isplitl [HO]; · iexact HO
  iintro ⟨Hf, ⟨Hv4, Hv5⟩, HO⟩
  iapply Hk
  isplitl [Hv0 Hv1 Hv2 Hv3 Hv4 Hv5 Hv]
  · unfold sendOrder
    rw [each_append, each_append]
    simp only [firstSends, lastSends, each]
    isplitl [Hv0 Hv1 Hv2 Hv3]
    · isplitl [Hv0]; · iexact Hv0
      isplitl [Hv1]; · iexact Hv1
      isplitl [Hv2]; · iexact Hv2
      isplitl [Hv3]; · iexact Hv3
      iempintro
    isplitl [Hv]; · iexact Hv
    isplitl [Hv4]; · iexact Hv4
    isplitl [Hv5]; · iexact Hv5
    iempintro
  isplitl [Hs Hx Hf Hy Hz]
  · unfold slotOrder
    rw [each_append]
    simp only [lastSlots, each]
    isplitl [Hs]; · iexact Hs
    isplitl [Hx Hf]
    · iapply (slot_join X c (.inl 14) (.inl 15) (fun j => Entails.rfl))
      isplitl [Hx] <;> iassumption
    isplitl [Hy]; · iexact Hy
    isplitl [Hz]; · iexact Hz
    iempintro
  isplitr [HO]
  · iapply (own_share X c fullShare).2
    isplitr [Hown]
    · iapply (lent_own X c).1
      unfold lentOwn
      isplitl [Hf0 Hf2]
      · isplitl [Hf0] <;> iassumption
      isplitl [Hf1] <;> iassumption
    iexact Hown
  iexact HO

/-! ## From the rounded rows to the end -/

/-- A shape of one element has one index. -/
theorem one_idx (x y : S1x1.Idx) : x = y := by
  have h : ∀ (a : Fin 2) (u v : Fin (S1x1.size a)), u = v := by decide
  exact funext fun a => h a _ _

/-- A scale read. -/
theorem run_scale (m : Memref sig .tc .smem S1x1 .f32) (a : Vec F S1x1 .f32) (hin) (h1) (hp) (k : F .f32 → Body F) (Q : PUnit → sProp 𝕄) :
    iprop(owns (c : Thread nD τ) m fullShare a ∗ (owns (c : Thread nD τ) m fullShare a -∗ run c (k (a (ix2 (0 : Fin 1) (0 : Fin 1)))) Q))
      ⊢ run c (word m ![0, 0] S1x1.size hin h1 hp k) Q := by
  refine Entails.trans (Entails.of_eq ?_) (run_word c m a ![0, 0] S1x1.size hin h1 hp k Q)
  rw [show (Rect.unit (s := S1x1) ![0, 0] S1x1.size hin).emb (Shape.Idx.first (h1.symm ▸ Nat.one_pos)) = ix2 (0 : Fin 1) (0 : Fin 1) from ?_]
  exact one_idx _ _

/-- The kernel's own row word names the device. -/
theorem own_row (d : Dev nD) : (⟨Scalar.remsi (Scalar.divsi (Dev.word d) 1#32) 32#32, k0_off3_inb d⟩ : Rows) = rowOf d := Subtype.ext (own_word d)

/-- A whole buffer of the device. -/
def bufAt (b : Ref sig .tc) (f : Buf (Elt F) ((Memref.whole b).view.loc (c : Thread nD τ))) : sProp 𝕄 :=
  (Memref.whole b).view.loc (c : Thread nD τ) ↦{fullShare} f

/-- The copy of the weights into fast memory, under way. -/
abbrev loadW (w : Vec F S4096x256 .f32) : sProp 𝕄 :=
  Transfers.Flight EC (c : Thread nD τ) (.dma (loadSem 1)) () (Memref.whole cc0_scratch1).view.dmaCredit
    iprop(bufAt c cc0_scratch1 w ∗ bufAt c main_arg1 w)

/-- The product of the scales, and a device's output from its weights and scales. -/
def scaleOf (a b : Vec F S1x1 .f32) : F .f32 := k0_pay3 (a (ix2 (0 : Fin 1) (0 : Fin 1))) (b (ix2 (0 : Fin 1) (0 : Fin 1)))
def result (w : Vec F S4096x256 .f32) (a b : Vec F S1x1 .f32) : Vec F S4096x256 .f32 := outOf X (scaleOf a b) (k0_pay2 w)

/-- The stores under way when the hops start: the own tile's. -/
def flFirst : Fl := ⟨none, none, none, some none⟩
/-- The rows of the output in the order they are done. -/
def doneOrder : List Src := dones 14 0 h14 flFirst ++ lastDones (after 14 0 h14 flFirst)

/-- What the run takes beside its own rounded rows, and what it leaves. -/
def MainPre (w : Vec F S4096x256 .f32) (a b : Vec F S1x1 .f32) : sProp 𝕄 :=
  iprop((each (SendIt c) firstSends ∗ each (SendIt c) (sends 14 0 h14) ∗ each (SendIt c) lastSends)
    ∗ (each (CameIt c) (comes 14 0 h14) ∗ each (CameIt c) lastComes)
    ∗ (Free c none ∗ each (fun t => Free c (some t)) (slots 14 0 h14) ∗ each (fun t => Free c (some t)) lastSlots)
    ∗ slabsFree c (result X w a b) ∗ loadW c w ∗ (∃ f, weightsAt c f)
    ∗ Tab c ∗ owns (c : Thread nD τ) mSx fullShare a ∗ owns (c : Thread nD τ) mSw fullShare b)
def MainPost (w : Vec F S4096x256 .f32) (a b : Vec F S1x1 .f32) : sProp 𝕄 :=
  iprop(each (sentZero c) sendOrder ∗ each (cameZero c) comeOrder ∗ each (Out c (result X w a b)) doneOrder
    ∗ slabsFree c (result X w a b) ∗ (bufAt c cc0_scratch1 w ∗ bufAt c main_arg1 w ∗ semVal ((c : Thread nD τ), .dma (loadSem 1)) 0)
    ∗ weightsAt c (k0_pay2 w) ∗ ownAt X c fullShare ∗ each (slotAt X c fullShare) slotOrder
    ∗ Tab c ∗ owns (c : Thread nD τ) mSx fullShare a ∗ owns (c : Thread nD τ) mSw fullShare b)

/-- The copies of the first hop. -/
theorem run_first_sends (l : List Item) (k : Body F) (Q : PUnit → sProp 𝕄) :
    iprop(rules X κ ∗ each (SendIt c) firstSends ∗ lentOwn X c ∗ owed c (owing c (firstSends ++ l))
      ∗ ((each (SentIt c) firstSends ∗ owed c (owing c l)) -∗ run c k Q))
      ⊢ run c (send (.inl 0) 0 (rgt c) <| send (.inr 0) 0 (lft c) <| send (.inl 0) 1 (rgt c) <| send (.inr 0) 1 (lft c) k) Q := by
  unfold lentOwn
  simp only [firstSends, each, List.cons_append, List.nil_append]
  iintro ⟨#HR, ⟨H0, H1, H2, H3, -⟩, ⟨⟨F0, F2⟩, F1, F3⟩, HO, Hk⟩
  iapply (run_send X κ c (.inl 0) 0 (rgt c) rfl)
  isplitr; · iexact HR
  isplitl [H0]; · iexact H0
  isplitl [F0]; · iexact F0
  isplitl [HO]; · iexact HO
  iintro ⟨H0, HO⟩
  iapply (run_send X κ c (.inr 0) 0 (lft c) rfl)
  isplitr; · iexact HR
  isplitl [H1]; · iexact H1
  isplitl [F1]; · iexact F1
  isplitl [HO]; · iexact HO
  iintro ⟨H1, HO⟩
  iapply (run_send X κ c (.inl 0) 1 (rgt c) rfl)
  isplitr; · iexact HR
  isplitl [H2]; · iexact H2
  isplitl [F2]; · iexact F2
  isplitl [HO]; · iexact HO
  iintro ⟨H2, HO⟩
  iapply (run_send X κ c (.inr 0) 1 (lft c) rfl)
  isplitr; · iexact HR
  isplitl [H3]; · iexact H3
  isplitl [F3]; · iexact F3
  isplitl [HO]; · iexact HO
  iintro ⟨H3, HO⟩
  iapply Hk
  isplitr [HO]
  · isplitl [H0]; · iexact H0
    isplitl [H1]; · iexact H1
    isplitl [H2]; · iexact H2
    isplitl [H3]; · iexact H3
    iempintro
  iexact HO

/-- The end of the program. -/
theorem run_done (Q : PUnit → sProp 𝕄) : Q ⟨⟩ ⊢ run c (.ret ⟨⟩) Q := by
  show Q ⟨⟩ ⊢ iprop(|={Set.univ}=> Q ⟨⟩)
  iintro H
  imodintro
  iexact H

/-- The run from the own rows rounded to the end. -/
theorem run_ring (w : Vec F S4096x256 .f32) (a b : Vec F S1x1 .f32) (hp) (Q : PUnit → sProp 𝕄) :
    iprop(rules X κ ∗ MainPre X c w a b ∗ ownAt X c fullShare ∗ owed c (owing c sendOrder)
      ∗ ((MainPost X c w a b ∗ owed c 0) -∗ Q ⟨⟩))
      ⊢ run c (main c (rgt c) (lft c) (posWord (posOf c)) hp) Q := by
  unfold MainPre result main sendOrder
  rw [own_row c]
  iintro ⟨#HR, ⟨⟨S0, S1, S2⟩, ⟨C1, C2⟩, ⟨Fn, F1, F2⟩, Hsl, HL, ⟨%f3, H3⟩, HT, Ha, Hb⟩, Hown, HO, Hk⟩
  ihave Hown' := (own_share X c fullShare).1 $$ Hown
  icases Hown' with ⟨Hl, Hr⟩
  iapply (run_first_sends X κ c (sends 14 0 h14 ++ lastSends))
  isplitr; · iexact HR
  isplitl [S0]; · iexact S0
  isplitl [Hl]; · iapply (lent_own X c).2 $$ Hl
  isplitl [HO]; · iexact HO
  iintro ⟨S0, HO⟩
  unfold owed
  icases HO with ⟨%Wt, HO⟩
  iapply (Transfers.wp_waitLocalO EC 𝒱₀ (c : Thread nD τ) none () (srcw := Memref.whole main_arg1) (dstw := Memref.whole cc0_scratch1)
      (hsrc := (Memref.isWhole_whole _).wordExact) (hdst := (Memref.isWhole_whole _).wordExact) rfl (O := owing c (sends 14 0 h14 ++ lastSends)) (W := Wt)) $$ [HL HO]
  · isplitl [HL]; · iexact HL
    isplitl [HO]; · iexact HO
    iapply (rules_wait X κ c (.dma (loadSem 1)) (sends 14 0 h14 ++ lastSends) (fun x hx => by rw [role_load]; exact Nat.lt_of_lt_of_le Nat.two_pos (Nat.le_add_right 2 _))); iexact HR
  iintro ⟨⟨Hw, Hw'⟩, Hv, HO⟩
  unfold weightsAt bufAt ownAt
  iapply (wp_load_rect 𝒱₀ (c : Thread nD τ) none Set.univ (m := Memref.whole cc0_scratch1)
    (r := Rect.unit (s := S4096x256) ![0, 0] S4096x256.size inb_S4096x256_S4096x256_0_0) (Finset.subset_univ _)) $$ [Hw]
  · iexact Hw
  iintro Hw
  rw [show ((Memref.whole cc0_scratch1).access (Rect.unit (s := S4096x256) ![0, 0] S4096x256.size inb_S4096x256_S4096x256_0_0)).read (Elt F) w = w from
    Memref.read_access_unit_zero (Elt F) cc0_scratch1 (by decide) _ w]
  iapply (wp_load_rect 𝒱₀ (c : Thread nD τ) none Set.univ (m := Memref.whole cc0_scratch3)
    (r := Rect.unit (s := S4096x256) ![0, 0] S4096x256.size inb_S4096x256_S4096x256_0_0) (Finset.subset_univ _)) $$ [H3]
  · iexact H3
  iintro H3
  iapply (wp_store 𝒱₀ (c : Thread nD τ) none Set.univ (m := Memref.whole cc0_scratch3)
    (r := Rect.unit (s := S4096x256) ![0, 0] S4096x256.size inb_S4096x256_S4096x256_0_0) (Finset.subset_univ _)) $$ [H3]
  · iexact H3
  iintro H3
  rw [show ((Memref.whole cc0_scratch3).access (Rect.unit (s := S4096x256) ![0, 0] S4096x256.size inb_S4096x256_S4096x256_0_0)).write (Elt F) f3 (k0_pay2 w) Finset.univ = k0_pay2 w from
    Memref.write_access_unit_zero_univ (Elt F) cc0_scratch3 (by decide) _ f3 (k0_pay2 w)]
  iapply (run_scale c mSx a)
  isplitl [Ha]; · iexact Ha
  iintro Ha
  iapply (run_scale c mSw b)
  isplitl [Hb]; · iexact Hb
  iintro Hb
  iapply (wp_load_rect 𝒱₀ (c : Thread nD τ) none Set.univ (m := Memref.whole cc0_scratch2)
    (r := Rect.unit (s := S128x4096) ![0, 0] S128x4096.size inb_S128x4096_S128x4096_0_0) (Finset.subset_univ _)) $$ [Hr]
  · iexact Hr
  iintro Hr
  rw [show ((Memref.whole cc0_scratch2).access (Rect.unit (s := S128x4096) ![0, 0] S128x4096.size inb_S128x4096_S128x4096_0_0)).read (Elt F) (X c) = X c from
    Memref.read_access_unit_zero (Elt F) cc0_scratch2 (by decide) _ (X c)]
  iapply (run_readW c (k0_pay2 w))
  isplitl [H3]; · unfold weightsAt; iexact H3
  iintro H3
  unfold slabsFree
  icases Hsl with ⟨L0, L1, L2, L3⟩
  iapply (run_emit c (outOf X (scaleOf a b) (k0_pay2 w)) 0 c _ (fun r k => outOf_rows X (scaleOf a b) (k0_pay2 w) c r k))
  isplitl [L0]; · iexact L0
  isplitl [Fn]; · iexact Fn
  iintro L0
  iapply (run_hops X κ c (scaleOf a b) (k0_pay2 w) hp 14 0 h14 flFirst)
  isplitr; · iexact HR
  isplitl [HT H3]; · unfold Env; isplitl [HT] <;> iassumption
  isplitl [L0 L1 L2 L3]
  · unfold Slabs
    isplitl [L1]; · iexact L1
    isplitl [L2]; · iexact L2
    isplitl [L3]; · iexact L3
    iexact L0
  isplitl [C1]; · iexact C1
  isplitl [S1]; · iexact S1
  isplitl [F1]; · iexact F1
  isplitl [HO]; · unfold owed; iexists _; iexact HO
  iintro ⟨HE, Hsl, Z1, S1, T1, D1, HO⟩
  iapply (run_last X κ c (scaleOf a b) (k0_pay2 w) hp (after 14 0 h14 flFirst))
  isplitr; · iexact HR
  isplitl [HE]; · iexact HE
  isplitl [Hsl]; · iexact Hsl
  isplitl [C2]; · iexact C2
  isplitl [S2]; · iexact S2
  isplitl [F2]; · iexact F2
  isplitl [HO]; · iexact HO
  iintro ⟨HE, Hsl, Z2, S2, T2, T3, T4, D2, HO⟩
  iapply (run_drainAll X κ c)
  isplitr; · iexact HR
  isplitl [S0 S1 S2]
  · isplitl [S0]; · iexact S0
    isplitl [S1] <;> iassumption
  isplitl [T1]; · iexact T1
  isplitl [T2]; · iexact T2
  isplitl [T3]; · iexact T3
  isplitl [T4]; · iexact T4
  isplitl [Hr]; · unfold ownAt; iexact Hr
  isplitl [HO]; · iexact HO
  iintro ⟨Z0, T, Hown, HO⟩
  iapply (run_done c)
  iapply Hk
  unfold Env
  icases HE with ⟨HT, H3⟩
  isplitr [HO]
  · unfold MainPost comeOrder doneOrder result
    rw [each_append, each_append]
    isplitl [Z0]; · iexact Z0
    isplitl [Z1 Z2]; · isplitl [Z1] <;> iassumption
    isplitl [D1 D2]; · isplitl [D1] <;> iassumption
    isplitl [Hsl]; · iexact Hsl
    isplitl [Hw Hw' Hv]
    · unfold bufAt
      isplitl [Hw]; · iexact Hw
      isplitl [Hw'] <;> iassumption
    isplitl [H3]; · iexact H3
    isplitl [Hown]; · iexact Hown
    isplitl [T]; · iexact T
    isplitl [HT]; · iexact HT
    isplitl [Ha] <;> iassumption
  unfold owed
  iexact HO

end Cert.KernelIdeal.Ring

end
-- ==== Proof.Body.lean ====
/- The run of the whole body on one device: the words of its own position and its neighbours, the loads of its blocks, the
   handshake with both neighbours, its own rows rounded, and then the ring. -/
module

public import proofs.«01_k».proof.Proof.Main

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ UU ℕ

variable (X : AllRows F) (κ : GSem nD τ sig → ℕ) (c : Dev nD)

/-! ## The lists are complete -/

theorem sendOrder_all (Φ : Item → sProp 𝕄) : bigSep Finset.univ Φ = each Φ sendOrder := each_univ Φ sendOrder (by decide +kernel) (by decide +kernel)
theorem comeOrder_all (Φ : Item → sProp 𝕄) : bigSep Finset.univ Φ = each Φ comeOrder := each_univ Φ comeOrder (by decide +kernel) (by decide +kernel)
theorem slotOrder_all (Φ : Slot → sProp 𝕄) : bigSep Finset.univ Φ = each Φ slotOrder := each_univ Φ slotOrder (by decide +kernel) (by decide +kernel)
theorem doneOrder_all (Φ : Src → sProp 𝕄) : bigSep Finset.univ Φ = each Φ doneOrder := each_univ Φ doneOrder (by decide +kernel) (by decide +kernel)
theorem free_all (Φ : Src → sProp 𝕄) : bigSep Finset.univ Φ = iprop(Φ none ∗ each (fun t => Φ (some t)) slotOrder) := by
  rw [each_univ Φ (none :: slotOrder.map some) (by decide +kernel) (by decide +kernel)]
  show iprop(Φ none ∗ each Φ (slotOrder.map some)) = _
  rw [each_eq, each_eq, bigSepL_map]

/-- What is held for every half, by direction. -/
theorem items_split (Φ : Item → sProp 𝕄) : bigSep Finset.univ Φ
    = iprop((bigSep Finset.univ fun a : Fin 16 × Fin 2 => Φ (.inl a.1, a.2)) ∗ bigSep Finset.univ fun a : Fin 15 × Fin 2 => Φ (.inr a.1, a.2)) := by
  rw [bigSep_univ_equiv (Equiv.sumProdDistrib (Fin 16) (Fin 15) (Fin 2)).symm Φ]
  exact bigSep_univ_sum _

/-! ## The handshake -/

/-- What a device holds at the start to make its copies, beside the room for them. -/
def SendTok (x : Item) : sProp 𝕄 :=
  iprop(atPos ER (sentCell c x.1 x.2) 0 ∅ 0 ∗ dutyTok ER (sentCell c x.1 x.2) 0 false ∗ reached ER (sentCell c x.1 x.2) 0
    ∗ dutyTok ER (cameCell (onto c x.1) x.1 x.2) 0 false)
/-- Room for a half at device `d`, and its cell open. -/
abbrev Room (d : Dev nD) (x : Item) : sProp 𝕄 := iprop((∃ f, halfAt d x.1 x.2 fullShare f) ∗ reached ER (cameCell d x.1 x.2) 0)

/-- A device's own room is what its two signals pay. -/
theorem room_pay : bigSep Finset.univ (Room c) ⊢ iprop(barPay (lft c) false ∗ barPay (rgt c) true : sProp 𝕄) := by
  rw [items_split]
  unfold barPay
  rw [rgt_lft, lft_rgt]
/-- What its neighbours pay is the room it copies into. -/
theorem pay_room : iprop(barPay c false ∗ barPay c true : sProp 𝕄) ⊢ bigSep Finset.univ fun x : Item => Room (onto c x.1) x := by
  rw [items_split]
  exact Entails.rfl

theorem send_ready (x : Item) : iprop(SendTok c x ∗ Room (onto c x.1) x) ⊢ (SendIt c x : sProp 𝕄) := by
  unfold SendTok SendIt
  iintro ⟨⟨H0, H1, H2, H3⟩, H4, H5⟩
  isplitl [H0]; · iexact H0
  isplitl [H1]; · iexact H1
  isplitl [H2]; · iexact H2
  isplitl [H3]; · iexact H3
  isplitl [H5]; · iexact H5
  iexact H4
theorem sends_ready : iprop(bigSep Finset.univ (SendTok c) ∗ bigSep Finset.univ fun x : Item => Room (onto c x.1) x)
    ⊢ (each (SendIt c) sendOrder : sProp 𝕄) := by
  rw [← sendOrder_all]
  exact (Entails.of_eq (bigSep_sep' _ _ _).symm).trans (bigSep_mono fun x _ => send_ready c x)

/-- What a device owes at the start: its copies, and a signal to each neighbour. -/
def O₀ : CellTallies nD τ sig Unit := owing c sendOrder + tallyAt (barCell (rgt c)) () 1 + tallyAt (barCell (lft c)) () 1

/-- What it holds of the exchange at the start. -/
def Start : sProp 𝕄 :=
  iprop((atPos ER (barCell c) 0 ∅ 0 ∗ cred (tallyAt (barCell c) () 2))
    ∗ (dutyTok ER (barCell (lft c)) 0 false ∗ reached ER (barCell (lft c)) 0)
    ∗ (dutyTok ER (barCell (rgt c)) 0 true ∗ reached ER (barCell (rgt c)) 0))

theorem run_handshake (k : Body F) (Q : PUnit → sProp 𝕄) :
    iprop(rules X κ ∗ Start c ∗ bigSep Finset.univ (Room c) ∗ owed c (O₀ c)
      ∗ (((bigSep Finset.univ fun x : Item => Room (onto c x.1) x) ∗ semVal (barCell c) 0 ∗ owed c (owing c sendOrder)) -∗ run c k Q))
      ⊢ run c (.op (.semSignal (lft c, .tc) barSem 1) fun _ => .op (.semSignal (rgt c, .tc) barSem 1) fun _ => .op (.semWait barSem 2) fun _ => k) Q := by
  unfold Start owed
  iintro ⟨#HR, ⟨⟨Hat, Hc⟩, ⟨Ht0, #Hr0⟩, ⟨Ht1, #Hr1⟩⟩, Hroom, ⟨%W, HO⟩, Hk⟩
  ihave Hpay := (room_pay c) $$ Hroom
  icases Hpay with ⟨Hp0, Hp1⟩
  iapply (Rounds.wp_signal 𝒱₀ ER (sched X) (c : Thread nD τ) none (dst := (lft c : Thread nD τ)) (sem := barSem) (r := 0) (d := false) (κ := κ (barCell (lft c)))
      (by rw [duties_bar]; exact Finset.mem_univ _) (amount_bar X (lft c) false) () (owing c sendOrder + tallyAt (barCell (rgt c)) () 1) rfl (W := W)) $$ [HO Ht0 Hp0]
  · isplitr; · iapply (rules_bar X κ (lft c)); iexact HR
    isplitl [HO]; · iexact HO
    isplitl [Ht0]; · iexact Ht0
    isplitl [Hp0]; · iapply (Entails.of_eq (payload_bar X (lft c) false).symm) $$ Hp0
    iexact Hr0
  iintro HO
  iapply (Rounds.wp_signal 𝒱₀ ER (sched X) (c : Thread nD τ) none (dst := (rgt c : Thread nD τ)) (sem := barSem) (r := 0) (d := true) (κ := κ (barCell (rgt c)))
      (by rw [duties_bar]; exact Finset.mem_univ _) (amount_bar X (rgt c) true) () (owing c sendOrder) rfl (W := W)) $$ [HO Ht1 Hp1]
  · isplitr; · iapply (rules_bar X κ (rgt c)); iexact HR
    isplitl [HO]; · iexact HO
    isplitl [Ht1]; · iexact Ht1
    isplitl [Hp1]; · iapply (Entails.of_eq (payload_bar X (rgt c) true).symm) $$ Hp1
    iexact Hr1
  iintro HO
  iapply (Rounds.wp_wait_rest_token 𝒱₀ ER (sched X) (c : Thread nD τ) none (κ := κ (barCell c))
      (wpE_semWait_eq 𝒱₀ (c : Thread nD τ) none Set.univ) (Set.mem_univ _) () (O := owing c sendOrder) (W := W) (R := 0) (m := 0) (T := ∅)
      ((Nat.zero_add _).trans (expect_bar X c).symm)) $$ [Hc HO Hat]
  · isplitr; · iapply (rules_bar X κ c); iexact HR
    isplitl [Hc]; · iexact Hc
    isplitl [HO]; · iexact HO
    isplitr
    · iapply (rules_wait X κ c (.reg barSem) sendOrder (fun x _ => Nat.lt_of_lt_of_le Nat.one_lt_two (Nat.le_add_right 2 _)))
      iexact HR
    iexact Hat
  iintro ⟨HO, Hat, -, Hpay⟩
  imod (close X (κ (barCell c)) (barCell c)) $$ [Hat] with Hv
  · isplitr; · iapply (rules_bar X κ c); iexact HR
    iexact Hat
  iapply Hk
  isplitl [Hpay]
  · iapply (pay_room c)
    iapply (Entails.of_eq (rest_bar X c)) $$ Hpay
  isplitl [Hv]; · iexact Hv
  iexists _; iexact HO

/-! ## The body -/

theorem run_pos (off : Fin 1 → Nat) (hin) (h1) (hp) (d : Dev nD) (h : off 0 = d.val) (k : BitVec 32 → Body F) (Q : PUnit → sProp 𝕄) :
    iprop(PosTab c ∗ (PosTab c -∗ run c (k (posWord (posOf d))) Q)) ⊢ run c (word mPos off S1.size hin h1 hp k) Q := by
  refine Entails.trans (Entails.of_eq ?_) (run_word c mPos (posTab (F := F)) off S1.size hin h1 hp k Q)
  rw [show posTab (F := F) ((Rect.unit (s := S32) off S1.size hin).emb (Shape.Idx.first (h1.symm ▸ Nat.one_pos))) = posWord (posOf d) from ?_]
  rw [← lit1_eq]
  exact congrArg lit1 (Fin.ext ((Shape.rowMajor_val_one _).trans h))

theorem run_deviceId (k : Dev nD → Body F) (Q : PUnit → sProp 𝕄) : run c (k c) Q ⊢ run c (.op .deviceId k) Q :=
  Entails.of_eq (wp_deviceId 𝒱₀ (c : Thread nD τ) none Set.univ).symm

/-- The copy of the rows into fast memory, under way. -/
abbrev loadX (x : Vec F S128x4096 .f32) : sProp 𝕄 :=
  Transfers.Flight EC (c : Thread nD τ) (.dma (loadSem 0)) () (Memref.whole cc0_scratch0).view.dmaCredit
    iprop(bufAt c cc0_scratch0 x ∗ bufAt c main_arg0 x)

/-- A copy of the whole of one buffer into the whole of another begins. -/
theorem run_load {s : Shape} {e : EltTy} (m : Memref sig .tc .hbm s e) (m' : Memref sig .tc .vmem s e) (i : Fin 2) (hs hd ht)
    (x : Buf (Elt F) (m.view.loc (c : Thread nD τ))) (x' : Buf (Elt F) (m'.view.loc (c : Thread nD τ)))
    (hset : m.view.set = Finset.univ) (hw : ∀ f, m'.view.write (Elt F) f (m.view.read (Elt F) x) Finset.univ = x') (h0 : 0 < m'.view.dmaCredit)
    (k : Body F) (Q : PUnit → sProp 𝕄) :
    iprop((m.view.loc (c : Thread nD τ) ↦{fullShare} x) ∗ (∃ f, m'.view.loc (c : Thread nD τ) ↦{fullShare} f) ∗ semVal ((c : Thread nD τ), .dma (loadSem i)) 0
      ∗ (Transfers.Flight EC (c : Thread nD τ) (.dma (loadSem i)) () m'.view.dmaCredit
          iprop((m'.view.loc (c : Thread nD τ) ↦{fullShare} x') ∗ (m.view.loc (c : Thread nD τ) ↦{fullShare} x)) -∗ run c k Q))
      ⊢ run c (.op (.enqueueDma m (.here m') (.dma (loadSem i)) hs hd ht) fun _ => k) Q := by
  iintro ⟨Hm, ⟨%f, Hm'⟩, Hv, Hk⟩
  iapply (Transfers.wp_dmaLocal EC 𝒱₀ (c : Thread nD τ) none (src := m) (dst := m') (Sd := Finset.univ) () m'.view.dmaCredit rfl h0 (Finset.subset_univ _)) $$ [Hm Hm' Hv]
  · isplitl [Hm]; · rw [hset]; iexact Hm
    isplitl [Hm']; · iexact Hm'
    iexact Hv
  iintro Hf
  iapply Hk
  iapply (Transfers.Flight_mono EC (c : Thread nD τ) ?_) $$ Hf
  rw [hset]
  iintro ⟨Hm', Hm⟩
  isplitl [Hm']
  · iapply (Entails.of_eq (pointsTo_congr fun i _ => congrFun (hw f) i)) $$ Hm'
  iexact Hm

/-- What the body takes and leaves beside the exchange: `x` and `w` the device's blocks, `a` and `b` the scales. -/
def BodyPre (x : Vec F S128x4096 .f32) (w : Vec F S4096x256 .f32) (a b : Vec F S1x1 .f32) : sProp 𝕄 :=
  iprop(Start c ∗ (bigSep Finset.univ (SendTok c) ∗ bigSep Finset.univ (CameIt c) ∗ bigSep Finset.univ (Room c))
    ∗ bigSep Finset.univ (Free c) ∗ slabsFree c (result X w a b)
    ∗ (bufAt c main_arg0 x ∗ (∃ f, bufAt c cc0_scratch0 f) ∗ semVal ((c : Thread nD τ), .dma (loadSem 0)) 0)
    ∗ (bufAt c main_arg1 w ∗ (∃ f, bufAt c cc0_scratch1 f) ∗ semVal ((c : Thread nD τ), .dma (loadSem 1)) 0)
    ∗ (∃ f, bufAt c cc0_scratch2 f) ∗ (∃ f, weightsAt c f)
    ∗ owns (c : Thread nD τ) mSx fullShare a ∗ owns (c : Thread nD τ) mSw fullShare b ∗ Tab c ∗ PosTab c)
def BodyPost (x : Vec F S128x4096 .f32) (w : Vec F S4096x256 .f32) (a b : Vec F S1x1 .f32) : sProp 𝕄 :=
  iprop((semVal (barCell c) 0 ∗ bigSep Finset.univ (sentZero c) ∗ bigSep Finset.univ (cameZero c))
    ∗ bigSep Finset.univ (Out c (result X w a b)) ∗ slabsFree c (result X w a b)
    ∗ (bufAt c main_arg0 x ∗ (∃ f, bufAt c cc0_scratch0 f) ∗ semVal ((c : Thread nD τ), .dma (loadSem 0)) 0)
    ∗ (bufAt c main_arg1 w ∗ (∃ f, bufAt c cc0_scratch1 f) ∗ semVal ((c : Thread nD τ), .dma (loadSem 1)) 0)
    ∗ ownAt X c fullShare ∗ weightsAt c (k0_pay2 w) ∗ bigSep Finset.univ (slotAt X c fullShare)
    ∗ owns (c : Thread nD τ) mSx fullShare a ∗ owns (c : Thread nD τ) mSw fullShare b ∗ Tab c ∗ PosTab c)

theorem sends_three (Φ : Item → sProp 𝕄) : each Φ sendOrder = iprop(each Φ firstSends ∗ each Φ (sends 14 0 h14) ∗ each Φ lastSends) := by
  unfold sendOrder
  rw [each_append, each_append]

theorem main_pre (w : Vec F S4096x256 .f32) (a b : Vec F S1x1 .f32) :
    iprop((bigSep Finset.univ (SendTok c) ∗ bigSep Finset.univ fun x : Item => Room (onto c x.1) x) ∗ bigSep Finset.univ (CameIt c)
      ∗ bigSep Finset.univ (Free c) ∗ slabsFree c (result X w a b) ∗ loadW c w ∗ (∃ f, weightsAt c f)
      ∗ Tab c ∗ owns (c : Thread nD τ) mSx fullShare a ∗ owns (c : Thread nD τ) mSw fullShare b)
    ⊢ (MainPre X c w a b : sProp 𝕄) := by
  unfold MainPre
  rw [comeOrder_all (CameIt c), free_all (Free c)]
  unfold comeOrder slotOrder
  rw [each_append, each_append]
  iintro ⟨HS, ⟨C0, C1⟩, ⟨F0, F1, F2⟩, Hsl, HL, Hw, HT, Ha, Hb⟩
  isplitl [HS]
  · iapply ((sends_ready c).trans (Entails.of_eq (sends_three (SendIt c)))) $$ HS
  isplitl [C0 C1]; · isplitl [C0] <;> iassumption
  isplitl [F0 F1 F2]
  · isplitl [F0]; · iexact F0
    isplitl [F1] <;> iassumption
  isplitl [Hsl]; · iexact Hsl
  isplitl [HL]; · iexact HL
  isplitl [Hw]; · iexact Hw
  isplitl [HT]; · iexact HT
  isplitl [Ha] <;> iassumption

theorem run_body (x : Dev nD → Vec F S128x4096 .f32) (hX : X = fun d => k0_pay1 (x d)) (w : Vec F S4096x256 .f32) (a b : Vec F S1x1 .f32) (Q : PUnit → sProp 𝕄) :
    iprop(rules X κ ∗ BodyPre X c (x c) w a b ∗ owed c (O₀ c) ∗ ((BodyPost X c (x c) w a b ∗ owed c 0) -∗ Q ⟨⟩)) ⊢ run c body Q := by
  unfold BodyPre body bufAt
  iintro ⟨#HR, ⟨Hst, ⟨Hs, Hc, Hroom⟩, Hfree, Hsl, ⟨Hx, H0, V0⟩, ⟨Hw, H1, V1⟩, ⟨%f2, H2⟩, H3, Ha, Hb, HT, HP⟩, HO, Hk⟩
  iapply (run_deviceId c)
  iapply (run_pos c (k0_off1 c) (k0_off1_inb c) numel1_S1 rfl c (off_pos c))
  isplitl [HP]; · iexact HP
  iintro HP
  iapply (wp_assume 𝒱₀ (c : Thread nD τ) none Set.univ (chk_pos (posOf c)))
  iapply (run_tab c _ _ _ _ (posOf c + 1) (off_right (posOf c)))
  isplitl [HT]; · iexact HT
  iintro HT
  iapply (wp_assume 𝒱₀ (c : Thread nD τ) none Set.univ (chk_right (devAt (posOf c + 1))))
  iapply (run_tab c _ _ _ _ (posOf c - 1) (off_left (posOf c)))
  isplitl [HT]; · iexact HT
  iintro HT
  iapply (wp_assume 𝒱₀ (c : Thread nD τ) none Set.univ (chk_left (devAt (posOf c - 1))))
  rw [show ∀ h, rightDev (devWord (devAt (posOf c + 1))) h = rgt c from fun h => Fin.ext (devOf_devWord _),
    show ∀ h, leftDev (devWord (devAt (posOf c - 1))) h = lft c from fun h => Fin.ext (devOf_devWord _)]
  iapply (run_load c (Memref.whole main_arg0) (Memref.whole cc0_scratch0) 0 _ _ _ (x c) (x c) (View.set_whole _) (fun f => View.write_whole_univ (Val := Elt F) cc0_scratch0 f (x c)) (View.dmaCredit_pos _ (by decide)))
  isplitl [Hx]; · iexact Hx
  isplitl [H0]; · iexact H0
  isplitl [V0]; · iexact V0
  iintro Hf0
  iapply (run_load c (Memref.whole main_arg1) (Memref.whole cc0_scratch1) 1 _ _ _ w w (View.set_whole _) (fun f => View.write_whole_univ (Val := Elt F) cc0_scratch1 f w) (View.dmaCredit_pos _ (by decide)))
  isplitl [Hw]; · iexact Hw
  isplitl [H1]; · iexact H1
  isplitl [V1]; · iexact V1
  iintro Hf1
  iapply (run_handshake X κ c)
  isplitr; · iexact HR
  isplitl [Hst]; · iexact Hst
  isplitl [Hroom]; · iexact Hroom
  isplitl [HO]; · iexact HO
  iintro ⟨Hroom, Vb, HO⟩
  unfold owed
  icases HO with ⟨%Wt, HO⟩
  iapply (Transfers.wp_waitLocalO EC 𝒱₀ (c : Thread nD τ) none () (srcw := Memref.whole main_arg0) (dstw := Memref.whole cc0_scratch0)
      (hsrc := (Memref.isWhole_whole _).wordExact) (hdst := (Memref.isWhole_whole _).wordExact) rfl (O := owing c sendOrder) (W := Wt)) $$ [Hf0 HO]
  · isplitl [Hf0]; · iexact Hf0
    isplitl [HO]; · iexact HO
    iapply (rules_wait X κ c (.dma (loadSem 0)) sendOrder (fun x hx => by rw [role_load]; exact Nat.lt_of_lt_of_le Nat.two_pos (Nat.le_add_right 2 _))); iexact HR
  iintro ⟨⟨H0, Hx⟩, V0, HO⟩
  iapply (wp_load_rect 𝒱₀ (c : Thread nD τ) none Set.univ (m := Memref.whole cc0_scratch0)
    (r := Rect.unit (s := S128x4096) ![0, 0] S128x4096.size inb_S128x4096_S128x4096_0_0) (Finset.subset_univ _)) $$ [H0]
  · iexact H0
  iintro H0
  rw [show ((Memref.whole cc0_scratch0).access (Rect.unit (s := S128x4096) ![0, 0] S128x4096.size inb_S128x4096_S128x4096_0_0)).read (Elt F) (x c) = x c from
    Memref.read_access_unit_zero (Elt F) cc0_scratch0 (by decide) _ (x c)]
  iapply (wp_load_rect 𝒱₀ (c : Thread nD τ) none Set.univ (m := Memref.whole cc0_scratch2)
    (r := Rect.unit (s := S128x4096) ![0, 0] S128x4096.size inb_S128x4096_S128x4096_0_0) (Finset.subset_univ _)) $$ [H2]
  · iexact H2
  iintro H2
  iapply (wp_store 𝒱₀ (c : Thread nD τ) none Set.univ (m := Memref.whole cc0_scratch2)
    (r := Rect.unit (s := S128x4096) ![0, 0] S128x4096.size inb_S128x4096_S128x4096_0_0) (Finset.subset_univ _)) $$ [H2]
  · iexact H2
  iintro H2
  rw [show ((Memref.whole cc0_scratch2).access (Rect.unit (s := S128x4096) ![0, 0] S128x4096.size inb_S128x4096_S128x4096_0_0)).write (Elt F) f2 (k0_pay1 (x c)) Finset.univ = k0_pay1 (x c) from
    Memref.write_access_unit_zero_univ (Elt F) cc0_scratch2 (by decide) _ f2 (k0_pay1 (x c))]
  iapply (run_ring X κ c w a b (chk_pos (posOf c)))
  isplitr; · iexact HR
  isplitl [Hs Hroom Hc Hfree Hsl Hf1 H3 HT Ha Hb]
  · iapply (main_pre X c w a b)
    isplitl [Hs Hroom]; · isplitl [Hs] <;> iassumption
    isplitl [Hc]; · iexact Hc
    isplitl [Hfree]; · iexact Hfree
    isplitl [Hsl]; · iexact Hsl
    isplitl [Hf1]; · unfold loadW bufAt; iexact Hf1
    isplitl [H3]; · iexact H3
    isplitl [HT]; · iexact HT
    isplitl [Ha] <;> iassumption
  isplitl [H2]; · subst hX; unfold ownAt; iexact H2
  isplitl [HO]; · unfold owed; iexists _; iexact HO
  iintro ⟨HM, HO⟩
  iapply Hk
  isplitr [HO]
  · unfold MainPost BodyPost bufAt
    rw [← sendOrder_all, ← comeOrder_all, ← doneOrder_all, ← slotOrder_all]
    icases HM with ⟨Z0, Z1, D, Hsl, ⟨H1, Hw, V1⟩, H3, Hown, T, HT, Ha, Hb⟩
    isplitl [Vb Z0 Z1]
    · isplitl [Vb]; · iexact Vb
      isplitl [Z0] <;> iassumption
    isplitl [D]; · iexact D
    isplitl [Hsl]; · iexact Hsl
    isplitl [Hx H0 V0]
    · isplitl [Hx]; · iexact Hx
      isplitl [H0]; · iexists _; iexact H0
      iexact V0
    isplitl [Hw H1 V1]
    · isplitl [Hw]; · iexact Hw
      isplitl [H1]; · iexists _; iexact H1
      iexact V1
    isplitl [Hown]; · iexact Hown
    isplitl [H3]; · iexact H3
    isplitl [T]; · iexact T
    isplitl [Ha]; · iexact Ha
    isplitl [Hb]; · iexact Hb
    isplitl [HT] <;> iassumption
  unfold owed
  iexact HO

end Cert.KernelIdeal.Ring

end
-- ==== Proof.Buffers.lean ====
/- The buffers a device enters with and leaves with, cut as the body holds them: the receive buffers by halves of slots, the
   slabs one by one, and the output by the rows of each device. -/
module

public import proofs.«01_k».proof.Proof.Body

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ UU ℕ

variable (X : AllRows F) (c : Dev nD)

/-! ## The receive buffers -/

theorem buf_cut_right (f : Vec F S16x128x4096 .fp8e5m2) :
    (bufAt c cc0_scratch4 f : sProp 𝕄) = bigSep Finset.univ fun a : Fin 16 × Fin 2 => halfAt c (.inl a.1) a.2 fullShare f :=
  Ring.pointsTo_blocks (ℓ := (Memref.whole cc0_scratch4).view.loc (c : Thread nD τ)) (B := Fin 16 × Fin 2)
    (fun a => (half (.inl a.1) a.2).view.set) half_disj_right half_cover_right f
theorem buf_cut_left (f : Vec F S15x128x4096 .fp8e5m2) :
    (bufAt c cc0_scratch5 f : sProp 𝕄) = bigSep Finset.univ fun a : Fin 15 × Fin 2 => halfAt c (.inr a.1) a.2 fullShare f :=
  Ring.pointsTo_blocks (ℓ := (Memref.whole cc0_scratch5).view.loc (c : Thread nD τ)) (B := Fin 15 × Fin 2)
    (fun a => (half (.inr a.1) a.2).view.set) half_disj_left half_cover_left f

theorem half_any (t : Slot) (j : Fin 2) (f) : halfAt c t j fullShare f ⊢ (iprop(∃ f, halfAt c t j fullShare f) : sProp 𝕄) := by
  iintro H; iexists f; iexact H

/-- Both receive buffers, at any contents, are room for every half. -/
theorem receive_cut : iprop((∃ f, bufAt c cc0_scratch4 f) ∗ ∃ f, bufAt c cc0_scratch5 f)
    ⊢ (bigSep Finset.univ fun x : Item => iprop(∃ f, halfAt c x.1 x.2 fullShare f) : sProp 𝕄) := by
  rw [items_split]
  iintro ⟨⟨%f, H⟩, ⟨%f', H'⟩⟩
  isplitl [H]
  · iapply ((Entails.of_eq (buf_cut_right c f)).trans (bigSep_mono fun a _ => half_any c (.inl a.1) a.2 f)) $$ H
  · iapply ((Entails.of_eq (buf_cut_left c f')).trans (bigSep_mono fun a _ => half_any c (.inr a.1) a.2 f')) $$ H'

theorem slots_right : (bigSep Finset.univ fun h : Fin 16 => (slotAt X c fullShare (.inl h) : sProp 𝕄)) = bufAt c cc0_scratch4 (rightRows X c) := by
  rw [buf_cut_right, bigSep_univ_prod, bigSep_congr fun (h : Fin 16) _ => halves_right X c fullShare h]
  rfl
theorem slots_left : (bigSep Finset.univ fun h : Fin 15 => (slotAt X c fullShare (.inr h) : sProp 𝕄)) = bufAt c cc0_scratch5 (leftRows X c) := by
  rw [buf_cut_left, bigSep_univ_prod, bigSep_congr fun (h : Fin 15) _ => halves_left X c fullShare h]
  rfl

/-- The slots, all come, are both buffers. -/
theorem receive_join : bigSep Finset.univ (slotAt X c fullShare) ⊢ (iprop((∃ f, bufAt c cc0_scratch4 f) ∗ ∃ f, bufAt c cc0_scratch5 f) : sProp 𝕄) := by
  refine BIBase.Entails.trans (Q := iprop((bigSep Finset.univ fun h : Fin 16 => slotAt X c fullShare (.inl h)) ∗ bigSep Finset.univ fun h : Fin 15 => slotAt X c fullShare (.inr h)))
    (Entails.of_eq (bigSep_univ_sum (slotAt X c fullShare))) ?_
  iintro ⟨H, H'⟩
  isplitl [H]
  · iexists (rightRows X c); iapply (Entails.of_eq (slots_right X c)) $$ H
  · iexists (leftRows X c); iapply (Entails.of_eq (slots_left X c)) $$ H'

/-! ## The slabs -/

theorem slabs_list (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem cut_slabs (f : Vec F S4x128x256 .f32) : (bufAt c cc0_scratch6 f : sProp 𝕄) = bigSep Finset.univ fun s : Fin 4 => slabAt c s f :=
  Ring.pointsTo_blocks (ℓ := (Memref.whole cc0_scratch6).view.loc (c : Thread nD τ)) (B := Fin 4)
    (fun s => (slab s).view.set) slab_disj slab_cover f
theorem join_slabs (f₀ : Vec F S4x128x256 .f32) : (bigSep Finset.univ fun s : Fin 4 => iprop(∃ f, slabAt c s f)) ⊢ (iprop(∃ f, bufAt c cc0_scratch6 f) : sProp 𝕄) :=
  Ring.pointsTo_blocks_join_exists (ℓ := (Memref.whole cc0_scratch6).view.loc (c : Thread nD τ)) (B := Fin 4)
    (fun s => (slab s).view.set) slab_disj slab_cover f₀

theorem slab_any (s : Fin 4) (f) : slabAt c s f ⊢ (iprop(∃ f, slabAt c s f) : sProp 𝕄) := by
  iintro H; iexists f; iexact H

/-- The four semaphores of the slabs, at zero. -/
def slabSems : sProp 𝕄 := bigSep Finset.univ fun s : Fin 4 => semVal ((c : Thread nD τ), .dma (slabSem s)) 0

theorem slabs_free (out : Vec F S4096x256 .f32) :
    (slabsFree c out : sProp 𝕄) = iprop((bigSep Finset.univ fun s : Fin 4 => iprop(∃ f, slabAt c s f)) ∗ slabSems c) := by
  unfold slabsFree slabSems
  rw [← bigSep_sep', slabs_list]
  rfl

theorem slabs_cut (out : Vec F S4096x256 .f32) : iprop((∃ f, bufAt c cc0_scratch6 f) ∗ slabSems c) ⊢ (slabsFree c out : sProp 𝕄) := by
  rw [slabs_free]
  iintro ⟨⟨%f, H⟩, HV⟩
  isplitl [H]
  · iapply ((Entails.of_eq (cut_slabs c f)).trans (bigSep_mono fun s _ => slab_any c s f)) $$ H
  · iexact HV

theorem slabs_join (out : Vec F S4096x256 .f32) (f₀ : Vec F S4x128x256 .f32) :
    slabsFree c out ⊢ (iprop((∃ f, bufAt c cc0_scratch6 f) ∗ slabSems c) : sProp 𝕄) := by
  rw [slabs_free]
  iintro ⟨H, HV⟩
  isplitl [H]
  · iapply (join_slabs c f₀) $$ H
  · iexact HV

/-! ## The rows of the output -/

/-- How far along the ring a source's rows began. -/
def shiftOf : Src → Fin 32
  | none => 0
  | some t => shift t
theorem shiftOf_bijective : Function.Bijective shiftOf := by decide +kernel

theorem srcDev_eq : ∀ x : Src, srcDev c x = devAt (posOf c + shiftOf x)
  | none => (show ∀ c, c = devAt (posOf c + 0) by decide) c
  | some _ => rfl

theorem add_sub_fin : ∀ p q : Fin 32, p + q - p = q ∧ p + (q - p) = q := by decide +kernel
/-- A rotation of the positions. -/
def turn (p : Fin 32) : Fin 32 ≃ Fin 32 := ⟨fun q => p + q, fun q => q - p, fun q => (add_sub_fin p q).1, fun q => (add_sub_fin p q).2⟩
/-- Every device is the source of one tile. -/
def sources : Src ≃ Dev nD := (Equiv.ofBijective shiftOf shiftOf_bijective).trans ((turn (posOf c)).trans ring)
theorem sources_eq (x : Src) : sources c x = srcDev c x := (srcDev_eq c x).symm

theorem rows_around (Φ : Dev nD → sProp 𝕄) : bigSep Finset.univ Φ = bigSep Finset.univ fun x : Src => Φ (srcDev c x) := by
  rw [bigSep_univ_equiv (sources c) Φ]
  exact bigSep_congr fun x _ => congrArg Φ (sources_eq c x)

theorem cut_rows (f : Vec F S4096x256 .f32) : (bufAt c main_v3 f : sProp 𝕄) = bigSep Finset.univ fun d : Dev nD => rowsAt c d f :=
  Ring.pointsTo_blocks (ℓ := (Memref.whole main_v3).view.loc (c : Thread nD τ)) (B := Dev nD)
    (fun d => (rowsOf (rowOf d)).view.set) rows_disj rows_cover f

theorem rows_any (d : Dev nD) (f) : rowsAt c d f ⊢ (iprop(∃ f, rowsAt c d f) : sProp 𝕄) := by
  iintro H; iexists f; iexact H

theorem rows_cut (f : Vec F S4096x256 .f32) : bufAt c main_v3 f ⊢ (bigSep Finset.univ (Free c) : sProp 𝕄) := by
  rw [cut_rows, rows_around c]
  exact bigSep_mono fun x _ => rows_any c (srcDev c x) f

theorem rows_join (out : Vec F S4096x256 .f32) : bigSep Finset.univ (Out c out) ⊢ (bufAt c main_v3 out : sProp 𝕄) := by
  rw [cut_rows, rows_around c]

end Cert.KernelIdeal.Ring

end
-- ==== Proof.Cells.lean ====
/- What the launch deals: every semaphore of the exchange, the right to pay each of its duties handed to the device that pays
   it, and to each device the credit of what the others owe it. -/
module

public import proofs.«01_k».proof.Proof.Buffers

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ UU ℕ

variable (X : AllRows F) (κ : GSem nD τ sig → ℕ) (c : Dev nD)

theorem split_sum {A B : Type} [Fintype A] [Fintype B] (Φ : A ⊕ B → sProp 𝕄) :
    bigSep Finset.univ Φ = iprop((bigSep Finset.univ fun a => Φ (.inl a)) ∗ bigSep Finset.univ fun b => Φ (.inr b)) := bigSep_univ_sum Φ

/-! ## The cells and the tokens -/

/-- The semaphore of a half: of its copy sent, or of its copy come. -/
def semOf : Item ⊕ Item → SemLoc sig
  | .inl x => .dma (sentSem x.1 x.2)
  | .inr x => .dma (cameSem x.1 x.2)

theorem cellsOf_eq : ∀ x : Item ⊕ Item, cellsOf c x = ((c : Thread nD τ), semOf x)
  | .inl _ => rfl
  | .inr _ => rfl

/-- The role of a half's semaphore. -/
def roleAt : Item ⊕ Item → Role
  | .inl x => .sent x.1 x.2
  | .inr x => .came x.1 x.2
theorem role_semOf : ∀ x, roleOf (semOf x) = roleAt x
  | .inl x => role_sent x.1 x.2
  | .inr x => role_came x.1 x.2
theorem roleAt_inj : Function.Injective roleAt
  | .inl (_, _), .inl (_, _), h => by cases h; rfl
  | .inr (_, _), .inr (_, _), h => by cases h; rfl
  | .inl _, .inr _, h => by cases h
  | .inr _, .inl _, h => by cases h
theorem semOf_inj : Function.Injective semOf := fun x y h => roleAt_inj (by rw [← role_semOf, ← role_semOf, h])
theorem semOf_ne_bar (x : Item ⊕ Item) : semOf x ≠ .reg barSem := fun h => by
  have h' := (role_semOf x).symm.trans (congrArg roleOf h)
  cases x <;> cases h'

def barEmb : Dev nD ↪ GSem nD τ sig := ⟨fun c => barCell c, fun _ _ h => congrArg (fun g : GSem nD τ sig => g.1.1) h⟩
def halfEmb : Dev nD × (Item ⊕ Item) ↪ GSem nD τ sig :=
  ⟨fun a => cellsOf a.1 a.2, fun a b h => by
    have h : cellsOf a.1 a.2 = cellsOf b.1 b.2 := h
    rw [cellsOf_eq, cellsOf_eq] at h
    exact Prod.ext (congrArg (fun g : GSem nD τ sig => g.1.1) h) (semOf_inj (congrArg Prod.snd h))⟩

/-- The barriers, which hold their counters from the launch, and the cells of the halves, which a device opens when its
    kernel begins. -/
abbrev barCells : Finset (GSem nD τ sig) := Finset.univ.map barEmb
abbrev halfCells : Finset (GSem nD τ sig) := Finset.univ.map halfEmb

theorem cells_disjoint : Disjoint (barCells : Finset (GSem nD τ sig)) halfCells := by
  rw [Finset.disjoint_left]
  rintro g h₁ h₂
  obtain ⟨d, -, rfl⟩ := Finset.mem_map.mp h₁
  obtain ⟨a, -, h⟩ := Finset.mem_map.mp h₂
  have h : cellsOf a.1 a.2 = barCell d := h
  rw [cellsOf_eq] at h
  exact semOf_ne_bar a.2 (congrArg Prod.snd h)

/-- The duties of a device's cells: two of its barrier, one of every half. -/
abbrev Duty : Type := Bool ⊕ (Item ⊕ Item)
def dutySem : Duty → SemLoc sig × Bool
  | .inl b => (.reg barSem, b)
  | .inr x => (semOf x, false)
theorem dutySem_inj : Function.Injective dutySem
  | .inl _, .inl _, h => congrArg Sum.inl (congrArg Prod.snd h)
  | .inr _, .inr _, h => congrArg Sum.inr (semOf_inj (congrArg Prod.fst h))
  | .inl _, .inr x, h => absurd (congrArg Prod.fst h).symm (semOf_ne_bar x)
  | .inr x, .inl _, h => absurd (congrArg Prod.fst h) (semOf_ne_bar x)
def dutyEmb : Dev nD × Duty ↪ GSem nD τ sig × ℕ × Bool :=
  ⟨fun a => (((a.1 : Thread nD τ), (dutySem a.2).1), 0, (dutySem a.2).2), fun _ _ h =>
    Prod.ext (congrArg (fun t : GSem nD τ sig × ℕ × Bool => t.1.1.1) h)
      (dutySem_inj (Prod.ext (congrArg (fun t : GSem nD τ sig × ℕ × Bool => t.1.2) h) (congrArg (fun t : GSem nD τ sig × ℕ × Bool => t.2.2) h)))⟩
abbrev tokens : Finset (GSem nD τ sig × ℕ × Bool) := Finset.univ.map dutyEmb

/-! ## What each device holds when its kernel begins -/

/-- A half's two cells, still to be opened, with what is paid and what is credited there. -/
def Dormant (x : Item) : sProp 𝕄 :=
  iprop((openTok ER (sentCell c x.1 x.2) ∗ dutyTok ER (sentCell c x.1 x.2) 0 false) ∗ dutyTok ER (cameCell (onto c x.1) x.1 x.2) 0 false
    ∗ openTok ER (cameCell c x.1 x.2) ∗ cred (tallyAt (cameCell c x.1 x.2) () N))

/-- The half's cells opened. -/
def Opened (x : Item) : sProp 𝕄 := iprop(SendTok c x ∗ CameIt c x ∗ reached ER (cameCell c x.1 x.2) 0)

theorem open_half (x : Item) : iprop(rules X κ ∗ Dormant c x ∗ sentZero c x ∗ cameZero c x) ⊢ (|={Set.univ}=> Opened c x : sProp 𝕄) := by
  unfold Dormant Opened SendTok CameIt
  iintro ⟨#HR, ⟨⟨Ho, Ht⟩, Ht', Ho', Hc⟩, V, V'⟩
  imod (Rounds.cell_open ER (sched X) (g := sentCell c x.1 x.2) (Set.mem_univ (κ (sentCell c x.1 x.2)))) $$ [Ho V] with ⟨Ha, #Hr⟩
  · isplitr; · iapply (rules_sent X κ c x.1 x.2) $$ HR
    isplitl [Ho] <;> iassumption
  imod (Rounds.cell_open ER (sched X) (g := cameCell c x.1 x.2) (Set.mem_univ (κ (cameCell c x.1 x.2)))) $$ [Ho' V'] with ⟨Ha', #Hr'⟩
  · isplitr; · iapply (rules_came X κ c x.1 x.2) $$ HR
    isplitl [Ho'] <;> iassumption
  imodintro
  isplitl [Ha Ht Ht']
  · isplitl [Ha]; · iexact Ha
    isplitl [Ht]; · iexact Ht
    isplitr; · iexact Hr
    iexact Ht'
  isplitl [Ha' Hc]
  · isplitl [Ha'] <;> iassumption
  iexact Hr'

theorem open_halves : iprop(rules X κ ∗ bigSep Finset.univ (Dormant c) ∗ bigSep Finset.univ (sentZero c) ∗ bigSep Finset.univ (cameZero c))
    ⊢ (|={Set.univ}=> bigSep Finset.univ (Opened c) : sProp 𝕄) := by
  rw [← bigSep_sep', ← bigSep_sep']
  exact (bigSep_with_persistent (R := rules X κ) (Φ := fun x => iprop(Dormant c x ∗ sentZero c x ∗ cameZero c x))
    fun x _ => open_half X κ c x).trans (bigSep_fupd _ _)

/-! ## The tokens go round -/

/-- Every token of a device's own cells. -/
def ownToks : sProp 𝕄 :=
  iprop((dutyTok ER (barCell c) 0 false ∗ dutyTok ER (barCell c) 0 true)
    ∗ (bigSep Finset.univ fun x : Item => dutyTok ER (sentCell c x.1 x.2) 0 false) ∗ bigSep Finset.univ fun x : Item => dutyTok ER (cameCell c x.1 x.2) 0 false)
/-- The tokens of the duties a device pays. -/
def payToks : sProp 𝕄 :=
  iprop((dutyTok ER (barCell (lft c)) 0 false ∗ dutyTok ER (barCell (rgt c)) 0 true)
    ∗ (bigSep Finset.univ fun x : Item => dutyTok ER (sentCell c x.1 x.2) 0 false) ∗ bigSep Finset.univ fun x : Item => dutyTok ER (cameCell (onto c x.1) x.1 x.2) 0 false)

theorem list_bool (Φ : Bool → sProp 𝕄) : bigSep Finset.univ Φ = iprop(Φ false ∗ Φ true) :=
  bigSep_univ_eq_bigSepL [false, true] (by decide) (by decide) Φ

theorem tokens_eq : bigSep tokens (fun x => (dutyTok ER x.1 x.2.1 x.2.2 : sProp 𝕄)) = bigSep Finset.univ ownToks := by
  unfold tokens
  rw [bigSep_map, bigSep_univ_prod]
  refine bigSep_congr fun d _ => ?_
  rw [split_sum, split_sum, list_bool]
  rfl

/-- Every half's copy, from its sender to its receiver. -/
def stepAll : Dev nD × Item ≃ Dev nD × Item :=
  ⟨fun a => (onto a.1 a.2.1, a.2), fun a => (from' a.1 a.2.1, a.2), fun a => Prod.ext (from_onto a.1 a.2.1) rfl, fun a => Prod.ext (onto_from a.1 a.2.1) rfl⟩

theorem came_around : (bigSep Finset.univ fun c : Dev nD => bigSep Finset.univ fun x : Item => (dutyTok ER (cameCell c x.1 x.2) 0 false : sProp 𝕄))
    = bigSep Finset.univ fun c : Dev nD => bigSep Finset.univ fun x : Item => dutyTok ER (cameCell (onto c x.1) x.1 x.2) 0 false := by
  rw [← bigSep_univ_prod fun a : Dev nD × Item => (dutyTok ER (cameCell a.1 a.2.1 a.2.2) 0 false : sProp 𝕄),
    ← bigSep_univ_prod fun a : Dev nD × Item => (dutyTok ER (cameCell (onto a.1 a.2.1) a.2.1 a.2.2) 0 false : sProp 𝕄)]
  exact bigSep_univ_equiv stepAll fun a : Dev nD × Item => (dutyTok ER (cameCell a.1 a.2.1 a.2.2) 0 false : sProp 𝕄)

theorem tokens_around : bigSep Finset.univ ownToks = (bigSep Finset.univ payToks : sProp 𝕄) := by
  unfold ownToks payToks
  rw [bigSep_sep', bigSep_sep', bigSep_sep', bigSep_sep', bigSep_sep', bigSep_sep', came_around,
    bigSep_univ_equiv (step (.inr 0)) (fun c : Dev nD => (dutyTok ER (barCell c) 0 false : sProp 𝕄)),
    bigSep_univ_equiv (step (.inl 0)) (fun c : Dev nD => (dutyTok ER (barCell c) 0 true : sProp 𝕄))]
  rfl

/-! ## The credits -/

theorem came_eq_iff {a b : Dev nD} {x y : Item} : cameCell a x.1 x.2 = cameCell b y.1 y.2 ↔ a = b ∧ x = y :=
  ⟨fun h => ⟨congrArg (fun g : GSem nD τ sig => g.1.1) h, Sum.inr_injective (semOf_inj (congrArg Prod.snd h : semOf (.inr x) = semOf (.inr y)))⟩,
    fun h => by rw [h.1, h.2]⟩
theorem came_ne_bar (a b : Dev nD) (x : Item) : cameCell a x.1 x.2 ≠ barCell b := fun h => semOf_ne_bar (.inr x) (congrArg Prod.snd h)
theorem bar_eq_iff {a b : Dev nD} : barCell a = barCell b ↔ a = b :=
  ⟨fun h => congrArg (fun g : GSem nD τ sig => g.1.1) h, fun h => by rw [h]⟩

theorem onto_iff (t : Slot) (d : Dev nD) : c = onto d t ↔ d = from' c t :=
  ⟨fun h => by rw [h, from_onto], fun h => by rw [h, onto_from]⟩

/-- What a device owing a list of halves owes at a half's cell: nothing unless the half is listed, -/
theorem owing_other (d : Dev nD) (x : Item) : ∀ l : List Item, x ∉ l → owing d l (cameCell c x.1 x.2) () = 0
  | [], _ => rfl
  | y :: l, hl => by
    unfold owing
    rw [Pi.add_apply, Finsupp.add_apply, owing_other d x l fun h => hl (List.mem_cons_of_mem _ h), tallyAt_apply,
      if_neg fun h => hl (by rw [(came_eq_iff.mp h.1).2]; exact List.mem_cons_self)]
/-- and a listed half's copy; -/
theorem owing_came (d : Dev nD) (x : Item) : ∀ l : List Item, l.Nodup → x ∈ l → owing d l (cameCell c x.1 x.2) () = if d = from' c x.1 then N else 0
  | [], _, h => absurd h List.not_mem_nil
  | y :: l, hl, hx => by
    unfold owing
    rw [Pi.add_apply, Finsupp.add_apply, tallyAt_apply]
    by_cases hxy : x = y
    · subst hxy
      rw [owing_other c d x l (List.nodup_cons.mp hl).1, Nat.zero_add]
      exact if_congr ⟨fun h => (onto_iff c x.1 d).mp (came_eq_iff.mp h.1).1, fun h => ⟨came_eq_iff.mpr ⟨(onto_iff c x.1 d).mpr h, rfl⟩, rfl⟩⟩ rfl rfl
    · rw [if_neg fun h => hxy (came_eq_iff.mp h.1).2, Nat.add_zero]
      exact owing_came d x l (List.nodup_cons.mp hl).2 ((List.mem_cons.mp hx).resolve_left hxy)
/-- and at a barrier. -/
theorem owing_bar (d : Dev nD) : ∀ l : List Item, owing d l (barCell c) () = 0
  | [] => rfl
  | y :: l => by
    unfold owing
    rw [Pi.add_apply, Finsupp.add_apply, owing_bar d l, tallyAt_ne_cell fun h => came_ne_bar _ _ y h.symm]
    rfl

theorem sendOrder_nodup : sendOrder.Nodup := by decide +kernel
theorem sendOrder_mem (x : Item) : x ∈ sendOrder :=
  List.mem_toFinset.mp (by rw [← show Finset.univ = sendOrder.toFinset by decide +kernel]; exact Finset.mem_univ x)

theorem owed_came (d : Dev nD) (x : Item) : O₀ d (cameCell c x.1 x.2) () = if d = from' c x.1 then N else 0 := by
  unfold O₀
  rw [Pi.add_apply, Finsupp.add_apply, Pi.add_apply, Finsupp.add_apply, tallyAt_ne_cell (came_ne_bar _ _ x), tallyAt_ne_cell (came_ne_bar _ _ x),
    owing_came c d x _ sendOrder_nodup (sendOrder_mem x)]
  rfl

theorem owed_bar (d : Dev nD) : O₀ d (barCell c) () = (if d = lft c then 1 else 0) + (if d = rgt c then 1 else 0) := by
  unfold O₀
  rw [Pi.add_apply, Finsupp.add_apply, Pi.add_apply, Finsupp.add_apply, owing_bar, tallyAt_apply, tallyAt_apply, Nat.zero_add]
  congr 1
  · exact if_congr ⟨fun h => (onto_iff c (.inl 0) d).mp (bar_eq_iff.mp h.1), fun h => ⟨bar_eq_iff.mpr ((onto_iff c (.inl 0) d).mpr h), rfl⟩⟩ rfl rfl
  · exact if_congr ⟨fun h => (onto_iff c (.inr 0) d).mp (bar_eq_iff.mp h.1), fun h => ⟨bar_eq_iff.mpr ((onto_iff c (.inr 0) d).mpr h), rfl⟩⟩ rfl rfl

theorem launch_bar : tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar c d, Finset.sum_add_distrib,
    Finset.sum_ite_eq' Finset.univ (lft c) fun _ => 1, Finset.sum_ite_eq' Finset.univ (rgt c) fun _ => 1, if_pos (Finset.mem_univ _), if_pos (Finset.mem_univ _)]
theorem launch_came (x : Item) :
    tallyOn (cameCell c x.1 x.2) (launchCredit (Pipeline.owing O₀) 0 (cameCell c x.1 x.2)) = (tallyAt (cameCell c x.1 x.2) () N : CellTallies nD τ sig Unit) := by
  unfold tallyAt; refine congrArg _ (Finsupp.ext fun u => ?_); cases u
  rw [Pipeline.launchCredit_owing, Finsupp.single_eq_same, Finset.sum_congr rfl fun d _ => owed_came c d x, Finset.sum_ite_eq' Finset.univ (from' c x.1) fun _ => N,
    if_pos (Finset.mem_univ _)]

def cameEmb : Item ↪ SemLoc sig := ⟨fun x => semOf (.inr x), fun _ _ h => Sum.inr_injective (semOf_inj h)⟩

theorem credits : (Pipeline.launchCred O₀ c : sProp 𝕄)
    ⊢ iprop(cred (tallyAt (barCell c) () 2) ∗ bigSep Finset.univ fun x : Item => cred (tallyAt (cameCell c x.1 x.2) () N)) := by
  unfold Pipeline.launchCred
  rw [bigSep_univ_at _ (SemLoc.reg barSem), launch_bar]
  refine sep_mono_right ?_
  refine BIBase.Entails.trans (bigSep_subset (t := Finset.univ.map cameEmb) ?_) (Entails.of_eq ?_)
  · intro sm h
    obtain ⟨x, -, rfl⟩ := Finset.mem_map.mp h
    exact Finset.mem_erase.mpr ⟨semOf_ne_bar (.inr x), Finset.mem_univ _⟩
  · rw [bigSep_map]
    exact bigSep_congr fun x _ => congrArg cred (launch_came c x)

end Cert.KernelIdeal.Ring

end
-- ==== Proof.Region.lean ====
/- The kernel between the host operations that lay out its operands and the end of the program: what each device brings to
   it, what it leaves, and the launch's share of the exchange's semaphores opened on the way in. -/
module

public import proofs.«01_k».proof.Proof.Cells
public import proofs.«01_k».proof.Proof.Gen.KernelIdeal.Frame

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (c : Dev nD)

/-! ## The contents of the buffers -/

/-- Before the host operations; -/
def V₀ : Valuation τ sig (Elt F) := fun b => m (c, b)
/-- after them; -/
def V₁ : Valuation τ sig (Elt F) := StableHlo.after hostOps0 (V₀ m c)

/-- a device's rows, its columns of the weights, and the two scales. -/
def xOf : Vec F S128x4096 .f32 := V₁ m c main_arg0
def wOf : Vec F S4096x256 .f32 := V₁ m c main_arg1
def sxOf : Vec F S1x1 .f32 := V₁ m c main_v1
def swOf : Vec F S1x1 .f32 := V₁ m c main_v2

/-- Everyone's rows as the exchange moves them. -/
def sentRows : AllRows F := fun d => k0_pay1 (xOf m d)

/-- What a device ends with. -/
def resultOf : Vec F S4096x256 .f32 := result (sentRows m) (wOf m c) (sxOf m c) (swOf m c)

/-- After the kernel. -/
def V₂ : Valuation τ sig (Elt F) := Function.update (V₁ m c) (Proc.devRef .tc main_v3) (resultOf m c)

theorem V₂_out : V₂ m c main_v3 = resultOf m c := Function.update_self _ _ _
theorem V₂_other (b : DevRef τ sig) (h : b ≠ Proc.devRef .tc main_v3) : V₂ m c b = V₁ m c b := Function.update_of_ne h _ _

theorem tab_eq : V₁ m c main_c = (tabOf : Vec F S32 .i32) := by
  unfold V₁ tabOf hostOps0
  rw [StableHlo.after_cons, StableHlo.after_cons, StableHlo.after_cons, StableHlo.after_cons, StableHlo.after_nil]
  refine (StableHlo.reshape_result_ne (r := main_c) main_arg3 main_v2 _ _ _ _ _ (by decide)).trans ?_
  refine (StableHlo.reshape_result_ne (r := main_c) main_arg2 main_v1 _ _ _ _ _ (by decide)).trans ?_
  refine (StableHlo.nullary_result_ne main_c_0 _ _ _ (by decide)).trans ?_
  exact StableHlo.nullary_result main_c _ _ _
theorem pos_eq : V₁ m c main_c_0 = (posTab : Vec F S32 .i32) := by
  unfold V₁ posTab hostOps0
  rw [StableHlo.after_cons, StableHlo.after_cons, StableHlo.after_cons, StableHlo.after_cons, StableHlo.after_nil]
  refine (StableHlo.reshape_result_ne (r := main_c_0) main_arg3 main_v2 _ _ _ _ _ (by decide)).trans ?_
  refine (StableHlo.reshape_result_ne (r := main_c_0) main_arg2 main_v1 _ _ _ _ _ (by decide)).trans ?_
  exact StableHlo.nullary_result main_c_0 _ _ _

/-! ## What the kernel is entered with and left with -/

/-- Beside the windows, at the start. -/
def Before : sProp 𝕄 :=
  iprop(Start c ∗ (bigSep Finset.univ (SendTok c) ∗ bigSep Finset.univ (CameIt c) ∗ bigSep Finset.univ (Room c))
    ∗ bigSep Finset.univ (Free c) ∗ slabsFree c (resultOf m c)
    ∗ (bufAt c main_arg0 (xOf m c) ∗ (∃ f, bufAt c cc0_scratch0 f) ∗ semVal ((c : Thread nD τ), .dma (loadSem 0)) 0)
    ∗ (bufAt c main_arg1 (wOf m c) ∗ (∃ f, bufAt c cc0_scratch1 f) ∗ semVal ((c : Thread nD τ), .dma (loadSem 1)) 0)
    ∗ (∃ f, bufAt c cc0_scratch2 f) ∗ (∃ f, weightsAt c f))
/-- Beside the windows, at the end. -/
def After : sProp 𝕄 :=
  iprop((semVal (barCell c) 0 ∗ bigSep Finset.univ (sentZero c) ∗ bigSep Finset.univ (cameZero c))
    ∗ bigSep Finset.univ (Out c (resultOf m c)) ∗ slabsFree c (resultOf m c)
    ∗ (bufAt c main_arg0 (xOf m c) ∗ (∃ f, bufAt c cc0_scratch0 f) ∗ semVal ((c : Thread nD τ), .dma (loadSem 0)) 0)
    ∗ (bufAt c main_arg1 (wOf m c) ∗ (∃ f, bufAt c cc0_scratch1 f) ∗ semVal ((c : Thread nD τ), .dma (loadSem 1)) 0)
    ∗ ownAt (sentRows m) c fullShare ∗ weightsAt c (k0_pay2 (wOf m c)) ∗ bigSep Finset.univ (slotAt (sentRows m) c fullShare))

/-- The four operands staged. -/
def Windows : sProp 𝕄 :=
  iprop(owns (c : Thread nD τ) mSx fullShare (sxOf m c) ∗ owns (c : Thread nD τ) mSw fullShare (swOf m c) ∗ Tab c ∗ PosTab c)

theorem before_windows : iprop(Before m c ∗ Windows m c) ⊢ BodyPre (sentRows m) c (xOf m c) (wOf m c) (sxOf m c) (swOf m c) := by
  unfold Before Windows BodyPre
  iintro ⟨⟨H1, H2, H3, H4, H5, H6, H7, H8⟩, HW⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact HW

theorem windows_after : BodyPost (sentRows m) c (xOf m c) (wOf m c) (sxOf m c) (swOf m c) ⊢ iprop(After m c ∗ Windows m c) := by
  unfold After Windows BodyPost
  iintro ⟨H1, H2, H3, H4, H5, H6, H7, H8, HW⟩
  isplitr [HW]
  · isplitl [H1]; · iexact H1
    isplitl [H2]; · iexact H2
    isplitl [H3]; · iexact H3
    isplitl [H4]; · iexact H4
    isplitl [H5]; · iexact H5
    isplitl [H6]; · iexact H6
    isplitl [H7] <;> iassumption
  iexact HW

/-! ## The kernel as a region -/

/-- What the region carries: each operand unchanged, the exchange to do before its one point and done after, and the device
    owing its signals and copies before and nothing after. -/
def dat0 : Pipeline.Dat τ (Elt F) Unit ℕ UU ℕ cfg0 c where
  A w := V₁ m c (Proc.devRef .tc (Pipeline.arrRef spec0 w))
  after w _ := match w with
    | 0 => sxOf m c
    | 1 => swOf m c
    | 2 => (tabOf : Vec F S32 .i32)
    | 3 => (posTab : Vec F S32 .i32)
    | ⟨_ + 4, h⟩ => absurd h (Nat.not_lt.2 (Nat.le_add_left _ _))
  Φ t := if t.val = 0 then iprop((∃ κ, rules (sentRows m) κ) ∗ Before m c ∗ ∃ r, prngReg c r) else iprop(After m c ∗ ∃ r, prngReg c r)
  q _ := fullShare
  owed t := if t.val = 0 then O₀ c else 0

abbrev adm : (p : Fin 1) → (pcfgs (F := F) p).Adm := fun p => (cfgs p).toPCfg_adm
def pdats : (p : Fin 1) → (c : Dev nD) → Pipeline.Dat τ (Elt F) Unit ℕ UU ℕ (Pipeline.pin (pcfgs (F := F)) adm p) c
  | 0 => dat0 m

theorem owed_first : (dat0 m c).owed t0_0.castSucc = O₀ c := by
  show (if (t0_0.castSucc : Fin (cfg0.N + 1)).val = 0 then O₀ c else 0) = O₀ c; exact if_pos rfl
theorem owed_last : (pdats m 0 c).owed (Fin.last _) = 0 := by
  show (if (Fin.last cfg0.N).val = 0 then O₀ c else 0) = 0
  rw [Fin.val_last, if_neg (by rw [show cfg0.N = 1 from N_0]; decide)]

/-- A device owing `O` as the region's bookkeeping has it, and back. -/
theorem owesAt_of (t : Fin (cfg0.N + 1)) (O : CellTallies nD τ sig Unit) (h : (dat0 m c).owed t = O) :
    (owed c O : sProp 𝕄) ⊢ (dat0 m c).owesAt () t := by
  unfold Pipeline.Dat.owesAt Pipeline.owesWithin Pipeline.Dat.bound owed
  rw [h, show (dat0 m c).recorded t = Set.univ from rfl]
  iintro ⟨%W, HO⟩
  iexists W
  isplitr; · ipureintro; exact fun _ _ => Or.inl trivial
  iexact HO
theorem of_owesAt (t : Fin (cfg0.N + 1)) (O : CellTallies nD τ sig Unit) (h : (dat0 m c).owed t = O) :
    (dat0 m c).owesAt () t ⊢ (owed c O : sProp 𝕄) := by
  unfold Pipeline.Dat.owesAt Pipeline.owesWithin owed
  rw [h]
  iintro ⟨%W, -, HO⟩
  iexists W
  iexact HO

/-- Each window is its whole operand. -/
theorem before_sx (d) : (dat0 m c).before 0 t0_0 d = sxOf m c := by
  unfold Pipeline.Dat.before; rw [if_pos (fetch0_0 _)]
  funext i
  refine congrArg (V₁ m c main_v1 : S1x1.Idx → F .f32) (funext fun a => Fin.ext ?_)
  show 0 * S1x1.size a + 1 * (i a).val = (i a).val
  omega
theorem before_sw (d) : (dat0 m c).before 1 t0_0 d = swOf m c := by
  unfold Pipeline.Dat.before; rw [if_pos (fetch0_1 _)]
  funext i
  refine congrArg (V₁ m c main_v2 : S1x1.Idx → F .f32) (funext fun a => Fin.ext ?_)
  show 0 * S1x1.size a + 1 * (i a).val = (i a).val
  omega
theorem before_tab (d) : (dat0 m c).before 2 t0_0 d = V₁ m c main_c := by
  unfold Pipeline.Dat.before; rw [if_pos (fetch0_2 _)]
  funext i
  refine congrArg (V₁ m c main_c : S32.Idx → Elt F .i32) (funext fun a => Fin.ext ?_)
  show 0 * S32.size a + 1 * (i a).val = (i a).val
  omega
theorem before_pos (d) : (dat0 m c).before 3 t0_0 d = V₁ m c main_c_0 := by
  unfold Pipeline.Dat.before; rw [if_pos (fetch0_3 _)]
  funext i
  refine congrArg (V₁ m c main_c_0 : S32.Idx → Elt F .i32) (funext fun a => Fin.ext ?_)
  show 0 * S32.size a + 1 * (i a).val = (i a).val
  omega

/-- The kernel's one point, from what the region holds before it to what it holds after. -/
theorem body0 : Pipeline.BodyObligation (dat0 m c) defs₀ 𝒱₀ () Set.univ := fun t => by
  obtain rfl := fin_N0 t
  rw [bigSep_W0, bigSep_W0]
  rw [show (dat0 m c).Φ t0_0.castSucc = iprop((∃ κ, rules (sentRows m) κ) ∗ Before m c ∗ ∃ r, prngReg c r) from rfl,
    show (dat0 m c).Φ t0_0.succ = iprop(After m c ∗ ∃ r, prngReg c r) from rfl]
  iintro ⟨⟨⟨%κ, #HR⟩, HB, Hreg⟩, HO, ⟨%d0, H0⟩, ⟨%d1, H1⟩, ⟨%d2, H2⟩, ⟨%d3, H3⟩⟩
  rw [before_sx m c d0, before_sw m c d1, before_tab m c d2, before_pos m c d3, tab_eq m c, pos_eq m c]
  ihave HO := (of_owesAt m c _ (O₀ c) (owed_first m c)) $$ HO
  iapply (BIBase.Entails.trans (run_body (sentRows m) κ c (xOf m) rfl (wOf m c) (sxOf m c) (swOf m c) _) (Entails.of_eq (congrArg (fun p => run c p _) body_eq.symm)))
  isplitr; · iexact HR
  isplitl [HB H0 H1 H2 H3]
  · iapply (before_windows m c)
    isplitl [HB]; · iexact HB
    unfold Windows
    isplitl [H0]; · iexact H0
    isplitl [H1]; · iexact H1
    isplitl [H2] <;> iassumption
  isplitl [HO]; · iexact HO
  iintro ⟨HP, HO⟩
  ihave HP := (windows_after m c) $$ HP
  icases HP with ⟨HA, HW⟩
  unfold Windows
  icases HW with ⟨H0, H1, H2, H3⟩
  isplitl [HA Hreg]; · isplitl [HA] <;> iassumption
  isplitl [HO]; · iapply (owesAt_of m c t0_0.succ 0 (owed_last m c)) $$ HO
  isplitl [H0]; · iexact H0
  isplitl [H1]; · iexact H1
  isplitl [H2]; · iexact H2
  iexact H3

end Cert.KernelIdeal.Ring

end
-- ==== Proof.Entry.lean ====
/- The kernel among the segments of the program: what a device hands it of the launch's share, how the scratch buffers and
   semaphores are divided on the way in, and put together again on the way out. -/
module

public import proofs.«01_k».proof.Proof.Region
public import Idealize.ShloMosaic.Lib.Pipeline.Regions
public import Idealize.ShloMosaic.Lib.Pipeline.Kit
public import Idealize.ShloMosaic.Lib.Pipeline.RegionTalk

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (c : Dev nD)

/-! ## The kernel's own semaphores -/

/-- Two for its loads, four for its slabs, and those of the halves. -/
abbrev OwnSem : Type := Fin 2 ⊕ Fin 4 ⊕ (Item ⊕ Item)
def ownSem : OwnSem → SemLoc sig
  | .inl s => .dma (loadSem s)
  | .inr (.inl s) => .dma (slabSem s)
  | .inr (.inr x) => semOf x

instance own_decEq : DecidableEq OwnSem := @instDecidableEqSum _ _ inferInstance (@instDecidableEqSum _ _ inferInstance inferInstance)

theorem own_sems : Pipeline.OwnSemFacts spec0 ownSem := by decide +kernel

theorem own_zero : (Pipeline.ownSems0 ownSem c : sProp 𝕄)
    = iprop((semVal ((c : Thread nD τ), .dma (loadSem 0)) 0 ∗ semVal ((c : Thread nD τ), .dma (loadSem 1)) 0) ∗ slabSems c
      ∗ bigSep Finset.univ (sentZero c) ∗ bigSep Finset.univ (cameZero c)) := by
  unfold Pipeline.ownSems0
  rw [split_sum, split_sum, split_sum, bigSep_fin_two]
  rfl

/-! ## The buffers the kernel reads and writes where they lie -/

abbrev touched : Finset (DevRef τ sig) := {Proc.devRef .tc main_arg0, Proc.devRef .tc main_arg1, Proc.devRef .tc main_v3}
abbrev unstaged : Finset (DevRef τ sig) :=
  {Proc.devRef .tc main_arg0, Proc.devRef .tc main_arg1, Proc.devRef .tc main_arg2, Proc.devRef .tc main_arg3, Proc.devRef .tc main_v3}

theorem touched_eq (W : Valuation τ sig (Elt F)) : (StableHlo.held (c : Thread nD τ) touched W : sProp 𝕄)
    = iprop(bufAt c main_arg0 (W main_arg0) ∗ bufAt c main_arg1 (W main_arg1) ∗ bufAt c main_v3 (W main_v3)) := by
  unfold StableHlo.held
  rw [bigSep_eq_bigSepL_of_eq [Proc.devRef .tc main_arg0, Proc.devRef .tc main_arg1, Proc.devRef .tc main_v3] (by decide) (by decide)]
  rfl

theorem untouched (b : DevRef τ sig) (h : b ∈ unstaged \ touched) : V₂ m c b = V₁ m c b :=
  V₂_other m c b fun e => by subst e; revert h; decide

/-! ## On the way in and out -/

/-- What a device has of the exchange when its kernel is entered; -/
def Dealt : sProp 𝕄 := iprop((∃ κ, rules (sentRows m) κ) ∗ Start c ∗ bigSep Finset.univ (Dormant c))
/-- with its semaphores opened; -/
def Ready : sProp 𝕄 :=
  iprop((∃ κ, rules (sentRows m) κ) ∗ Start c ∗ bigSep Finset.univ (Opened c)
    ∗ (semVal ((c : Thread nD τ), .dma (loadSem 0)) 0 ∗ semVal ((c : Thread nD τ), .dma (loadSem 1)) 0) ∗ slabSems c)
/-- and what it has when it leaves. -/
def Settled : sProp 𝕄 := semVal (barCell c) 0

theorem enter_open : iprop(Dealt m c ∗ Pipeline.ownSems0 ownSem c ∗ levAts L lv) ⊢ (|={Set.univ}=> Ready m c : sProp 𝕄) := by
  rw [own_zero]
  unfold Dealt Ready
  iintro ⟨⟨⟨%κ, #HR⟩, Hst, HD⟩, ⟨Hl, Hs, Hz, Hz'⟩, -⟩
  imod (open_halves (sentRows m) κ c) $$ [HD Hz Hz'] with HO
  · isplitr; · iexact HR
    isplitl [HD]; · iexact HD
    isplitl [Hz] <;> iassumption
  imodintro
  isplitr; · iexists κ; iexact HR
  isplitl [Hst]; · iexact Hst
  isplitl [HO]; · iexact HO
  isplitl [Hl] <;> iassumption

theorem opened_split : bigSep Finset.univ (Opened c)
    = (iprop(bigSep Finset.univ (SendTok c) ∗ bigSep Finset.univ (CameIt c) ∗ bigSep Finset.univ fun x : Item => reached ER (cameCell c x.1 x.2) 0) : sProp 𝕄) := by
  rw [← bigSep_sep', ← bigSep_sep']; rfl

theorem rooms : iprop((bigSep Finset.univ fun x : Item => reached ER (cameCell c x.1 x.2) 0) ∗ (∃ f, bufAt c cc0_scratch4 f) ∗ ∃ f, bufAt c cc0_scratch5 f)
    ⊢ (bigSep Finset.univ (Room c) : sProp 𝕄) := by
  refine BIBase.Entails.trans ?_ (Entails.of_eq (bigSep_sep' Finset.univ (fun x : Item => iprop(∃ f, halfAt c x.1 x.2 fullShare f)) fun x : Item => reached ER (cameCell c x.1 x.2) 0).symm)
  iintro ⟨Hr, Hb⟩
  isplitl [Hb]; · iapply (receive_cut c) $$ Hb
  iexact Hr

theorem enter : iprop(Pipeline.scopedRest (Pipeline.pin (pcfgs (F := F)) adm 0).spec c ∗ (∃ r, prngReg c r) ∗ StableHlo.held (c.tc : Thread nD τ) touched (V₁ m c) ∗ Ready m c)
    ⊢ ((pdats m 0 c).Φ 0 : sProp 𝕄) := by
  rw [show (pdats m 0 c).Φ 0 = iprop((∃ κ, rules (sentRows m) κ) ∗ Before m c ∗ ∃ r, prngReg c r) from rfl]
  rw [show (Pipeline.scopedRest (Pipeline.pin (pcfgs (F := F)) adm 0).spec c : sProp 𝕄) = _ from scopedRest0_eq c, touched_eq]
  unfold Ready Before
  rw [opened_split]
  iintro ⟨⟨H0, H1, H2, H3, H4, H5, H6⟩, Hp, ⟨Hx, Hw, Hv⟩, ⟨HR, Hst, ⟨Hs, Hc, Hr⟩, ⟨V0, V1⟩, Hsl⟩⟩
  isplitl [HR]; · iexact HR
  isplitr [Hp]
  · isplitl [Hst]; · iexact Hst
    isplitl [Hs Hc Hr H4 H5]
    · isplitl [Hs]; · iexact Hs
      isplitl [Hc]; · iexact Hc
      iapply (rooms c)
      isplitl [Hr]; · iexact Hr
      isplitl [H4]; · iexact H4
      iexact H5
    isplitl [Hv]; · iapply (rows_cut c (V₁ m c main_v3)) $$ Hv
    isplitl [H6 Hsl]
    · iapply (slabs_cut c (resultOf m c))
      isplitl [H6]; · iexact H6
      iexact Hsl
    isplitl [Hx H0 V0]
    · isplitl [Hx]; · iexact Hx
      isplitl [H0]; · iexact H0
      iexact V0
    isplitl [Hw H1 V1]
    · isplitl [Hw]; · iexact Hw
      isplitl [H1]; · iexact H1
      iexact V1
    isplitl [H2]; · iexact H2
    iexact H3
  iexact Hp

theorem leave : (pdats m 0 c).Φ (Fin.last (Pipeline.pin (pcfgs (F := F)) adm 0).N)
    ⊢ (iprop(Pipeline.scopedRest (Pipeline.pin (pcfgs (F := F)) adm 0).spec c ∗ (∃ r, prngReg c r) ∗ StableHlo.held (c.tc : Thread nD τ) touched (V₂ m c)
      ∗ Pipeline.ownSems0 ownSem c ∗ Settled c) : sProp 𝕄) := by
  rw [show (pdats m 0 c).Φ (Fin.last _) = iprop(After m c ∗ ∃ r, prngReg c r) from rfl, own_zero,
    show (Pipeline.scopedRest (Pipeline.pin (pcfgs (F := F)) adm 0).spec c : sProp 𝕄) = _ from scopedRest0_eq c, touched_eq]
  unfold After Settled
  iintro ⟨⟨⟨Hb, Hz, Hz'⟩, Hout, Hsl, ⟨Hx, H0, V0⟩, ⟨Hw, H1, V1⟩, H2, H3, H45⟩, Hp⟩
  ihave Hsl := (slabs_join c (resultOf m c) (fun _ => resultOf m c (ix2 0 0))) $$ Hsl
  icases Hsl with ⟨H6, Hsl⟩
  ihave H45 := (receive_join (sentRows m) c) $$ H45
  icases H45 with ⟨H4, H5⟩
  ihave Hout := (rows_join c (resultOf m c)) $$ Hout
  isplitl [H0 H1 H2 H3 H4 H5 H6]
  · isplitl [H0]; · iexact H0
    isplitl [H1]; · iexact H1
    isplitl [H2]; · unfold ownAt; iexists (sentRows m c); iexact H2
    isplitl [H3]; · unfold weightsAt; iexists (k0_pay2 (wOf m c)); iexact H3
    isplitl [H4]; · iexact H4
    isplitl [H5]; · iexact H5
    iexact H6
  isplitl [Hp]; · iexact Hp
  isplitl [Hx Hw Hout]
  · rw [V₂_out, V₂_other m c main_arg0 (by decide), V₂_other m c main_arg1 (by decide)]
    isplitl [Hx]; · iexact Hx
    isplitl [Hw]; · iexact Hw
    iexact Hout
  isplitl [V0 V1 Hsl Hz Hz']
  · isplitl [V0 V1]; · isplitl [V0] <;> iassumption
    isplitl [Hsl]; · iexact Hsl
    isplitl [Hz] <;> iassumption
  iexact Hb

/-! ## What it owes stands above nothing it has still to wait for -/

theorem owed_pos {g : GSem nD τ sig} {u : Unit} (h : 0 < O₀ c g u) : ∃ (d : Dev nD) (sm : SemLoc sig), g = ((d : Thread nD τ), sm) ∧ 0 < levelOf (roleOf sm) := by
  unfold O₀ at h
  rw [Pi.add_apply, Finsupp.add_apply, Pi.add_apply, Finsupp.add_apply] at h
  rcases Nat.add_pos_iff_pos_or_pos.mp h with h | h
  · rcases Nat.add_pos_iff_pos_or_pos.mp h with h | h
    · obtain ⟨x, -, rfl⟩ := owing_pos c _ h
      exact ⟨_, _, rfl, by rw [role_came]; show 0 < 2 + hopOf x.1; omega⟩
    · rw [tallyAt_apply] at h
      split at h
      · next hg => exact ⟨_, _, hg.1, Nat.one_pos⟩
      · exact absurd h (Nat.lt_irrefl 0)
  · rw [tallyAt_apply] at h
    split at h
    · next hg => exact ⟨_, _, hg.1, Nat.one_pos⟩
    · exact absurd h (Nat.lt_irrefl 0)

theorem owed_levels (t : Fin ((Pipeline.pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = if t.val = 0 then O₀ c else 0 := rfl
  rw [e] at h
  split at h
  · obtain ⟨d, sm, rfl, hl⟩ := owed_pos c h
    exact ⟨by rw [L_tc]; exact Finset.mem_singleton_self _, hl⟩
  · exact absurd h (Nat.lt_irrefl 0)

theorem staging_low : ∀ w s, levelOf (roleOf (.dma ((spec0 w).sem s))) ≤ 0 := by decide

/-! ## The two segments of the program -/

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

/-- The buffers the program's arguments, operands and result lie in. -/
def bufs : Finset (DevRef τ sig) := (StableHlo.tcRefs τ sig).filter fun b => ¬ b.isScoped

/-- Beside the buffers, up to the kernel. -/
def Beside : sProp 𝕄 := iprop((∃ r, prngReg c r) ∗ Dealt m c ∗ owed c (O₀ c))

theorem host_sub : ∀ op ∈ (hostOps0 : List (HloOp τ sig (Elt F))), op.bufs ⊆ bufs :=
  List.forall_iff_forall_mem.mp (by
    refine ⟨?_, ?_, ?_, ?_⟩
    · show ({Proc.devRef .tc main_c} : Finset (DevRef τ sig)) ⊆ bufs; decide
    · show ({Proc.devRef .tc main_c_0} : Finset (DevRef τ sig)) ⊆ bufs; decide
    · show ({Proc.devRef .tc main_arg2, Proc.devRef .tc main_v1} : Finset (DevRef τ sig)) ⊆ bufs; decide
    · show ({Proc.devRef .tc main_arg3, Proc.devRef .tc main_v2} : Finset (DevRef τ sig)) ⊆ bufs; decide)

def hostSeg : ℍ := Pipeline.HostSeg.ofOps _ _ _ _ _ bufs hostOps0 host_sub (List.forall_iff_forall_mem.mp hostOps0_fresh) (V₀ m) (Beside m)

/-- The kernel's operands stay as the host operations left them. -/
theorem operand_in (w : Fin 4) : (cfg0.win w).isOut = false := by revert w; decide
theorem operand_kept (w : Fin 4) (n : ℕ) : (dat0 m c).arrAt w n = V₁ m c (Proc.devRef .tc (Pipeline.arrRef spec0 w)) :=
  (dat0 m c).arrAt_in w (operand_in w) n
theorem operand_ne : ∀ w : Fin 4, (Proc.devRef .tc (Pipeline.arrRef spec0 w) : DevRef τ sig) ≠ Proc.devRef .tc main_v3 := by decide

set_option backward.isDefEq.respectTransparency.types false in
def kernelSeg : ℝ𝕊 0 :=
  Pipeline.RegionSeg.ofTalk (pcfgs (F := F)) adm (pdats m) () defs₀ 𝒱₀ L lv 0 ownSem own_sems
    touched unstaged (by decide) launch0.toP rfl (fun c => (body0 m c).loose)
    (fun _ => 0) O₀ (fun c => (owed_first m c).trans (zero_add _).symm) (owed_last m) (fun _ => rfl) (fun c => (dat0 m c).share_full fun _ => rfl)
    (V₁ m) (V₂ m) (untouched m)
    (Dealt m) Settled (Ready m) Settled (enter_open m) (enter m) (leave m)
    (fun c => by iintro H; imodintro; iexact H)
    (fun _ => 0)
    ⟨fun d _ _ => by rw [L_tc d]; exact Finset.mem_singleton_self _, fun _ w s => staging_low w s, fun c t g i h => owed_levels m c t g i h⟩
    (fun _ => iprop(emp))
    (fun c w => operand_kept m c w 0)
    (fun c w => (operand_kept m c w _).trans (V₂_other m c _ (operand_ne w)).symm)

theorem bufs_split (W : Valuation τ sig (Elt F)) : (StableHlo.held (c : Thread nD τ) bufs W : sProp 𝕄)
    = iprop(StableHlo.held (c : Thread nD τ) (Pipeline.arrRefs (τ := τ) (pcfgs (F := F) 0).spec) W ∗ StableHlo.held (c : Thread nD τ) unstaged W) := by
  unfold StableHlo.held
  rw [show bufs = Pipeline.arrRefs (τ := τ) spec0 ∪ unstaged from by decide]
  have hd : Disjoint (Pipeline.arrRefs (τ := τ) spec0) unstaged := by decide
  exact BI.bigSep_union hd

theorem kernel_pre : iprop(StableHlo.held (c : Thread nD τ) bufs (V₁ m c) ∗ Beside m c) ⊢ (kernelSeg m).pre c := by
  show _ ⊢ iprop(StableHlo.held (c.tc : Thread nD τ) (Pipeline.arrRefs (τ := τ) (pcfgs (F := F) 0).spec) (V₁ m c) ∗ (∃ r, prngReg c r)
    ∗ (StableHlo.held (c.tc : Thread nD τ) unstaged (V₁ m c) ∗ emp) ∗ Dealt m c ∗ ∃ Wd, owes (c : Thread nD τ) (0 + O₀ c) Wd)
  rw [bufs_split, zero_add]
  unfold Beside owed
  iintro ⟨⟨Ha, Hu⟩, Hp, HD, HO⟩
  isplitl [Ha]; · iexact Ha
  isplitl [Hp]; · iexact Hp
  isplitl [Hu]
  · isplitl [Hu]; · iexact Hu
    iempintro
  isplitl [HD] <;> iassumption

theorem kernel_post : (kernelSeg m).post c ⊢ iprop(StableHlo.held (c : Thread nD τ) bufs (V₂ m c) ∗ (Settled c ∗ owed c 0)) := by
  show iprop(StableHlo.held (c.tc : Thread nD τ) (Pipeline.arrRefs (τ := τ) (pcfgs (F := F) 0).spec) (V₂ m c) ∗ (∃ r, prngReg c r)
    ∗ (StableHlo.held (c.tc : Thread nD τ) unstaged (V₂ m c) ∗ emp) ∗ Settled c ∗ ∃ Wd, owes (c : Thread nD τ) (0 : CellTallies nD τ sig Unit) Wd) ⊢ _
  rw [bufs_split]
  unfold owed
  iintro ⟨Ha, -, ⟨Hu, -⟩, Hb, HO⟩
  isplitl [Ha Hu]; · isplitl [Ha] <;> iassumption
  isplitl [Hb] <;> iassumption

/-- The program as its two segments. -/
def segs : List (Pipeline.Seg (pcfgs (F := F)) adm (pdats m) () defs₀ 𝒱₀ L lv) := [.host (hostSeg m), .region (kernelSeg m)]

theorem main_eq : Cert.KernelIdeal.main (F := F) c = Pipeline.Seg.run (segs m) := main_segs adm (pdats m) () 𝒱₀ L lv (hostSeg m) (kernelSeg m) rfl c

end Cert.KernelIdeal.Ring

end
-- ==== Proof.Run.lean ====
/- The whole program, from the launch to the end: every run terminates, leaves the arguments as they were and every semaphore
   at zero, and each device's result is its columns of the product. -/
module

public import proofs.«01_k».proof.Proof.Entry

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## What the launch gives -/

/-- The exchange's part of the launch, -/
def launchX : UB := launchOf barCells halfCells tokens
/-- and all of it. -/
def u₀ : UU :=
  (initOf (Pipeline.cells (Pipeline.pin (pcfgs (F := F)) adm) cellOf_inj) (Pipeline.launchToks (Pipeline.pin (pcfgs (F := F)) adm) cellOf_inj), (launchX, 1))

/-- The exchange's part is dealt from one place: device 0 holds it until then. -/
def Held₀ (d : Dev nD) : sProp 𝕄 := if d = 0 then BI.own (ER launchX) else iprop(emp)
theorem held₀_all : bigSep Finset.univ (Held₀ (F := F)) = BI.own (ER launchX) := by
  rw [bigSep_univ_at _ (0 : Dev nD), bigSep_congr (s := Finset.univ.erase (0 : Dev nD)) (Ψ := fun _ => (BI.emp : sProp 𝕄))
    fun d hd => by unfold Held₀; rw [if_neg (Finset.ne_of_mem_erase hd)]; rfl, BI.bigSep_emp_const]
  unfold Held₀
  rw [if_pos rfl]
  exact BI.equiv_iff.mp sep_emp

theorem launch_split : (ownU (u₀ (F := F)) : sProp 𝕄)
    ⊢ iprop(BI.own (EP (initOf (Pipeline.cells (Pipeline.pin (pcfgs (F := F)) adm) cellOf_inj) (Pipeline.launchToks (Pipeline.pin (pcfgs (F := F)) adm) cellOf_inj)))
      ∗ BI.own (ER launchX)) := by
  unfold u₀
  iintro Hu
  ihave H := (ownU_pair _ _) $$ Hu
  icases H with ⟨HP, HX⟩
  isplitl [HP]; · iexact HP
  ihave H := (own_pair_emb _ _ _) $$ HX
  icases H with ⟨HX, -⟩
  iexact HX

/-- The records open to all: the semaphores' invariants and levels, and every barrier's round begun. -/
def records (κ : GSem nD τ sig → ℕ) : sProp 𝕄 :=
  iprop(rules (sentRows m) κ ∗ bigSep Finset.univ fun d : Dev nD => reached ER (barCell d) 0)
instance records_persistent (κ : GSem nD τ sig → ℕ) : BI.Persistent (records m κ) := by unfold records; infer_instance

theorem cells_all (Φ : GSem nD τ sig → sProp 𝕄) : bigSep (barCells ∪ halfCells) Φ
    = bigSep Finset.univ fun d : Dev nD => iprop(Φ (barCell d) ∗ bigSep Finset.univ fun x : Item ⊕ Item => Φ (cellsOf d x)) := by
  rw [bigSep_sep', BI.bigSep_union cells_disjoint, bigSep_map, bigSep_map, bigSep_univ_prod]
  rfl

theorem records_of (κ : GSem nD τ sig → ℕ) :
    iprop(bigSep (barCells ∪ halfCells) (fun g => cellInv ER (sched (sentRows m)) (κ g) g) ∗ bigSep barCells (fun g => reached ER g 0) ∗ levAts L lv)
      ⊢ (records m κ : sProp 𝕄) := by
  unfold records rules
  rw [cells_all, bigSep_map]
  iintro ⟨HI, Hr, Hl⟩
  isplitr [Hr]
  · isplitl [HI] <;> iassumption
  iexact Hr

/-- What one device alone holds of the exchange, -/
def alone : sProp 𝕄 := iprop(atPos ER (barCell c) 0 ∅ 0 ∗ (bigSep Finset.univ fun x : Item ⊕ Item => openTok ER (cellsOf c x)) ∗ payToks c)
/-- and of everything else. -/
def bundle : sProp 𝕄 := iprop(StableHlo.held (c : Thread nD τ) bufs (V₀ m c) ∗ Pipeline.launchCred O₀ c ∗ owes (c : Thread nD τ) (O₀ c) ∅ ∗ ∃ r, prngReg c r)

abbrev T₀ : sProp 𝕄 := iprop(StableHlo.held (c : Thread nD τ) bufs (V₀ m c) ∗ Beside m c)
abbrev Tₙ : sProp 𝕄 := iprop(StableHlo.held (c : Thread nD τ) bufs (V₂ m c) ∗ Settled c)

theorem dormant_split : bigSep Finset.univ (Dormant c)
    = (iprop(((bigSep Finset.univ fun x : Item => openTok ER (sentCell c x.1 x.2)) ∗ bigSep Finset.univ fun x : Item => dutyTok ER (sentCell c x.1 x.2) 0 false)
      ∗ (bigSep Finset.univ fun x : Item => dutyTok ER (cameCell (onto c x.1) x.1 x.2) 0 false)
      ∗ (bigSep Finset.univ fun x : Item => openTok ER (cameCell c x.1 x.2)) ∗ bigSep Finset.univ fun x : Item => cred (tallyAt (cameCell c x.1 x.2) () N)) : sProp 𝕄) := by
  rw [← bigSep_sep', ← bigSep_sep', ← bigSep_sep', ← bigSep_sep']; rfl

theorem reached_at (d : Dev nD) : (bigSep Finset.univ fun d : Dev nD => reached ER (barCell d) 0) ⊢ (reached ER (barCell d) 0 : sProp 𝕄) :=
  bigSep_elim (Finset.mem_univ d)

theorem dealt (κ : GSem nD τ sig → ℕ) : iprop(records m κ ∗ (alone c ∗ bundle m c)) ⊢ T₀ m c := by
  unfold records alone bundle T₀ Beside Dealt Start payToks owed
  rw [split_sum, dormant_split]
  iintro ⟨⟨#HR, #Hr⟩, ⟨Ha, ⟨Ho, Ho'⟩, ⟨Hl, Hg⟩, Hs, Ht⟩, Hh, Hc, HO, Hp⟩
  ihave Hc := (credits c) $$ Hc
  icases Hc with ⟨Hb, Hc⟩
  isplitl [Hh]; · iexact Hh
  isplitl [Hp]; · iexact Hp
  isplitr [HO]
  · isplitr; · iexists κ; iexact HR
    isplitl [Ha Hb Hl Hg]
    · isplitl [Ha Hb]; · isplitl [Ha] <;> iassumption
      isplitl [Hl]
      · isplitl [Hl]; · iexact Hl
        iapply (reached_at (lft c)) $$ Hr
      isplitl [Hg]; · iexact Hg
      iapply (reached_at (rgt c)) $$ Hr
    isplitl [Ho Hs]
    · isplitl [Ho]; · iexact Ho
      iexact Hs
    isplitl [Ht]; · iexact Ht
    isplitl [Ho']; · iexact Ho'
    iexact Hc
  iexists ∅; iexact HO

theorem unscoped_bufs (W : Valuation τ sig (Elt F)) : (unscopedBufs c (fun b => W b) : sProp 𝕄) = StableHlo.held (c : Thread nD τ) bufs W := by
  unfold unscopedBufs StableHlo.held bufs StableHlo.tcRefs
  rw [Finset.filter_map, BI.bigSep_map]
  rfl

theorem only_barrier : ∀ sm : SemLoc sig, sm.isScoped .tc = false → sm = .reg barSem := by decide +kernel
theorem unscoped_sems : (unscopedSems0 c : sProp 𝕄) = semVal (barCell c) 0 := by
  unfold unscopedSems0
  rw [show (Finset.univ.filter fun sm : SemLoc sig => ¬ sm.isScoped .tc) = {SemLoc.reg barSem} from by decide +kernel, BI.bigSep_singleton]

/-- What a device starts with, in these terms. -/
theorem given : iprop(unscopedBufs c (fun b => m ((c : Thread nD τ).loc b)) ∗ unscopedSems0 c
    ∗ owes (c : Thread nD τ) (O₀ c) ∅ ∗ Pipeline.launchCred O₀ c ∗ prngReg c (ρ c) ∗ Held₀ c)
      ⊢ (iprop(bundle m c ∗ (semVal (barCell c) 0 ∗ Held₀ c)) : sProp 𝕄) := by
  rw [show unscopedBufs c (fun b => m ((c : Thread nD τ).loc b)) = StableHlo.held (c : Thread nD τ) bufs (V₀ m c) from unscoped_bufs c (V₀ m c), unscoped_sems]
  unfold bundle
  iintro ⟨Hh, Hv, HO, Hc, Hp, HG⟩
  isplitl [Hh Hc HO Hp]
  · isplitl [Hh]; · iexact Hh
    isplitl [Hc]; · iexact Hc
    isplitl [HO]; · iexact HO
    iexists (ρ c); iexact Hp
  isplitl [Hv] <;> iassumption

theorem alone_all : iprop((bigSep barCells fun g => atPos ER g 0 ∅ 0) ∗ (bigSep halfCells fun g => openTok ER g)
    ∗ bigSep tokens fun x => dutyTok ER x.1 x.2.1 x.2.2) ⊢ (bigSep Finset.univ (alone (F := F))) := by
  rw [tokens_eq, tokens_around, bigSep_map, bigSep_map, bigSep_univ_prod]
  refine BIBase.Entails.trans ?_ (Entails.of_eq (bigSep_sep' Finset.univ (fun d : Dev nD => (atPos ER (barCell d) 0 ∅ 0 : sProp 𝕄))
    fun d => iprop((bigSep Finset.univ fun x : Item ⊕ Item => openTok ER (cellsOf d x)) ∗ payToks d)).symm)
  rw [bigSep_sep']
  exact Entails.rfl

theorem counters_all : bigSep Finset.univ (fun d : Dev nD => (semVal (barCell d) 0 : sProp 𝕄)) ⊢ bigSep barCells fun g => (semVal g 0 : sProp 𝕄) :=
  Entails.of_eq (bigSep_map (s := Finset.univ) barEmb (Φ := fun g : GSem nD τ sig => (semVal g 0 : sProp 𝕄))).symm

/-- The launch: the semaphores' invariants set up and every device dealt its own. -/
theorem init : iprop((bigSep Finset.univ fun c : Dev nD => iprop(unscopedBufs c (fun b => m ((c : Thread nD τ).loc b)) ∗ unscopedSems0 c
    ∗ owes (c : Thread nD τ) (O₀ c) ∅ ∗ Pipeline.launchCred O₀ c ∗ prngReg c (ρ c) ∗ Held₀ c)) ∗ levAts L lv)
      ⊢ (|={Set.univ}=> bigSep Finset.univ (T₀ m) : sProp 𝕄) := by
  refine BIBase.Entails.trans (Q := iprop((bigSep Finset.univ fun c : Dev nD => iprop(bundle m c ∗ (semVal (barCell c) 0 ∗ Held₀ c))) ∗ levAts L lv))
    (sep_mono_left (bigSep_mono fun c _ => given m ρ c)) ?_
  rw [bigSep_sep', bigSep_sep', held₀_all]
  iintro ⟨⟨HB, Hv, Hu⟩, #Hl⟩
  imod (Rounds.fund_launch ER (sched (sentRows m)) cells_disjoint (fun g _ h => h) tokens) $$ [Hv Hu] with ⟨%κ, -, HI, Hr, Ha, Ho, Ht⟩
  · isplitl [Hv]
    · iapply counters_all $$ Hv
    · iexact Hu
  imodintro
  iapply (bigSep_with_persistent (R := records m κ) (Φ := fun c => iprop(alone c ∗ bundle m c)) fun c _ => dealt m c κ)
  isplitl [HI Hr]
  · iapply (records_of m κ)
    isplitl [HI]; · iexact HI
    isplitl [Hr]; · iexact Hr
    iexact Hl
  iapply (Entails.of_eq (bigSep_sep' Finset.univ (alone (F := F)) (bundle m)).symm)
  isplitr [HB]
  · iapply alone_all
    isplitl [Ha]; · iexact Ha
    isplitl [Ho] <;> iassumption
  iexact HB

/-! ## The run -/

theorem V₂_arg0 : V₂ m c main_arg0 = m ((c : Thread nD τ).loc main_arg0) := (V₂_other m c _ (by decide)).trans (V_main_arg0 m c)
theorem V₂_arg1 : V₂ m c main_arg1 = m ((c : Thread nD τ).loc main_arg1) := (V₂_other m c _ (by decide)).trans (V_main_arg1 m c)
theorem V₂_arg2 : V₂ m c main_arg2 = m ((c : Thread nD τ).loc main_arg2) := (V₂_other m c _ (by decide)).trans (V_main_arg2 m c)
theorem V₂_arg3 : V₂ m c main_arg3 = m ((c : Thread nD τ).loc main_arg3) := (V₂_other m c _ (by decide)).trans (V_main_arg3 m c)

theorem unstaged_eq (W : Valuation τ sig (Elt F)) : (StableHlo.held (c : Thread nD τ) unstaged W : sProp 𝕄)
    = iprop(bufAt c main_arg0 (W main_arg0) ∗ bufAt c main_arg1 (W main_arg1) ∗ bufAt c main_arg2 (W main_arg2) ∗ bufAt c main_arg3 (W main_arg3)
      ∗ bufAt c main_v3 (W main_v3)) := by
  unfold StableHlo.held
  rw [bigSep_eq_bigSepL_of_eq [Proc.devRef .tc main_arg0, Proc.devRef .tc main_arg1, Proc.devRef .tc main_arg2, Proc.devRef .tc main_arg3,
    Proc.devRef .tc main_v3] (by decide) (by decide)]
  rfl

/-- A device's arguments as they were, and its result. -/
def Kept (mem : (ℓ : Loc nD τ sig) → Buf (Elt F) ℓ) : Prop :=
  mem ((c : Thread nD τ).loc main_arg0) = m ((c : Thread nD τ).loc main_arg0) ∧ mem ((c : Thread nD τ).loc main_arg1) = m ((c : Thread nD τ).loc main_arg1)
    ∧ mem ((c : Thread nD τ).loc main_arg2) = m ((c : Thread nD τ).loc main_arg2) ∧ mem ((c : Thread nD τ).loc main_arg3) = m ((c : Thread nD τ).loc main_arg3)
    ∧ mem ((c : Thread nD τ).loc main_v3) = resultOf m c

set_option backward.isDefEq.respectTransparency.types false in
theorem run_main : θ_run defs (onTc (τ := τ) (Cert.KernelIdeal.main (F := F))) (s₀ m ρ)
    (fun r => (∀ c : Dev nD, Kept m c r.2.mem) ∧ r.2.sem = fun _ => 0) :=
  Pipeline.θ_run_regions_kit_sems (pcfgs (F := F)) adm (pdats m) () cellOf_inj EP defs₀ 𝒱₀ L lv m ρ Cert.KernelIdeal.main (segs m)
    (fun c Q => by rw [main_eq m c])
    (by simp only [segs, Pipeline.Seg.pipes_host, Pipeline.Seg.pipes_region, Pipeline.Seg.pipes_nil]; decide)
    (O₀ := O₀) (hL := L_of_ne) (G := Held₀) (u₀ := u₀)
    (hu₀ := by
      iintro Hu
      ihave H := launch_split $$ Hu
      icases H with ⟨HP, HX⟩
      imodintro
      isplitl [HP]; · iexact HP
      rw [held₀_all]; iexact HX)
    (T₀ := T₀ m) (Tₙ := Tₙ m)
    (hch := by
      refine ⟨fun c => .rfl, fun c => kernel_pre m c, fun c => (kernel_post m c).trans ?_⟩
      unfold owed
      iintro ⟨Hh, Hb, HO⟩
      isplitr [HO]
      · isplitl [Hh] <;> iassumption
      · iexact HO)
    (hinit := init m ρ)
    (QY := fun c s => Kept m c s.mem ∧ s.sem (barCell c) = 0)
    (hfin := fun c s' => by
      dsimp only [Tₙ, Settled]; rw [bufs_split, unstaged_eq]
      unfold bufAt
      iintro ⟨⟨⟨-, H0, H1, H2, H3, Hr⟩, Hb⟩, HSI⟩
      icombine HSI H0 gives %h0
      icombine HSI H1 gives %h1
      icombine HSI H2 gives %h2
      icombine HSI H3 gives %h3
      icombine HSI Hr gives %hr
      icombine HSI Hb gives %hb
      imodintro
      isplitr
      · ipureintro
        exact ⟨⟨(Buf.eq_of_forall_mem_univ h0).trans (V₂_arg0 m c), (Buf.eq_of_forall_mem_univ h1).trans (V₂_arg1 m c),
          (Buf.eq_of_forall_mem_univ h2).trans (V₂_arg2 m c), (Buf.eq_of_forall_mem_univ h3).trans (V₂_arg3 m c),
          (Buf.eq_of_forall_mem_univ hr).trans (V₂_out m c)⟩, by simpa using hb⟩
      iexact HSI)
    (hQ := fun s h hs => ⟨fun c => (h c).1,
      sem_eq_zero hs fun c sm hsm => by
        obtain rfl := only_barrier sm hsm
        exact (h c).2⟩)

end Cert.KernelIdeal.Ring

end
-- ==== Proof.Value.lean ====
/- The value of the two programs, every operation of the real numbers being exact: an entry of a device's result is the
   product of a row of the left factor with one of the device's columns, scaled and cut off below at nought, and the
   reference's entry there is the same number. -/
module

public import proofs.«01_k».proof.Proof.Run
public import proofs.«01_k».proof.Proof.Gen.ReferenceIdeal.Run
public import Idealize.ShloMosaic.Lib.Pointwise
public import Idealize.ShloMosaic.Lib.Layout
public import Idealize.ShloMosaic.Lib.LayoutAt

@[expose] public section

noncomputable section

namespace Cert.KernelIdeal.Ring

open Idealize.ShloMosaic
open Idealize.ShloMosaic.TcCoe
open Idealize.SL.Sem
open Cert.KernelIdeal Cert.KernelIdeal.Gen

/-- One tile, entry by entry. -/
theorem tile_at (c : Ideal .f32) (x : Vec Ideal S128x4096 .fp8e5m2) (w : Vec Ideal S4096x256 .fp8e5m2) (r : Fin 128) (l : Fin 256) :
    k0_pay4 c x w (ix3 (0 : Fin 1) r l) = max ((∑ k : Fin 4096, x (ix2 r k) * w (ix2 k l)) * c) 0 := by
  pointwise [k0_pay4]

theorem sent_at (x : Vec Ideal S128x4096 .f32) (r : Fin 128) (k : Fin 4096) : k0_pay1 x (ix2 r k) = x (ix2 r k) := by
  pointwise [k0_pay1]

theorem weight_at (w : Vec Ideal S4096x256 .f32) (k : Fin 4096) (l : Fin 256) : k0_pay2 w (ix2 k l) = w (ix2 k l) := by
  pointwise [k0_pay2]

variable (m : (ℓ : Loc nD τ sig) → Buf (Elt Ideal) ℓ) (c : Dev nD)

/-- A vector of one number can be laid out as a square of one. -/
theorem one_square : S1.ShapeCasts S1x1 := by decide

/-- The two scales as the program lays them out for the kernel; -/
theorem sx_cast : sxOf m c = shapeCast S1x1 (m ((c : Thread nD τ).loc main_arg2) : Vec Ideal S1 .f32) one_square := by
  unfold sxOf V₁ hostOps0
  rw [StableHlo.after_cons, StableHlo.after_cons, StableHlo.after_cons, StableHlo.after_cons, StableHlo.after_nil]
  refine (StableHlo.reshape_result_ne (r := main_v1) main_arg3 main_v2 _ _ _ _ _ (by decide)).trans ?_
  refine (StableHlo.reshape_result main_arg2 main_v1 _ _ _ _ _).trans ?_
  refine congrArg (fun f : Vec Ideal S1 .f32 => shapeCast S1x1 f one_square) ?_
  refine (StableHlo.nullary_result_ne main_c_0 _ _ _ (by decide)).trans ?_
  exact StableHlo.nullary_result_ne main_c _ _ _ (by decide)
theorem sw_cast : swOf m c = shapeCast S1x1 (m ((c : Thread nD τ).loc main_arg3) : Vec Ideal S1 .f32) one_square := by
  unfold swOf V₁ hostOps0
  rw [StableHlo.after_cons, StableHlo.after_cons, StableHlo.after_cons, StableHlo.after_cons, StableHlo.after_nil]
  refine (StableHlo.reshape_result main_arg3 main_v2 _ _ _ _ _).trans ?_
  refine congrArg (fun f : Vec Ideal S1 .f32 => shapeCast S1x1 f one_square) ?_
  refine (StableHlo.reshape_result_ne (r := main_arg3) main_arg2 main_v1 _ _ _ _ _ (by decide)).trans ?_
  refine (StableHlo.nullary_result_ne main_c_0 _ _ _ (by decide)).trans ?_
  exact StableHlo.nullary_result_ne main_c _ _ _ (by decide)

/-- a number laid out as a square of one is still that number. -/
theorem one_at (v : Vec Ideal S1 .f32) (h : S1.ShapeCasts S1x1) : shapeCast S1x1 v h (ix2 (0 : Fin 1) (0 : Fin 1)) = v (ix1 (0 : Fin 1)) := by
  pointwise

/-- The kernel's result, entry by entry: row `r` of those that device `d` brought. -/
theorem result_at (x : Dev nD → Vec Ideal S128x4096 .f32) (w : Vec Ideal S4096x256 .f32) (a b : Vec Ideal S1x1 .f32)
    (d : Dev nD) (r : Fin 128) (l : Fin 256) :
    result (fun d => k0_pay1 (x d)) w a b (ix2 (inRows d r) l)
      = max ((∑ k : Fin 4096, x d (ix2 r k) * w (ix2 k l))
          * (a (ix2 (0 : Fin 1) (0 : Fin 1)) * b (ix2 (0 : Fin 1) (0 : Fin 1)))) 0 := by
  rw [ix2_eq_valueIdx]
  refine (outOf_rows (fun d => k0_pay1 (x d)) (scaleOf a b) (k0_pay2 w) d r l).symm.trans ?_
  rw [← ix3_eq_valueIdx, tile_at]
  simp only [sent_at, weight_at]
  unfold scaleOf k0_pay3
  rw [← ix2_eq_valueIdx]
  rfl

/-- The whole product, scaled and cut off: what the reference computes. -/
def whole (x : FVec Ideal Cert.ReferenceIdeal.S4096x4096 .f32) (w : FVec Ideal Cert.ReferenceIdeal.S4096x8192 .f32)
    (a b : FVec Ideal Cert.ReferenceIdeal.S1 .f32) : FVec Ideal Cert.ReferenceIdeal.S4096x8192 .f32 :=
  maximumf
    (mulf (Host.dotGeneral Cert.ReferenceIdeal.dot_S4096x4096_S4096x8192_S4096x8192_1_0_0_1_n_n none x w)
      (broadcastInDim Cert.ReferenceIdeal.S4096x8192 ![0, 1] Cert.ReferenceIdeal.Facts₀.bcast_S1x1_S4096x8192_0_1
        (broadcastInDim Cert.ReferenceIdeal.S1x1 ![1] Cert.ReferenceIdeal.Facts₀.bcast_S1_S1x1_1 (mulf a b))))
    (broadcastInDim Cert.ReferenceIdeal.S4096x8192 ![] Cert.ReferenceIdeal.Facts₀.bcast_S_S4096x8192
      (constant Cert.ReferenceIdeal.S_ .f32 0x00000000#32))

theorem whole_at (x : FVec Ideal Cert.ReferenceIdeal.S4096x4096 .f32) (w : FVec Ideal Cert.ReferenceIdeal.S4096x8192 .f32)
    (a b : FVec Ideal Cert.ReferenceIdeal.S1 .f32) (r : Fin 4096) (l : Fin 8192) :
    whole x w a b (ix2 r l)
      = max ((∑ k : Fin 4096, x (ix2 r k) * w (ix2 k l)) * (a (ix1 (0 : Fin 1)) * b (ix1 (0 : Fin 1)))) 0 := by
  pointwise [whole]

/-! ## A device's columns of the whole -/

/-- Column `l` of those that are device `c`'s. -/
def inCols (c : Dev nD) (l : Fin 256) : Fin 8192 := ⟨256 * c.val + l.val, by have := c.isLt; change c.val < 32 at this; omega⟩

theorem rows_at (x : FVec Ideal Cert.ReferenceIdeal.S4096x4096 .f32) (d : Dev nD) (r : Fin 128) (k : Fin 4096) :
    Layout.block ⟨2, ![128, 4096]⟩ ⟨2, ![4096, 4096]⟩ 0 32 d x (by decide) (ix2 r k) = x (ix2 (inRows d r) k) := by
  refine congrArg x (funext fun b => Fin.ext ?_)
  match b with
  | ⟨0, _⟩ => show d.val * 128 + r.val = 128 * d.val + r.val; omega
  | ⟨1, _⟩ => rfl
theorem cols_at (w : FVec Ideal Cert.ReferenceIdeal.S4096x8192 .f32) (c : Dev nD) (k : Fin 4096) (l : Fin 256) :
    Layout.block ⟨2, ![4096, 256]⟩ ⟨2, ![4096, 8192]⟩ 1 32 c w (by decide) (ix2 k l) = w (ix2 k (inCols c l)) := by
  refine congrArg w (funext fun b => Fin.ext ?_)
  match b with
  | ⟨0, _⟩ => rfl
  | ⟨1, _⟩ => show c.val * 256 + l.val = 256 * c.val + l.val; omega

/-- Every entry of a device's result is one of a row that some device brought. -/
theorem entry_of (i : S4096x256.Idx) : ∃ (d : Dev nD) (r : Fin 128) (l : Fin 256), i = ix2 (inRows d r) l := by
  have h : (i 0).val < 4096 := (i 0).isLt
  refine ⟨ownerOf (i 0), ⟨(i 0).val % 128, Nat.mod_lt _ (by decide)⟩, i 1, funext fun b => Fin.ext ?_⟩
  match b with
  | ⟨0, _⟩ => show (i 0).val = 128 * ((i 0).val / 128) + (i 0).val % 128; omega
  | ⟨1, _⟩ => rfl

/-- A device ends with its columns of the whole product, scaled and cut off. -/
theorem result_block (x : FVec Ideal Cert.ReferenceIdeal.S4096x4096 .f32) (w : FVec Ideal Cert.ReferenceIdeal.S4096x8192 .f32)
    (a b : FVec Ideal Cert.ReferenceIdeal.S1 .f32)
    (hx : ∀ d : Dev nD, m ((d : Thread nD τ).loc main_arg0) = Layout.block ⟨2, ![128, 4096]⟩ ⟨2, ![4096, 4096]⟩ 0 32 d x (by decide))
    (hw : m ((c : Thread nD τ).loc main_arg1) = Layout.block ⟨2, ![4096, 256]⟩ ⟨2, ![4096, 8192]⟩ 1 32 c w (by decide))
    (ha : m ((c : Thread nD τ).loc main_arg2) = a) (hb : m ((c : Thread nD τ).loc main_arg3) = b) :
    resultOf m c = Layout.block ⟨2, ![4096, 256]⟩ ⟨2, ![4096, 8192]⟩ 1 32 c (whole x w a b) (by decide) := by
  funext i
  obtain ⟨d, r, l, rfl⟩ := entry_of i
  have hX : ∀ k, xOf m d (ix2 r k) = x (ix2 (inRows d r) k) := fun k =>
    (congrFun ((V_main_arg0 m d).trans (hx d)) (ix2 r k)).trans (rows_at x d r k)
  have hW : ∀ k, wOf m c (ix2 k l) = w (ix2 k (inCols c l)) := fun k =>
    (congrFun ((V_main_arg1 m c).trans hw) (ix2 k l)).trans (cols_at w c k l)
  have hA : sxOf m c (ix2 (0 : Fin 1) (0 : Fin 1)) = a (ix1 (0 : Fin 1)) := by rw [sx_cast, one_at, ha]
  have hB : swOf m c (ix2 (0 : Fin 1) (0 : Fin 1)) = b (ix1 (0 : Fin 1)) := by rw [sw_cast, one_at, hb]
  refine Eq.trans ?_ ((cols_at (whole x w a b) c (inRows d r) l).trans (whole_at x w a b (inRows d r) (inCols c l))).symm
  refine (result_at (xOf m) (wOf m c) (sxOf m c) (swOf m c) d r l).trans ?_
  simp only [hX, hW, hA, hB]

end Cert.KernelIdeal.Ring

end
-- ==== Proof.lean ====
module

public import proofs.«01_k».proof.Defs
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem

section
open Cert.KernelIdeal

/-- The program ends, its arguments unchanged and every semaphore at nought: said over any numbers; -/
def Frame (F : FTy → Type) [FloatOps F] : Prop :=
  ∀ (m : (ℓ : Loc nD τ sig) → Buf (Elt F) ℓ) (g : Dev nD → PrngReg), True →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0)

theorem frame (F : FTy → Type) [FloatOps F] : Frame F := fun m ρ _ =>
  (θ_run defs _ _).mono
    (fun _ h => ⟨fun c => ⟨(h.1 c).1, (h.1 c).2.1, (h.1 c).2.2.1, (h.1 c).2.2.2.1⟩, h.2⟩)
    (Ring.run_main m ρ)

/-- the program as printed is the same text, read over bit patterns. -/
theorem frame_bits_eq : Frame Bits = Cert.quiescent_Kernel := by chain_rfl

end

theorem frame_kernel : Cert.quiescent_Kernel := frame_bits_eq.mp (frame Bits)
theorem frame_ideal : Cert.quiescent_KernelIdeal := frame Ideal

/-- The reference, which has no semaphore; -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- and the values: the whole product, scaled and cut off below at nought, of which each device has its columns. -/
theorem values : Cert.algebraic_KernelIdeal_ReferenceIdeal := fun m ρ m' ρ' _ hagree =>
  ⟨Cert.KernelIdeal.Ring.whole _ _ _ _,
    (θ_run Cert.KernelIdeal.defs _ _).mono
      (fun _ h c => ⟨(h.1 c).2.2.2.2.trans
          (Cert.KernelIdeal.Ring.result_block m c _ _ _ _ (fun d => (hagree d).1) (hagree c).2.1 (hagree c).2.2.1 (hagree c).2.2.2),
        (h.1 c).1, (h.1 c).2.1, (h.1 c).2.2.1, (h.1 c).2.2.2.1⟩)
      (Cert.KernelIdeal.Ring.run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, values⟩

end Cert.Proof

end
